-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8)
      ∧ r.2.mem ((c.tc : Thread Cert.Output.nD Cert.Output.τ).loc Cert.Output.main_arg9) = m ((c.tc : Thread Cert.Output.nD Cert.Output.τ).loc Cert.Output.main_arg9)
      ∧ r.2.mem ((c.tc : Thread Cert.Output.nD Cert.Output.τ).loc Cert.Output.main_arg10) = m ((c.tc : Thread Cert.Output.nD Cert.Output.τ).loc Cert.Output.main_arg10)
      ∧ r.2.mem ((c.tc : Thread Cert.Output.nD Cert.Output.τ).loc Cert.Output.main_arg11) = m ((c.tc : Thread Cert.Output.nD Cert.Output.τ).loc Cert.Output.main_arg11)
      ∧ r.2.mem ((c.tc : Thread Cert.Output.nD Cert.Output.τ).loc Cert.Output.main_arg12) = m ((c.tc : Thread Cert.Output.nD Cert.Output.τ).loc Cert.Output.main_arg12)
      ∧ r.2.mem ((c.tc : Thread Cert.Output.nD Cert.Output.τ).loc Cert.Output.main_arg13) = m ((c.tc : Thread Cert.Output.nD Cert.Output.τ).loc Cert.Output.main_arg13)
      ∧ r.2.mem ((c.tc : Thread Cert.Output.nD Cert.Output.τ).loc Cert.Output.main_arg14) = m ((c.tc : Thread Cert.Output.nD Cert.Output.τ).loc Cert.Output.main_arg14))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
      ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
      ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
      ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11)
      ∧ r.2.mem ((c.tc : Thread Cert.OutputIdeal.nD Cert.OutputIdeal.τ).loc Cert.OutputIdeal.main_arg12) = m ((c.tc : Thread Cert.OutputIdeal.nD Cert.OutputIdeal.τ).loc Cert.OutputIdeal.main_arg12)
      ∧ r.2.mem ((c.tc : Thread Cert.OutputIdeal.nD Cert.OutputIdeal.τ).loc Cert.OutputIdeal.main_arg13) = m ((c.tc : Thread Cert.OutputIdeal.nD Cert.OutputIdeal.τ).loc Cert.OutputIdeal.main_arg13)
      ∧ r.2.mem ((c.tc : Thread Cert.OutputIdeal.nD Cert.OutputIdeal.τ).loc Cert.OutputIdeal.main_arg14) = m ((c.tc : Thread Cert.OutputIdeal.nD Cert.OutputIdeal.τ).loc Cert.OutputIdeal.main_arg14))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8)
      ∧ r.2.mem ((c.tc : Thread Cert.OutputReferenceIdeal.nD Cert.OutputReferenceIdeal.τ).loc Cert.OutputReferenceIdeal.main_arg9) = m ((c.tc : Thread Cert.OutputReferenceIdeal.nD Cert.OutputReferenceIdeal.τ).loc Cert.OutputReferenceIdeal.main_arg9)
      ∧ r.2.mem ((c.tc : Thread Cert.OutputReferenceIdeal.nD Cert.OutputReferenceIdeal.τ).loc Cert.OutputReferenceIdeal.main_arg10) = m ((c.tc : Thread Cert.OutputReferenceIdeal.nD Cert.OutputReferenceIdeal.τ).loc Cert.OutputReferenceIdeal.main_arg10)
      ∧ r.2.mem ((c.tc : Thread Cert.OutputReferenceIdeal.nD Cert.OutputReferenceIdeal.τ).loc Cert.OutputReferenceIdeal.main_arg11) = m ((c.tc : Thread Cert.OutputReferenceIdeal.nD Cert.OutputReferenceIdeal.τ).loc Cert.OutputReferenceIdeal.main_arg11)
      ∧ r.2.mem ((c.tc : Thread Cert.OutputReferenceIdeal.nD Cert.OutputReferenceIdeal.τ).loc Cert.OutputReferenceIdeal.main_arg12) = m ((c.tc : Thread Cert.OutputReferenceIdeal.nD Cert.OutputReferenceIdeal.τ).loc Cert.OutputReferenceIdeal.main_arg12)
      ∧ r.2.mem ((c.tc : Thread Cert.OutputReferenceIdeal.nD Cert.OutputReferenceIdeal.τ).loc Cert.OutputReferenceIdeal.main_arg13) = m ((c.tc : Thread Cert.OutputReferenceIdeal.nD Cert.OutputReferenceIdeal.τ).loc Cert.OutputReferenceIdeal.main_arg13)
      ∧ r.2.mem ((c.tc : Thread Cert.OutputReferenceIdeal.nD Cert.OutputReferenceIdeal.τ).loc Cert.OutputReferenceIdeal.main_arg14) = m ((c.tc : Thread Cert.OutputReferenceIdeal.nD Cert.OutputReferenceIdeal.τ).loc Cert.OutputReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v6_0)) (v1 : (c : Dev Cert.CombineIdeal.nD) → Buf (Elt Ideal) ((c.tc : Thread Cert.CombineIdeal.nD Cert.CombineIdeal.τ).loc Cert.CombineIdeal.main_v6_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v6_0) = v0 c
          ∧ r.2.mem ((c.tc : Thread Cert.CombineIdeal.nD Cert.CombineIdeal.τ).loc Cert.CombineIdeal.main_v6_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v43) = v0 c
          ∧ r.2.mem ((c.tc : Thread Cert.CombineReferenceIdeal.nD Cert.CombineReferenceIdeal.τ).loc Cert.CombineReferenceIdeal.main_v44) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v105_0)) (v1 : (c : Dev Cert.ProjectionIdeal.nD) → Buf (Elt Ideal) ((c.tc : Thread Cert.ProjectionIdeal.nD Cert.ProjectionIdeal.τ).loc Cert.ProjectionIdeal.main_v105_1)) (v2 : (c : Dev Cert.ProjectionIdeal.nD) → Buf (Elt Ideal) ((c.tc : Thread Cert.ProjectionIdeal.nD Cert.ProjectionIdeal.τ).loc Cert.ProjectionIdeal.main_v105_2)) (v3 : (c : Dev Cert.ProjectionIdeal.nD) → Buf (Elt Ideal) ((c.tc : Thread Cert.ProjectionIdeal.nD Cert.ProjectionIdeal.τ).loc Cert.ProjectionIdeal.main_v105_3)) (v4 : (c : Dev Cert.ProjectionIdeal.nD) → Buf (Elt Ideal) ((c.tc : Thread Cert.ProjectionIdeal.nD Cert.ProjectionIdeal.τ).loc Cert.ProjectionIdeal.main_v105_4)) (v5 : (c : Dev Cert.ProjectionIdeal.nD) → Buf (Elt Ideal) ((c.tc : Thread Cert.ProjectionIdeal.nD Cert.ProjectionIdeal.τ).loc Cert.ProjectionIdeal.main_v105_5)) (v6 : (c : Dev Cert.ProjectionIdeal.nD) → Buf (Elt Ideal) ((c.tc : Thread Cert.ProjectionIdeal.nD Cert.ProjectionIdeal.τ).loc Cert.ProjectionIdeal.main_v105_6)) (v7 : (c : Dev Cert.ProjectionIdeal.nD) → Buf (Elt Ideal) ((c.tc : Thread Cert.ProjectionIdeal.nD Cert.ProjectionIdeal.τ).loc Cert.ProjectionIdeal.main_v105_7)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v105_0) = v0 c
          ∧ r.2.mem ((c.tc : Thread Cert.ProjectionIdeal.nD Cert.ProjectionIdeal.τ).loc Cert.ProjectionIdeal.main_v105_1) = v1 c
          ∧ r.2.mem ((c.tc : Thread Cert.ProjectionIdeal.nD Cert.ProjectionIdeal.τ).loc Cert.ProjectionIdeal.main_v105_2) = v2 c
          ∧ r.2.mem ((c.tc : Thread Cert.ProjectionIdeal.nD Cert.ProjectionIdeal.τ).loc Cert.ProjectionIdeal.main_v105_3) = v3 c
          ∧ r.2.mem ((c.tc : Thread Cert.ProjectionIdeal.nD Cert.ProjectionIdeal.τ).loc Cert.ProjectionIdeal.main_v105_4) = v4 c
          ∧ r.2.mem ((c.tc : Thread Cert.ProjectionIdeal.nD Cert.ProjectionIdeal.τ).loc Cert.ProjectionIdeal.main_v105_5) = v5 c
          ∧ r.2.mem ((c.tc : Thread Cert.ProjectionIdeal.nD Cert.ProjectionIdeal.τ).loc Cert.ProjectionIdeal.main_v105_6) = v6 c
          ∧ r.2.mem ((c.tc : Thread Cert.ProjectionIdeal.nD Cert.ProjectionIdeal.τ).loc Cert.ProjectionIdeal.main_v105_7) = v7 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v21) = v0 c
          ∧ r.2.mem ((c.tc : Thread Cert.ProjectionReferenceIdeal.nD Cert.ProjectionReferenceIdeal.τ).loc Cert.ProjectionReferenceIdeal.main_v26) = v1 c
          ∧ r.2.mem ((c.tc : Thread Cert.ProjectionReferenceIdeal.nD Cert.ProjectionReferenceIdeal.τ).loc Cert.ProjectionReferenceIdeal.main_v27) = v2 c
          ∧ r.2.mem ((c.tc : Thread Cert.ProjectionReferenceIdeal.nD Cert.ProjectionReferenceIdeal.τ).loc Cert.ProjectionReferenceIdeal.main_v32) = v3 c
          ∧ r.2.mem ((c.tc : Thread Cert.ProjectionReferenceIdeal.nD Cert.ProjectionReferenceIdeal.τ).loc Cert.ProjectionReferenceIdeal.main_v51) = v4 c
          ∧ r.2.mem ((c.tc : Thread Cert.ProjectionReferenceIdeal.nD Cert.ProjectionReferenceIdeal.τ).loc Cert.ProjectionReferenceIdeal.main_v56) = v5 c
          ∧ r.2.mem ((c.tc : Thread Cert.ProjectionReferenceIdeal.nD Cert.ProjectionReferenceIdeal.τ).loc Cert.ProjectionReferenceIdeal.main_v61) = v6 c
          ∧ r.2.mem ((c.tc : Thread Cert.ProjectionReferenceIdeal.nD Cert.ProjectionReferenceIdeal.τ).loc Cert.ProjectionReferenceIdeal.main_v74) = v7 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_Output_OutputIdeal : Prop :=
  IdealRules.named_const.Statement Cert.OutputIdeal.κ "part" .f32 0x3C2AAAAB#32 ((1 / 96 : ℝ) : EReal)

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)
      ∧ m' ((c.tc : Thread Cert.OutputReferenceIdeal.nD Cert.OutputReferenceIdeal.τ).loc Cert.OutputReferenceIdeal.main_arg9) = m ((c.tc : Thread Cert.OutputIdeal.nD Cert.OutputIdeal.τ).loc Cert.OutputIdeal.main_arg9)
      ∧ m' ((c.tc : Thread Cert.OutputReferenceIdeal.nD Cert.OutputReferenceIdeal.τ).loc Cert.OutputReferenceIdeal.main_arg10) = m ((c.tc : Thread Cert.OutputIdeal.nD Cert.OutputIdeal.τ).loc Cert.OutputIdeal.main_arg10)
      ∧ m' ((c.tc : Thread Cert.OutputReferenceIdeal.nD Cert.OutputReferenceIdeal.τ).loc Cert.OutputReferenceIdeal.main_arg11) = m ((c.tc : Thread Cert.OutputIdeal.nD Cert.OutputIdeal.τ).loc Cert.OutputIdeal.main_arg11)
      ∧ m' ((c.tc : Thread Cert.OutputReferenceIdeal.nD Cert.OutputReferenceIdeal.τ).loc Cert.OutputReferenceIdeal.main_arg12) = m ((c.tc : Thread Cert.OutputIdeal.nD Cert.OutputIdeal.τ).loc Cert.OutputIdeal.main_arg12)
      ∧ m' ((c.tc : Thread Cert.OutputReferenceIdeal.nD Cert.OutputReferenceIdeal.τ).loc Cert.OutputReferenceIdeal.main_arg13) = m ((c.tc : Thread Cert.OutputIdeal.nD Cert.OutputIdeal.τ).loc Cert.OutputIdeal.main_arg13)
      ∧ m' ((c.tc : Thread Cert.OutputReferenceIdeal.nD Cert.OutputReferenceIdeal.τ).loc Cert.OutputReferenceIdeal.main_arg14) = m ((c.tc : Thread Cert.OutputIdeal.nD Cert.OutputIdeal.τ).loc Cert.OutputIdeal.main_arg14)) →
    ∃ (v0 : (c : Dev Cert.OutputIdeal.nD) → Buf (Elt Ideal) ((c.tc : Thread Cert.OutputIdeal.nD Cert.OutputIdeal.τ).loc Cert.OutputIdeal.main_v46_0)) (v1 : (c : Dev Cert.OutputIdeal.nD) → Buf (Elt Ideal) ((c.tc : Thread Cert.OutputIdeal.nD Cert.OutputIdeal.τ).loc Cert.OutputIdeal.main_v46_1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v46_0) = v0 c
          ∧ r.2.mem ((c.tc : Thread Cert.OutputIdeal.nD Cert.OutputIdeal.τ).loc Cert.OutputIdeal.main_v46_1) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
          ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
          ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10)
          ∧ r.2.mem ((c.tc : Thread Cert.OutputIdeal.nD Cert.OutputIdeal.τ).loc Cert.OutputIdeal.main_arg11) = m ((c.tc : Thread Cert.OutputIdeal.nD Cert.OutputIdeal.τ).loc Cert.OutputIdeal.main_arg11)
          ∧ r.2.mem ((c.tc : Thread Cert.OutputIdeal.nD Cert.OutputIdeal.τ).loc Cert.OutputIdeal.main_arg12) = m ((c.tc : Thread Cert.OutputIdeal.nD Cert.OutputIdeal.τ).loc Cert.OutputIdeal.main_arg12)
          ∧ r.2.mem ((c.tc : Thread Cert.OutputIdeal.nD Cert.OutputIdeal.τ).loc Cert.OutputIdeal.main_arg13) = m ((c.tc : Thread Cert.OutputIdeal.nD Cert.OutputIdeal.τ).loc Cert.OutputIdeal.main_arg13)
          ∧ r.2.mem ((c.tc : Thread Cert.OutputIdeal.nD Cert.OutputIdeal.τ).loc Cert.OutputIdeal.main_arg14) = m ((c.tc : Thread Cert.OutputIdeal.nD Cert.OutputIdeal.τ).loc Cert.OutputIdeal.main_arg14))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v112) = v0 c
          ∧ r.2.mem ((c.tc : Thread Cert.OutputReferenceIdeal.nD Cert.OutputReferenceIdeal.τ).loc Cert.OutputReferenceIdeal.main_v113) = v1 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8)
          ∧ r.2.mem ((c.tc : Thread Cert.OutputReferenceIdeal.nD Cert.OutputReferenceIdeal.τ).loc Cert.OutputReferenceIdeal.main_arg9) = m' ((c.tc : Thread Cert.OutputReferenceIdeal.nD Cert.OutputReferenceIdeal.τ).loc Cert.OutputReferenceIdeal.main_arg9)
          ∧ r.2.mem ((c.tc : Thread Cert.OutputReferenceIdeal.nD Cert.OutputReferenceIdeal.τ).loc Cert.OutputReferenceIdeal.main_arg10) = m' ((c.tc : Thread Cert.OutputReferenceIdeal.nD Cert.OutputReferenceIdeal.τ).loc Cert.OutputReferenceIdeal.main_arg10)
          ∧ r.2.mem ((c.tc : Thread Cert.OutputReferenceIdeal.nD Cert.OutputReferenceIdeal.τ).loc Cert.OutputReferenceIdeal.main_arg11) = m' ((c.tc : Thread Cert.OutputReferenceIdeal.nD Cert.OutputReferenceIdeal.τ).loc Cert.OutputReferenceIdeal.main_arg11)
          ∧ r.2.mem ((c.tc : Thread Cert.OutputReferenceIdeal.nD Cert.OutputReferenceIdeal.τ).loc Cert.OutputReferenceIdeal.main_arg12) = m' ((c.tc : Thread Cert.OutputReferenceIdeal.nD Cert.OutputReferenceIdeal.τ).loc Cert.OutputReferenceIdeal.main_arg12)
          ∧ r.2.mem ((c.tc : Thread Cert.OutputReferenceIdeal.nD Cert.OutputReferenceIdeal.τ).loc Cert.OutputReferenceIdeal.main_arg13) = m' ((c.tc : Thread Cert.OutputReferenceIdeal.nD Cert.OutputReferenceIdeal.τ).loc Cert.OutputReferenceIdeal.main_arg13)
          ∧ r.2.mem ((c.tc : Thread Cert.OutputReferenceIdeal.nD Cert.OutputReferenceIdeal.τ).loc Cert.OutputReferenceIdeal.main_arg14) = m' ((c.tc : Thread Cert.OutputReferenceIdeal.nD Cert.OutputReferenceIdeal.τ).loc Cert.OutputReferenceIdeal.main_arg14))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hProjection : Cert.Projection.Facts) (hProjectionIdeal : Cert.ProjectionIdeal.Facts) (hProjectionReferenceIdeal : Cert.ProjectionReferenceIdeal.Facts) (hOutput : Cert.Output.Facts) (hOutputIdeal : Cert.OutputIdeal.Facts) (hOutputReferenceIdeal : Cert.OutputReferenceIdeal.Facts) (hPre_experts_in_range : Cert.Pre_experts_in_range.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Combine (hCombine := hCombine)
    ∧ quiescent_CombineIdeal (hCombineIdeal := hCombineIdeal)
    ∧ quiescent_CombineReferenceIdeal (hCombineReferenceIdeal := hCombineReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Combine_CombineIdeal
    ∧ algebraic_CombineIdeal_CombineReferenceIdeal (hCombineIdeal := hCombineIdeal) (hCombineReferenceIdeal := hCombineReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Output_OutputIdeal
    ∧ algebraic_OutputIdeal_OutputReferenceIdeal (hOutputIdeal := hOutputIdeal) (hOutputReferenceIdeal := hOutputReferenceIdeal)
-- ==== Pre_experts_in_range.lean ====
abbrev S288 : Shape := ⟨1, ![288]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S288 32) (main_arg1 : IVec S1 32) (main_arg2 : FVec F S147456x1024 .bf16) (main_arg3 : FVec F S4x32x1024x2048 .f32) (main_arg4 : FVec F S4x32x2048 .f32) (main_arg5 : FVec F S4x32x1024x1024 .f32) (main_arg6 : FVec F S4x32x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S288 : Shape := ⟨1, ![288]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S128x1024x2048 : Shape := ⟨3, ![128, 1024, 2048]⟩
abbrev S128x1024x1024 : Shape := ⟨3, ![128, 1024, 1024]⟩
abbrev S128x1x2048 : Shape := ⟨3, ![128, 1, 2048]⟩
abbrev S128x1x1024 : Shape := ⟨3, ![128, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 10
  | .vmem => 14
  | .smem => 2
  | _ => 0

abbrev bufTy : (tb : Table) → Fin (tcTables nBuf tb) → BufTy
  | .hbm, ⟨0, _⟩ => ⟨S147456x1024, .bf16⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S128x1024x2048, .f32⟩
  | .hbm, ⟨6, _⟩ => ⟨S128x1024x1024, .f32⟩
  | .hbm, ⟨7, _⟩ => ⟨S128x1x2048, .f32⟩
  | .hbm, ⟨8, _⟩ => ⟨S128x1x1024, .f32⟩
  | .hbm, ⟨9, _⟩ => ⟨S147456x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S288 : Shape := ⟨1, ![288]⟩
abbrev S1 : Shape := ⟨1, ![1]⟩
abbrev S147456x1024 : Shape := ⟨2, ![147456, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S288x512x1024 : Shape := ⟨3, ![288, 512, 1024]⟩
abbrev S_ : Shape := ⟨0, ![]⟩
abbrev S288x1 : Shape := ⟨2, ![288, 1]⟩
abbrev S288x4 : Shape := ⟨2, ![288, 4]⟩
abbrev S288x1x1x1024x2048 : Shape := ⟨5, ![288, 1, 1, 1024, 2048]⟩
abbrev S288x1024x2048 : Shape := ⟨3, ![288, 1024, 2048]⟩
abbrev S288x512x2048 : Shape := ⟨3, ![288, 512, 2048]⟩
abbrev S288x3 : Shape := ⟨2, ![288, 3]⟩
abbrev S288x1x1x2048 : Shape := ⟨4, ![288, 1, 1, 2048]⟩
abbrev S288x2048 : Shape := ⟨2, ![288, 2048]⟩
abbrev S288x1x2048 : Shape := ⟨3, ![288, 1, 2048]⟩
abbrev S288x1x1x1024x1024 : Shape := ⟨5, ![288, 1, 1, 1024, 1024]⟩
abbrev S288x1024x1024 : Shape := ⟨3, ![288, 1024, 1024]⟩
abbrev S288x1x1x1024 : Shape := ⟨4, ![288, 1, 1, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 192
  | .vmem => 0
  | .smem => 0
  | _ => 0

abbrev hbmTy0_0 (i : Nat) : BufTy := match i % 128 with
  | 0 => ⟨S288, .i32⟩
  | 1 => ⟨S1, .i32⟩
  | 2 => ⟨S147456x1024, .bf16⟩
  | 3 => ⟨S4x32x1024x2048, .f32⟩
  | 4 => ⟨S4x32x2048, .f32⟩
  | 5 => ⟨S4x32x1024x1024, .f32⟩
  | 6 => ⟨S4x32x1024, .f32⟩
  | 7 => ⟨S147456x1024, .f32⟩
  | 8 => ⟨S288x512x1024, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S288, .i32⟩
  | 19 => ⟨S288, .i1⟩
  | 20 => ⟨S_, .i32⟩
  | 21 => ⟨S288, .i32⟩
  | 22 => ⟨S288, .i32⟩
  | 23 => ⟨S288, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S288x1, .i32⟩
  | 41 => ⟨S288x1, .i32⟩
  | 42 => ⟨S288x1, .i32⟩
  | 43 => ⟨S288x1, .i32⟩
  | 44 => ⟨S288x4, .i32⟩
  | 45 => ⟨S288x1x1x1024x2048, .f32⟩
  | 46 => ⟨S288x1024x2048, .f32⟩
  | 47 => ⟨S288x512x2048, .f32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S288, .i32⟩
  | 58 => ⟨S288, .i1⟩
  | 59 => ⟨S_, .i32⟩
  | 60 => ⟨S288, .i32⟩
  | 61 => ⟨S288, .i32⟩
  | 62 => ⟨S288, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S288x1, .i32⟩
  | 72 => ⟨S288x1, .i32⟩
  | 73 => ⟨S288x1, .i32⟩
  | 74 => ⟨S288x3, .i32⟩
  | 75 => ⟨S288x1x1x2048, .f32⟩
  | 76 => ⟨S288x2048, .f32⟩
  | 77 => ⟨S288x1x2048, .f32⟩
  | 78 => ⟨S288x512x2048, .f32⟩
  | 79 => ⟨S288x512x2048, .f32⟩
  | 80 => ⟨S288x512x1024, .f32⟩
  | 81 => ⟨S288x512x1024, .f32⟩
  | 82 => ⟨S_, .f32⟩
  | 83 => ⟨S288x512x1024, .f32⟩
  | 84 => ⟨S288x512x1024, .f32⟩
  | 85 => ⟨S_, .f32⟩
  | 86 => ⟨S_, .f32⟩
  | 87 => ⟨S_, .f32⟩
  | 88 => ⟨S288x512x1024, .f32⟩
  | 89 => ⟨S288x512x1024, .f32⟩
  | 90 => ⟨S_, .f32⟩
  | 91 => ⟨S288x512x1024, .f32⟩
  | 92 => ⟨S288x512x1024, .f32⟩
  | 93 => ⟨S_, .f32⟩
  | 94 => ⟨S288x512x1024, .f32⟩
  | 95 => ⟨S288x512x1024, .f32⟩
  | 96 => ⟨S288x512x1024, .f32⟩
  | 97 => ⟨S288x512x1024, .f32⟩
  | 98 => ⟨S_, .f32⟩
  | 99 => ⟨S288x512x1024, .f32⟩
  | 100 => ⟨S288x512x1024, .f32⟩
  | 101 => ⟨S_, .f32⟩
  | 102 => ⟨S288x512x1024, .f32⟩
  | 103 => ⟨S288x512x1024, .f32⟩
  | 104 => ⟨S288x512x1024, .f32⟩
  | 105 => ⟨S_, .f32⟩
  | 106 => ⟨S288x512x1024, .f32⟩
  | 107 => ⟨S288x512x1024, .f32⟩
  | 108 => ⟨S288x512x1024, .f32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S288, .i32⟩
  | 119 => ⟨S288, .i1⟩
  | 120 => ⟨S_, .i32⟩
  | 121 => ⟨S288, .i32⟩
  | 122 => ⟨S288, .i32⟩
  | 123 => ⟨S288, .i32⟩
  | 124 => ⟨S_, .i32⟩
  | 125 => ⟨S_, .i32⟩
  | 126 => ⟨S_, .i1⟩
  | 127 => ⟨S_, .i32⟩
  | _ => ⟨S288, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S288x1, .i32⟩
  | 13 => ⟨S288x1, .i32⟩
  | 14 => ⟨S288x1, .i32⟩
  | 15 => ⟨S288x1, .i32⟩
  | 16 => ⟨S288x4, .i32⟩
  | 17 => ⟨S288x1x1x1024x1024, .f32⟩
  | 18 => ⟨S288x1024x1024, .f32⟩
  | 19 => ⟨S288x512x1024, .f32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S288, .i32⟩
  | 30 => ⟨S288, .i1⟩
  | 31 => ⟨S_, .i32⟩
  | 32 => ⟨S288, .i32⟩
  | 33 => ⟨S288, .i32⟩
  | 34 => ⟨S288, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S288x1, .i32⟩
  | 44 => ⟨S288x1, .i32⟩
  | 45 => ⟨S288x1, .i32⟩
  | 46 => ⟨S288x3, .i32⟩
  | 47 => ⟨S288x1x1x1024, .f32⟩
  | 48 => ⟨S288x1024, .f32⟩
  | 49 => ⟨S288x1x1024, .f32⟩
  | 50 => ⟨S288x512x1024, .f32⟩
  | 51 => ⟨S288x512x1024, .f32⟩
  | 52 => ⟨S288, .i32⟩
  | 53 => ⟨S_, .i32⟩
  | 54 => ⟨S288, .i32⟩
  | 55 => ⟨S288, .i1⟩
  | 56 => ⟨S288x1x1, .i1⟩
  | 57 => ⟨S_, .f32⟩
  | 58 => ⟨S_, .f32⟩
  | 59 => ⟨S288x512x1024, .i1⟩
  | 60 => ⟨S288x512x1024, .f32⟩
  | 61 => ⟨S288x512x1024, .f32⟩
  | 62 => ⟨S147456x1024, .f32⟩
  | 63 => ⟨S147456x1024, .bf16⟩
  | _ => ⟨S288, .i32⟩

abbrev hbmTy (i : Nat) : BufTy := match i / 128 with
  | 0 => hbmTy0_0 i
  | 1 => hbmTy0_1 i
  | _ => ⟨S288, .i32⟩

abbrev bufTy : (tb : Table) → Fin (tcTables nBuf tb) → BufTy
  | .hbm, ⟨i, _⟩ => hbmTy i
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_c_1 : Ref sig .tc := ⟨.hbm, 12, rfl⟩
abbrev main_c_2 : Ref sig .tc := ⟨.hbm, 13, rfl⟩
abbrev main_v3 : Ref sig .tc := ⟨.hbm, 14, rfl⟩
abbrev main_c_3 : Ref sig .tc := ⟨.hbm, 15, rfl⟩
abbrev main_v4 : Ref sig .tc := ⟨.hbm, 16, rfl⟩
abbrev main_c_4 : Ref sig .tc := ⟨.hbm, 17, rfl⟩
abbrev main_v5 : Ref sig .tc := ⟨.hbm, 18, rfl⟩
abbrev main_v6 : Ref sig .tc := ⟨.hbm, 19, rfl⟩
abbrev main_c_5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_6 : Ref sig .tc := ⟨.hbm, 24, rfl⟩
abbrev main_c_7 : Ref sig .tc := ⟨.hbm, 25, rfl⟩
abbrev main_v10 : Ref sig .tc := ⟨.hbm, 26, rfl⟩
abbrev main_c_8 : Ref sig .tc := ⟨.hbm, 27, rfl⟩
abbrev main_c_9 : Ref sig .tc := ⟨.hbm, 28, rfl⟩
abbrev main_v11 : Ref sig .tc := ⟨.hbm, 29, rfl⟩
abbrev main_c_10 : Ref sig .tc := ⟨.hbm, 30, rfl⟩
abbrev main_v12 : Ref sig .tc := ⟨.hbm, 31, rfl⟩
abbrev main_c_11 : Ref sig .tc := ⟨.hbm, 32, rfl⟩
abbrev main_c_12 : Ref sig .tc := ⟨.hbm, 33, rfl⟩
abbrev main_v13 : Ref sig .tc := ⟨.hbm, 34, rfl⟩
abbrev main_c_13 : Ref sig .tc := ⟨.hbm, 35, rfl⟩
abbrev main_c_14 : Ref sig .tc := ⟨.hbm, 36, rfl⟩
abbrev main_v14 : Ref sig .tc := ⟨.hbm, 37, rfl⟩
abbrev main_c_15 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_16 : Ref sig .tc := ⟨.hbm, 48, rfl⟩
abbrev main_c_17 : Ref sig .tc := ⟨.hbm, 49, rfl⟩
abbrev main_v24 : Ref sig .tc := ⟨.hbm, 50, rfl⟩
abbrev main_c_18 : Ref sig .tc := ⟨.hbm, 51, rfl⟩
abbrev main_c_19 : Ref sig .tc := ⟨.hbm, 52, rfl⟩
abbrev main_v25 : Ref sig .tc := ⟨.hbm, 53, rfl⟩
abbrev main_c_20 : Ref sig .tc := ⟨.hbm, 54, rfl⟩
abbrev main_v26 : Ref sig .tc := ⟨.hbm, 55, rfl⟩
abbrev main_c_21 : Ref sig .tc := ⟨.hbm, 56, rfl⟩
abbrev main_v27 : Ref sig .tc := ⟨.hbm, 57, rfl⟩
abbrev main_v28 : Ref sig .tc := ⟨.hbm, 58, rfl⟩
abbrev main_c_22 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_23 : Ref sig .tc := ⟨.hbm, 63, rfl⟩
abbrev main_c_24 : Ref sig .tc := ⟨.hbm, 64, rfl⟩
abbrev main_v32 : Ref sig .tc := ⟨.hbm, 65, rfl⟩
abbrev main_c_25 : Ref sig .tc := ⟨.hbm, 66, rfl⟩
abbrev main_c_26 : Ref sig .tc := ⟨.hbm, 67, rfl⟩
abbrev main_v33 : Ref sig .tc := ⟨.hbm, 68, rfl⟩
abbrev main_c_27 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst : Ref sig .tc := ⟨.hbm, 82, rfl⟩
abbrev main_v46 : Ref sig .tc := ⟨.hbm, 83, rfl⟩
abbrev main_v47 : Ref sig .tc := ⟨.hbm, 84, rfl⟩
abbrev main_cst_28 : Ref sig .tc := ⟨.hbm, 85, rfl⟩
abbrev main_cst_29 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_v48 : Ref sig .tc := ⟨.hbm, 92, rfl⟩
abbrev main_cst_30 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_31 : Ref sig .tc := ⟨.hbm, 98, rfl⟩
abbrev main_v53 : Ref sig .tc := ⟨.hbm, 99, rfl⟩
abbrev main_v54 : Ref sig .tc := ⟨.hbm, 100, rfl⟩
abbrev main_cst_32 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_33 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_34 : Ref sig .tc := ⟨.hbm, 109, rfl⟩
abbrev main_c_35 : Ref sig .tc := ⟨.hbm, 110, rfl⟩
abbrev main_v61 : Ref sig .tc := ⟨.hbm, 111, rfl⟩
abbrev main_c_36 : Ref sig .tc := ⟨.hbm, 112, rfl⟩
abbrev main_c_37 : Ref sig .tc := ⟨.hbm, 113, rfl⟩
abbrev main_v62 : Ref sig .tc := ⟨.hbm, 114, rfl⟩
abbrev main_c_38 : Ref sig .tc := ⟨.hbm, 115, rfl⟩
abbrev main_v63 : Ref sig .tc := ⟨.hbm, 116, rfl⟩
abbrev main_c_39 : Ref sig .tc := ⟨.hbm, 117, rfl⟩
abbrev main_v64 : Ref sig .tc := ⟨.hbm, 118, rfl⟩
abbrev main_v65 : Ref sig .tc := ⟨.hbm, 119, rfl⟩
abbrev main_c_40 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_41 : Ref sig .tc := ⟨.hbm, 124, rfl⟩
abbrev main_c_42 : Ref sig .tc := ⟨.hbm, 125, rfl⟩
abbrev main_v69 : Ref sig .tc := ⟨.hbm, 126, rfl⟩
abbrev main_c_43 : Ref sig .tc := ⟨.hbm, 127, rfl⟩
abbrev main_c_44 : Ref sig .tc := ⟨.hbm, 128, rfl⟩
abbrev main_v70 : Ref sig .tc := ⟨.hbm, 129, rfl⟩
abbrev main_c_45 : Ref sig .tc := ⟨.hbm, 130, rfl⟩
abbrev main_v71 : Ref sig .tc := ⟨.hbm, 131, rfl⟩
abbrev main_c_46 : Ref sig .tc := ⟨.hbm, 132, rfl⟩
abbrev main_c_47 : Ref sig .tc := ⟨.hbm, 133, rfl⟩
abbrev main_v72 : Ref sig .tc := ⟨.hbm, 134, rfl⟩
abbrev main_c_48 : Ref sig .tc := ⟨.hbm, 135, rfl⟩
abbrev main_c_49 : Ref sig .tc := ⟨.hbm, 136, rfl⟩
abbrev main_v73 : Ref sig .tc := ⟨.hbm, 137, rfl⟩
abbrev main_c_50 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_c_51 : Ref sig .tc := ⟨.hbm, 148, rfl⟩
abbrev main_c_52 : Ref sig .tc := ⟨.hbm, 149, rfl⟩
abbrev main_v83 : Ref sig .tc := ⟨.hbm, 150, rfl⟩
abbrev main_c_53 : Ref sig .tc := ⟨.hbm, 151, rfl⟩
abbrev main_c_54 : Ref sig .tc := ⟨.hbm, 152, rfl⟩
abbrev main_v84 : Ref sig .tc := ⟨.hbm, 153, rfl⟩
abbrev main_c_55 : Ref sig .tc := ⟨.hbm, 154, rfl⟩
abbrev main_v85 : Ref sig .tc := ⟨.hbm, 155, rfl⟩
abbrev main_c_56 : Ref sig .tc := ⟨.hbm, 156, rfl⟩
abbrev main_v86 : Ref sig .tc := ⟨.hbm, 157, rfl⟩
abbrev main_v87 : Ref sig .tc := ⟨.hbm, 158, rfl⟩
abbrev main_c_57 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_c_58 : Ref sig .tc := ⟨.hbm, 163, rfl⟩
abbrev main_c_59 : Ref sig .tc := ⟨.hbm, 164, rfl⟩
abbrev main_v91 : Ref sig .tc := ⟨.hbm, 165, rfl⟩
abbrev main_c_60 : Ref sig .tc := ⟨.hbm, 166, rfl⟩
abbrev main_c_61 : Ref sig .tc := ⟨.hbm, 167, rfl⟩
abbrev main_v92 : Ref sig .tc := ⟨.hbm, 168, rfl⟩
abbrev main_c_62 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_cst_63 : Ref sig .tc := ⟨.hbm, 185, rfl⟩
abbrev main_call1_v0 : Ref sig .tc := ⟨.hbm, 186, rfl⟩
abbrev main_call1_v1 : Ref sig .tc := ⟨.hbm, 187, rfl⟩
abbrev main_call1_v2 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩

abbrev nD : Nat := 1
abbrev τ : Topo := Topo.v7x

variable {F : FTy → Type} [FloatOps F]
-- ==== Combine.lean ====
abbrev S32768x1024 : Shape := ⟨2, ![32768, 1024]⟩
abbrev S4x32768x512 : Shape := ⟨3, ![4, 32768, 512]⟩
abbrev S32768x128 : Shape := ⟨2, ![32768, 128]⟩
abbrev S4x1024 : Shape := ⟨2, ![4, 1024]⟩
abbrev S1x1024 : Shape := ⟨2, ![1, 1024]⟩
abbrev S1024 : Shape := ⟨1, ![1024]⟩
abbrev S512x1024 : Shape := ⟨2, ![512, 1024]⟩
abbrev S4x512x512 : Shape := ⟨3, ![4, 512, 512]⟩
abbrev S512x128 : Shape := ⟨2, ![512, 128]⟩
abbrev S1x512x512 : Shape := ⟨3, ![1, 512, 512]⟩
abbrev S512x512 : Shape := ⟨2, ![512, 512]⟩
abbrev S512x1 : Shape := ⟨2, ![512, 1]⟩
abbrev S512 : Shape := ⟨1, ![512]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S4x32768x512, .i32⟩
  | .hbm, ⟨2, _⟩ => ⟨S32768x128, .f32⟩
  | .hbm, ⟨3, _⟩ => ⟨S4x1024, .f32⟩
  | .hbm, ⟨4, _⟩ => ⟨S4x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S32768x1024, .f32⟩
  | .hbm, ⟨12, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S4x512x512, .i32⟩
  | .local _ .vmem, ⟨3, _⟩ => ⟨S4x512x512, .i32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S32768x1024 : Shape := ⟨2, ![32768, 1024]⟩
abbrev S4x32768x512 : Shape := ⟨3, ![4, 32768, 512]⟩
abbrev S32768x128 : Shape := ⟨2, ![32768, 128]⟩
abbrev S4x1024 : Shape := ⟨2, ![4, 1024]⟩
abbrev S4x32768x512x2 : Shape := ⟨4, ![4, 32768, 512, 2]⟩
abbrev S4x32768x512x1 : Shape := ⟨4, ![4, 32768, 512, 1]⟩
abbrev S4x32768x1024 : Shape := ⟨3, ![4, 32768, 1024]⟩
abbrev S32768x4 : Shape := ⟨2, ![32768, 4]⟩
abbrev S4x32768 : Shape := ⟨2, ![4, 32768]⟩
abbrev S4x32768x1 : Shape := ⟨3, ![4, 32768, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x512, .i32⟩
  | .hbm, ⟨2, _⟩ => ⟨S32768x128, .f32⟩
  | .hbm, ⟨3, _⟩ => ⟨S4x1024, .f32⟩
  | .hbm, ⟨4, _⟩ => ⟨S4x1024, .f32⟩
  | .hbm, ⟨5, _⟩ => ⟨S4x32768x512x2, .bf16⟩
  | .hbm, ⟨6, _⟩ => ⟨S4x32768x512x2, .f32⟩
  | .hbm, ⟨7, _⟩ => ⟨S4x32768x512x1, .f32⟩
  | .hbm, ⟨8, _⟩ => ⟨S4x32768x512, .f32⟩
  | .hbm, ⟨9, _⟩ => ⟨S4x32768x512x1, .f32⟩
  | .hbm, ⟨10, _⟩ => ⟨S4x32768x512, .f32⟩
  | .hbm, ⟨11, _⟩ => ⟨S4x32768x1024, .f32⟩
  | .hbm, ⟨12, _⟩ => ⟨S32768x4, .f32⟩
  | .hbm, ⟨13, _⟩ => ⟨S4x32768, .f32⟩
  | .hbm, ⟨14, _⟩ => ⟨S4x32768x1, .f32⟩
  | .hbm, ⟨15, _⟩ => ⟨S4x32768x1024, .f32⟩
  | .hbm, ⟨16, _⟩ => ⟨S4x32768x1024, .f32⟩
  | .hbm, ⟨17, _⟩ => ⟨S_, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Projection.lean ====
abbrev S32768x1024 : Shape := ⟨2, ![32768, 1024]⟩
abbrev S4x1024x2576 : Shape := ⟨3, ![4, 1024, 2576]⟩
abbrev S4x2576 : Shape := ⟨2, ![4, 2576]⟩
abbrev S4 : Shape := ⟨1, ![4]⟩
abbrev S4x1024x256 : Shape := ⟨3, ![4, 1024, 256]⟩
abbrev S4x1024x192 : Shape := ⟨3, ![4, 1024, 192]⟩
abbrev S_ : Shape := ⟨0, ![]⟩
abbrev S4x1024x384 : Shape := ⟨3, ![4, 1024, 384]⟩
abbrev S4x1024x4x96 : Shape := ⟨4, ![4, 1024, 4, 96]⟩
abbrev S4x1024x4x128 : Shape := ⟨4, ![4, 1024, 4, 128]⟩
abbrev S4x1024x512 : Shape := ⟨3, ![4, 1024, 512]⟩
abbrev S4x1024x4x24x2 : Shape := ⟨5, ![4, 1024, 4, 24, 2]⟩
abbrev S4x1024x4x2x24 : Shape := ⟨5, ![4, 1024, 4, 2, 24]⟩
abbrev S4x1024x3328 : Shape := ⟨3, ![4, 1024, 3328]⟩
abbrev S4x256 : Shape := ⟨2, ![4, 256]⟩
abbrev S4x192 : Shape := ⟨2, ![4, 192]⟩
abbrev S4x384 : Shape := ⟨2, ![4, 384]⟩
abbrev S4x4x96 : Shape := ⟨3, ![4, 4, 96]⟩
abbrev S4x4x128 : Shape := ⟨3, ![4, 4, 128]⟩
abbrev S4x512 : Shape := ⟨2, ![4, 512]⟩
abbrev S4x4x24x2 : Shape := ⟨4, ![4, 4, 24, 2]⟩
abbrev S4x4x2x24 : Shape := ⟨4, ![4, 4, 2, 24]⟩
abbrev S4x3328 : Shape := ⟨2, ![4, 3328]⟩
abbrev S4x1 : Shape := ⟨2, ![4, 1]⟩
abbrev S4x4 : Shape := ⟨2, ![4, 4]⟩
abbrev S4x1x3328 : Shape := ⟨3, ![4, 1, 3328]⟩
abbrev S4x1024x16 : Shape := ⟨3, ![4, 1024, 16]⟩
abbrev S4x1024x4 : Shape := ⟨3, ![4, 1024, 4]⟩
abbrev S4x1024x8 : Shape := ⟨3, ![4, 1024, 8]⟩
abbrev S4x1024x32 : Shape := ⟨3, ![4, 1024, 32]⟩
abbrev S4x32x1024 : Shape := ⟨3, ![4, 32, 1024]⟩
abbrev S4x16 : Shape := ⟨2, ![4, 16]⟩
abbrev S4x8 : Shape := ⟨2, ![4, 8]⟩
abbrev S4x32 : Shape := ⟨2, ![4, 32]⟩
abbrev S4x32x1 : Shape := ⟨3, ![4, 32, 1]⟩
abbrev S1x1024x3328 : Shape := ⟨3, ![1, 1024, 3328]⟩
abbrev S1024x3328 : Shape := ⟨2, ![1024, 3328]⟩
abbrev S1x1x3328 : Shape := ⟨3, ![1, 1, 3328]⟩
abbrev S1x3328 : Shape := ⟨2, ![1, 3328]⟩
abbrev S1x32x1024 : Shape := ⟨3, ![1, 32, 1024]⟩
abbrev S32x1024 : Shape := ⟨2, ![32, 1024]⟩
abbrev S1x32x1 : Shape := ⟨3, ![1, 32, 1]⟩
abbrev S32x1 : Shape := ⟨2, ![32, 1]⟩
abbrev S32768x256 : Shape := ⟨2, ![32768, 256]⟩
abbrev S32768x512 : Shape := ⟨2, ![32768, 512]⟩
abbrev S32x32768 : Shape := ⟨2, ![32, 32768]⟩
abbrev S1024x1024 : Shape := ⟨2, ![1024, 1024]⟩
abbrev S1024x256 : Shape := ⟨2, ![1024, 256]⟩
abbrev S1024x512 : Shape := ⟨2, ![1024, 512]⟩
abbrev S1x256 : Shape := ⟨2, ![1, 256]⟩
abbrev S1x512 : Shape := ⟨2, ![1, 512]⟩

abbrev nBuf : Space → Nat
  | .hbm => 168
  | .vmem => 22
  | .smem => 0
  | _ => 0

abbrev hbmTy0_0 (i : Nat) : BufTy := match i % 128 with
  | 0 => ⟨S32768x1024, .bf16⟩
  | 1 => ⟨S4x1024x2576, .f32⟩
  | 2 => ⟨S4x2576, .f32⟩
  | 3 => ⟨S4, .i32⟩
  | 4 => ⟨S4x1024x256, .f32⟩
  | 5 => ⟨S4x1024x192, .f32⟩
  | 6 => ⟨S_, .i32⟩
  | 7 => ⟨S_, .f32⟩
  | 8 => ⟨S4x1024x256, .f32⟩
  | 9 => ⟨S4x1024x192, .f32⟩
  | 10 => ⟨S_, .i32⟩
  | 11 => ⟨S_, .f32⟩
  | 12 => ⟨S4x1024x256, .f32⟩
  | 13 => ⟨S4x1024x384, .f32⟩
  | 14 => ⟨S4x1024x4x96, .f32⟩
  | 15 => ⟨S_, .i32⟩
  | 16 => ⟨S_, .f32⟩
  | 17 => ⟨S4x1024x4x128, .f32⟩
  | 18 => ⟨S4x1024x512, .f32⟩
  | 19 => ⟨S4x1024x384, .f32⟩
  | 20 => ⟨S4x1024x4x96, .f32⟩
  | 21 => ⟨S_, .i32⟩
  | 22 => ⟨S_, .f32⟩
  | 23 => ⟨S4x1024x4x128, .f32⟩
  | 24 => ⟨S4x1024x512, .f32⟩
  | 25 => ⟨S4x1024x192, .f32⟩
  | 26 => ⟨S4x1024x4x24x2, .f32⟩
  | 27 => ⟨S4x1024x4x2x24, .f32⟩
  | 28 => ⟨S4x1024x192, .f32⟩
  | 29 => ⟨S_, .i32⟩
  | 30 => ⟨S_, .f32⟩
  | 31 => ⟨S4x1024x256, .f32⟩
  | 32 => ⟨S4x1024x192, .f32⟩
  | 33 => ⟨S4x1024x4x24x2, .f32⟩
  | 34 => ⟨S4x1024x4x2x24, .f32⟩
  | 35 => ⟨S4x1024x192, .f32⟩
  | 36 => ⟨S_, .i32⟩
  | 37 => ⟨S_, .f32⟩
  | 38 => ⟨S4x1024x256, .f32⟩
  | 39 => ⟨S4x1024x384, .f32⟩
  | 40 => ⟨S4x1024x4x96, .f32⟩
  | 41 => ⟨S_, .i32⟩
  | 42 => ⟨S_, .f32⟩
  | 43 => ⟨S4x1024x4x128, .f32⟩
  | 44 => ⟨S4x1024x512, .f32⟩
  | 45 => ⟨S4x1024x384, .f32⟩
  | 46 => ⟨S4x1024x4x96, .f32⟩
  | 47 => ⟨S_, .i32⟩
  | 48 => ⟨S_, .f32⟩
  | 49 => ⟨S4x1024x4x128, .f32⟩
  | 50 => ⟨S4x1024x512, .f32⟩
  | 51 => ⟨S4x1024x3328, .f32⟩
  | 52 => ⟨S4x1024x3328, .bf16⟩
  | 53 => ⟨S4x256, .f32⟩
  | 54 => ⟨S4x192, .f32⟩
  | 55 => ⟨S_, .i32⟩
  | 56 => ⟨S_, .f32⟩
  | 57 => ⟨S4x256, .f32⟩
  | 58 => ⟨S4x192, .f32⟩
  | 59 => ⟨S_, .i32⟩
  | 60 => ⟨S_, .f32⟩
  | 61 => ⟨S4x256, .f32⟩
  | 62 => ⟨S4x384, .f32⟩
  | 63 => ⟨S4x4x96, .f32⟩
  | 64 => ⟨S_, .i32⟩
  | 65 => ⟨S_, .f32⟩
  | 66 => ⟨S4x4x128, .f32⟩
  | 67 => ⟨S4x512, .f32⟩
  | 68 => ⟨S4x384, .f32⟩
  | 69 => ⟨S4x4x96, .f32⟩
  | 70 => ⟨S_, .i32⟩
  | 71 => ⟨S_, .f32⟩
  | 72 => ⟨S4x4x128, .f32⟩
  | 73 => ⟨S4x512, .f32⟩
  | 74 => ⟨S4x192, .f32⟩
  | 75 => ⟨S4x4x24x2, .f32⟩
  | 76 => ⟨S4x4x2x24, .f32⟩
  | 77 => ⟨S4x192, .f32⟩
  | 78 => ⟨S_, .i32⟩
  | 79 => ⟨S_, .f32⟩
  | 80 => ⟨S4x256, .f32⟩
  | 81 => ⟨S4x192, .f32⟩
  | 82 => ⟨S4x4x24x2, .f32⟩
  | 83 => ⟨S4x4x2x24, .f32⟩
  | 84 => ⟨S4x192, .f32⟩
  | 85 => ⟨S_, .i32⟩
  | 86 => ⟨S_, .f32⟩
  | 87 => ⟨S4x256, .f32⟩
  | 88 => ⟨S4x384, .f32⟩
  | 89 => ⟨S4x4x96, .f32⟩
  | 90 => ⟨S_, .i32⟩
  | 91 => ⟨S_, .f32⟩
  | 92 => ⟨S4x4x128, .f32⟩
  | 93 => ⟨S4x512, .f32⟩
  | 94 => ⟨S4x384, .f32⟩
  | 95 => ⟨S4x4x96, .f32⟩
  | 96 => ⟨S_, .i32⟩
  | 97 => ⟨S_, .f32⟩
  | 98 => ⟨S4x4x128, .f32⟩
  | 99 => ⟨S4x512, .f32⟩
  | 100 => ⟨S4x3328, .f32⟩
  | 101 => ⟨S_, .i32⟩
  | 102 => ⟨S4, .i32⟩
  | 103 => ⟨S4, .i1⟩
  | 104 => ⟨S_, .i32⟩
  | 105 => ⟨S4, .i32⟩
  | 106 => ⟨S4, .i32⟩
  | 107 => ⟨S4, .i32⟩
  | 108 => ⟨S4x1, .i32⟩
  | 109 => ⟨S_, .f32⟩
  | 110 => ⟨S4x4, .f32⟩
  | 111 => ⟨S4x3328, .f32⟩
  | 112 => ⟨S4x1x3328, .f32⟩
  | 113 => ⟨S4x1024x16, .f32⟩
  | 114 => ⟨S4x1024x4, .f32⟩
  | 115 => ⟨S_, .i32⟩
  | 116 => ⟨S_, .f32⟩
  | 117 => ⟨S4x1024x8, .f32⟩
  | 118 => ⟨S4x1024x4, .f32⟩
  | 119 => ⟨S_, .i32⟩
  | 120 => ⟨S_, .f32⟩
  | 121 => ⟨S4x1024x8, .f32⟩
  | 122 => ⟨S4x1024x4, .f32⟩
  | 123 => ⟨S_, .i32⟩
  | 124 => ⟨S_, .f32⟩
  | 125 => ⟨S4x1024x8, .f32⟩
  | 126 => ⟨S4x1024x4, .f32⟩
  | 127 => ⟨S_, .i32⟩
  | _ => ⟨S32768x1024, .bf16⟩

abbrev hbmTy0_1 (i : Nat) : BufTy := match i % 128 with
  | 0 => ⟨S_, .f32⟩
  | 1 => ⟨S4x1024x8, .f32⟩
  | 2 => ⟨S4x1024x32, .f32⟩
  | 3 => ⟨S4x32x1024, .f32⟩
  | 4 => ⟨S4x32x1024, .bf16⟩
  | 5 => ⟨S4x16, .f32⟩
  | 6 => ⟨S4x4, .f32⟩
  | 7 => ⟨S_, .i32⟩
  | 8 => ⟨S_, .f32⟩
  | 9 => ⟨S4x8, .f32⟩
  | 10 => ⟨S4x4, .f32⟩
  | 11 => ⟨S_, .i32⟩
  | 12 => ⟨S_, .f32⟩
  | 13 => ⟨S4x8, .f32⟩
  | 14 => ⟨S4x4, .f32⟩
  | 15 => ⟨S_, .i32⟩
  | 16 => ⟨S_, .f32⟩
  | 17 => ⟨S4x8, .f32⟩
  | 18 => ⟨S4x4, .f32⟩
  | 19 => ⟨S_, .i32⟩
  | 20 => ⟨S_, .f32⟩
  | 21 => ⟨S4x8, .f32⟩
  | 22 => ⟨S4x32, .f32⟩
  | 23 => ⟨S4x32x1, .f32⟩
  | 24 => ⟨S1x1024x3328, .bf16⟩
  | 25 => ⟨S1024x3328, .bf16⟩
  | 26 => ⟨S1x1x3328, .f32⟩
  | 27 => ⟨S1x3328, .f32⟩
  | 28 => ⟨S1x32x1024, .bf16⟩
  | 29 => ⟨S32x1024, .bf16⟩
  | 30 => ⟨S1x32x1, .f32⟩
  | 31 => ⟨S32x1, .f32⟩
  | 32 => ⟨S32768x256, .bf16⟩
  | 33 => ⟨S32768x512, .f32⟩
  | 34 => ⟨S32768x512, .bf16⟩
  | 35 => ⟨S32768x512, .bf16⟩
  | 36 => ⟨S32768x512, .f32⟩
  | 37 => ⟨S32768x512, .bf16⟩
  | 38 => ⟨S32768x512, .bf16⟩
  | 39 => ⟨S32x32768, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x3328, .bf16⟩
  | .local _ .vmem, ⟨3, _⟩ => ⟨S1x3328, .f32⟩
  | .local _ .vmem, ⟨4, _⟩ => ⟨S32x1024, .bf16⟩
  | .local _ .vmem, ⟨5, _⟩ => ⟨S32x1, .f32⟩
  | .local _ .vmem, ⟨6, _⟩ => ⟨S1024x256, .bf16⟩
  | .local _ .vmem, ⟨7, _⟩ => ⟨S1024x256, .bf16⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S32x1024, .f32⟩
  | .local _ .vmem, ⟨21, _⟩ => ⟨S32x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_call3_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_call4_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call5_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_call6_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_call7_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_call8_v0 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_call9_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_call10_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_call11_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_12 : Ref sig .tc := ⟨.hbm, 78, rfl⟩
abbrev main_call12_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_call13_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_call14_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_15 : Ref sig .tc := ⟨.hbm, 96, rfl⟩
abbrev main_call15_v0 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_16 : Ref sig .tc := ⟨.hbm, 101, rfl⟩
abbrev main_v65 : Ref sig .tc := ⟨.hbm, 102, rfl⟩
abbrev main_v66 : Ref sig .tc := ⟨.hbm, 103, rfl⟩
abbrev main_c_17 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_18 : Ref sig .tc := ⟨.hbm, 115, rfl⟩
abbrev main_call16_v0 : Ref sig .tc := ⟨.hbm, 116, rfl⟩
abbrev main_v76 : Ref sig .tc := ⟨.hbm, 117, rfl⟩
abbrev main_v77 : Ref sig .tc := ⟨.hbm, 118, rfl⟩
abbrev main_c_19 : Ref sig .tc := ⟨.hbm, 119, rfl⟩
abbrev main_call17_v0 : Ref sig .tc := ⟨.hbm, 120, rfl⟩
abbrev main_v78 : Ref sig .tc := ⟨.hbm, 121, rfl⟩
abbrev main_v79 : Ref sig .tc := ⟨.hbm, 122, rfl⟩
abbrev main_c_20 : Ref sig .tc := ⟨.hbm, 123, rfl⟩
abbrev main_call18_v0 : Ref sig .tc := ⟨.hbm, 124, rfl⟩
abbrev main_v80 : Ref sig .tc := ⟨.hbm, 125, rfl⟩
abbrev main_v81 : Ref sig .tc := ⟨.hbm, 126, rfl⟩
abbrev main_c_21 : Ref sig .tc := ⟨.hbm, 127, rfl⟩
abbrev main_call19_v0 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_22 : Ref sig .tc := ⟨.hbm, 135, rfl⟩
abbrev main_call20_v0 : Ref sig .tc := ⟨.hbm, 136, rfl⟩
abbrev main_v88 : Ref sig .tc := ⟨.hbm, 137, rfl⟩
abbrev main_v89 : Ref sig .tc := ⟨.hbm, 138, rfl⟩
abbrev main_c_23 : Ref sig .tc := ⟨.hbm, 139, rfl⟩
abbrev main_call21_v0 : Ref sig .tc := ⟨.hbm, 140, rfl⟩
abbrev main_v90 : Ref sig .tc := ⟨.hbm, 141, rfl⟩
abbrev main_v91 : Ref sig .tc := ⟨.hbm, 142, rfl⟩
abbrev main_c_24 : Ref sig .tc := ⟨.hbm, 143, rfl⟩
abbrev main_call22_v0 : Ref sig .tc := ⟨.hbm, 144, rfl⟩
abbrev main_v92 : Ref sig .tc := ⟨.hbm, 145, rfl⟩
abbrev main_v93 : Ref sig .tc := ⟨.hbm, 146, rfl⟩
abbrev main_c_25 : Ref sig .tc := ⟨.hbm, 147, rfl⟩
abbrev main_call23_v0 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105_0 : Ref sig .tc := ⟨.hbm, 160, rfl⟩
abbrev main_v105_1 : Ref sig .tc := ⟨.hbm, 161, rfl⟩
abbrev main_v105_2 : Ref sig .tc := ⟨.hbm, 162, rfl⟩
abbrev main_v105_3 : Ref sig .tc := ⟨.hbm, 163, rfl⟩
abbrev main_v105_4 : Ref sig .tc := ⟨.hbm, 164, rfl⟩
abbrev main_v105_5 : Ref sig .tc := ⟨.hbm, 165, rfl⟩
abbrev main_v105_6 : Ref sig .tc := ⟨.hbm, 166, rfl⟩
abbrev main_v105_7 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjectionReferenceIdeal.lean ====
abbrev S32768x1024 : Shape := ⟨2, ![32768, 1024]⟩
abbrev S4x1024x2576 : Shape := ⟨3, ![4, 1024, 2576]⟩
abbrev S4x2576 : Shape := ⟨2, ![4, 2576]⟩
abbrev S1x1024x2576 : Shape := ⟨3, ![1, 1024, 2576]⟩
abbrev S1024x2576 : Shape := ⟨2, ![1024, 2576]⟩
abbrev S32768x2576 : Shape := ⟨2, ![32768, 2576]⟩
abbrev S1x2576 : Shape := ⟨2, ![1, 2576]⟩
abbrev S2576 : Shape := ⟨1, ![2576]⟩
abbrev S512 : Shape := ⟨1, ![512]⟩
abbrev S_ : Shape := ⟨0, ![]⟩
abbrev S32768x384 : Shape := ⟨2, ![32768, 384]⟩
abbrev S32768x4x96 : Shape := ⟨3, ![32768, 4, 96]⟩
abbrev S32768x4x128 : Shape := ⟨3, ![32768, 4, 128]⟩
abbrev S32768x512 : Shape := ⟨2, ![32768, 512]⟩
abbrev S32768x256 : Shape := ⟨2, ![32768, 256]⟩
abbrev S32768x192 : Shape := ⟨2, ![32768, 192]⟩
abbrev S32768x4x24x2 : Shape := ⟨4, ![32768, 4, 24, 2]⟩
abbrev S32768x4x24x1 : Shape := ⟨4, ![32768, 4, 24, 1]⟩
abbrev S32768x4x24 : Shape := ⟨3, ![32768, 4, 24]⟩
abbrev S32768x4x48 : Shape := ⟨3, ![32768, 4, 48]⟩
abbrev S32768x4 : Shape := ⟨2, ![32768, 4]⟩
abbrev S4x32768 : Shape := ⟨2, ![4, 32768]⟩
abbrev S8x32768 : Shape := ⟨2, ![8, 32768]⟩
abbrev S32x32768 : Shape := ⟨2, ![32, 32768]⟩

abbrev nBuf : Space → Nat
  | .hbm => 145
  | .vmem => 0
  | .smem => 0
  | _ => 0

abbrev hbmTy0_0 (i : Nat) : BufTy := match i % 128 with
  | 0 => ⟨S32768x1024, .bf16⟩
  | 1 => ⟨S4x1024x2576, .f32⟩
  | 2 => ⟨S4x2576, .f32⟩
  | 3 => ⟨S32768x1024, .f32⟩
  | 4 => ⟨S1x1024x2576, .f32⟩
  | 5 => ⟨S1024x2576, .f32⟩
  | 6 => ⟨S32768x2576, .f32⟩
  | 7 => ⟨S1x2576, .f32⟩
  | 8 => ⟨S2576, .f32⟩
  | 9 => ⟨S1x2576, .f32⟩
  | 10 => ⟨S32768x2576, .f32⟩
  | 11 => ⟨S32768x2576, .f32⟩
  | 12 => ⟨S512, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S512, .i32⟩
  | 20 => ⟨S512, .i32⟩
  | 21 => ⟨S_, .i32⟩
  | 22 => ⟨S512, .i32⟩
  | 23 => ⟨S512, .i1⟩
  | 24 => ⟨S_, .i32⟩
  | 25 => ⟨S512, .i32⟩
  | 26 => ⟨S512, .i1⟩
  | 27 => ⟨S_, .i32⟩
  | 28 => ⟨S_, .i1⟩
  | 29 => ⟨S512, .i1⟩
  | 30 => ⟨S512, .i1⟩
  | 31 => ⟨S512, .i1⟩
  | 32 => ⟨S512, .i32⟩
  | 33 => ⟨S512, .i32⟩
  | 34 => ⟨S512, .i32⟩
  | 35 => ⟨S_, .i32⟩
  | 36 => ⟨S_, .i32⟩
  | 37 => ⟨S512, .i32⟩
  | 38 => ⟨S512, .i32⟩
  | 39 => ⟨S512, .i32⟩
  | 40 => ⟨S_, .i32⟩
  | 41 => ⟨S512, .i32⟩
  | 42 => ⟨S512, .i1⟩
  | 43 => ⟨S512, .i32⟩
  | 44 => ⟨S512, .i32⟩
  | 45 => ⟨S_, .i32⟩
  | 46 => ⟨S512, .i32⟩
  | 47 => ⟨S512, .i1⟩
  | 48 => ⟨S512, .i1⟩
  | 49 => ⟨S_, .i32⟩
  | 50 => ⟨S512, .i32⟩
  | 51 => ⟨S512, .i32⟩
  | 52 => ⟨S512, .i32⟩
  | 53 => ⟨S_, .i32⟩
  | 54 => ⟨S512, .i32⟩
  | 55 => ⟨S512, .i32⟩
  | 56 => ⟨S512, .i1⟩
  | 57 => ⟨S32768x384, .f32⟩
  | 58 => ⟨S32768x4x96, .f32⟩
  | 59 => ⟨S_, .i32⟩
  | 60 => ⟨S_, .f32⟩
  | 61 => ⟨S32768x4x128, .f32⟩
  | 62 => ⟨S32768x512, .f32⟩
  | 63 => ⟨S_, .f32⟩
  | 64 => ⟨S_, .f32⟩
  | 65 => ⟨S32768x512, .i1⟩
  | 66 => ⟨S32768x512, .f32⟩
  | 67 => ⟨S32768x512, .f32⟩
  | 68 => ⟨S32768x256, .f32⟩
  | 69 => ⟨S32768x256, .bf16⟩
  | 70 => ⟨S32768x192, .f32⟩
  | 71 => ⟨S_, .i32⟩
  | 72 => ⟨S_, .f32⟩
  | 73 => ⟨S32768x256, .f32⟩
  | 74 => ⟨S32768x192, .f32⟩
  | 75 => ⟨S_, .i32⟩
  | 76 => ⟨S_, .f32⟩
  | 77 => ⟨S32768x256, .f32⟩
  | 78 => ⟨S32768x512, .f32⟩
  | 79 => ⟨S32768x512, .bf16⟩
  | 80 => ⟨S32768x384, .f32⟩
  | 81 => ⟨S32768x4x96, .f32⟩
  | 82 => ⟨S_, .i32⟩
  | 83 => ⟨S_, .f32⟩
  | 84 => ⟨S32768x4x128, .f32⟩
  | 85 => ⟨S32768x512, .f32⟩
  | 86 => ⟨S32768x512, .bf16⟩
  | 87 => ⟨S32768x192, .f32⟩
  | 88 => ⟨S32768x4x24x2, .f32⟩
  | 89 => ⟨S32768x4x24x1, .f32⟩
  | 90 => ⟨S32768x4x24, .f32⟩
  | 91 => ⟨S32768x4x24x1, .f32⟩
  | 92 => ⟨S32768x4x24, .f32⟩
  | 93 => ⟨S32768x4x48, .f32⟩
  | 94 => ⟨S32768x192, .f32⟩
  | 95 => ⟨S_, .i32⟩
  | 96 => ⟨S_, .f32⟩
  | 97 => ⟨S32768x256, .f32⟩
  | 98 => ⟨S32768x192, .f32⟩
  | 99 => ⟨S32768x4x24x2, .f32⟩
  | 100 => ⟨S32768x4x24x1, .f32⟩
  | 101 => ⟨S32768x4x24, .f32⟩
  | 102 => ⟨S32768x4x24x1, .f32⟩
  | 103 => ⟨S32768x4x24, .f32⟩
  | 104 => ⟨S32768x4x48, .f32⟩
  | 105 => ⟨S32768x192, .f32⟩
  | 106 => ⟨S_, .i32⟩
  | 107 => ⟨S_, .f32⟩
  | 108 => ⟨S32768x256, .f32⟩
  | 109 => ⟨S32768x512, .f32⟩
  | 110 => ⟨S32768x384, .f32⟩
  | 111 => ⟨S32768x4x96, .f32⟩
  | 112 => ⟨S_, .i32⟩
  | 113 => ⟨S_, .f32⟩
  | 114 => ⟨S32768x4x128, .f32⟩
  | 115 => ⟨S32768x512, .f32⟩
  | 116 => ⟨S32768x512, .bf16⟩
  | 117 => ⟨S32768x384, .f32⟩
  | 118 => ⟨S32768x4x96, .f32⟩
  | 119 => ⟨S_, .i32⟩
  | 120 => ⟨S_, .f32⟩
  | 121 => ⟨S32768x4x128, .f32⟩
  | 122 => ⟨S32768x512, .f32⟩
  | 123 => ⟨S32768x512, .bf16⟩
  | 124 => ⟨S32768x4, .f32⟩
  | 125 => ⟨S4x32768, .f32⟩
  | 126 => ⟨S_, .i32⟩
  | 127 => ⟨S_, .f32⟩
  | _ => ⟨S32768x1024, .bf16⟩

abbrev hbmTy0_1 (i : Nat) : BufTy := match i % 128 with
  | 0 => ⟨S8x32768, .f32⟩
  | 1 => ⟨S32768x4, .f32⟩
  | 2 => ⟨S4x32768, .f32⟩
  | 3 => ⟨S_, .i32⟩
  | 4 => ⟨S_, .f32⟩
  | 5 => ⟨S8x32768, .f32⟩
  | 6 => ⟨S32768x4, .f32⟩
  | 7 => ⟨S4x32768, .f32⟩
  | 8 => ⟨S_, .i32⟩
  | 9 => ⟨S_, .f32⟩
  | 10 => ⟨S8x32768, .f32⟩
  | 11 => ⟨S32768x4, .f32⟩
  | 12 => ⟨S4x32768, .f32⟩
  | 13 => ⟨S_, .i32⟩
  | 14 => ⟨S_, .f32⟩
  | 15 => ⟨S8x32768, .f32⟩
  | 16 => ⟨S32x32768, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v11 : Ref sig .tc := ⟨.hbm, 52, rfl⟩
abbrev main_c_1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_c_2 : Ref sig .tc := ⟨.hbm, 59, rfl⟩
abbrev main_call2_v0 : Ref sig .tc := ⟨.hbm, 60, rfl⟩
abbrev main_v17 : Ref sig .tc := ⟨.hbm, 61, rfl⟩
abbrev main_v18 : Ref sig .tc := ⟨.hbm, 62, rfl⟩
abbrev main_cst : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_c_3 : Ref sig .tc := ⟨.hbm, 71, rfl⟩
abbrev main_call4_v0 : Ref sig .tc := ⟨.hbm, 72, rfl⟩
abbrev main_v23 : Ref sig .tc := ⟨.hbm, 73, rfl⟩
abbrev main_v24 : Ref sig .tc := ⟨.hbm, 74, rfl⟩
abbrev main_c_4 : Ref sig .tc := ⟨.hbm, 75, rfl⟩
abbrev main_call5_v0 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_c_5 : Ref sig .tc := ⟨.hbm, 82, rfl⟩
abbrev main_call6_v0 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_c_6 : Ref sig .tc := ⟨.hbm, 95, rfl⟩
abbrev main_call7_v0 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_c_7 : Ref sig .tc := ⟨.hbm, 106, rfl⟩
abbrev main_call8_v0 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_c_8 : Ref sig .tc := ⟨.hbm, 112, rfl⟩
abbrev main_call9_v0 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_c_9 : Ref sig .tc := ⟨.hbm, 119, rfl⟩
abbrev main_call10_v0 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_c_10 : Ref sig .tc := ⟨.hbm, 126, rfl⟩
abbrev main_call11_v0 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_c_11 : Ref sig .tc := ⟨.hbm, 131, rfl⟩
abbrev main_call12_v0 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_c_12 : Ref sig .tc := ⟨.hbm, 136, rfl⟩
abbrev main_call13_v0 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_c_13 : Ref sig .tc := ⟨.hbm, 141, rfl⟩
abbrev main_call14_v0 : Ref sig .tc := ⟨.hbm, 142, rfl⟩
abbrev main_v73 : Ref sig .tc := ⟨.hbm, 143, rfl⟩
abbrev main_v74 : Ref sig .tc := ⟨.hbm, 144, rfl⟩

abbrev nD : Nat := 1
abbrev τ : Topo := Topo.v7x

variable {F : FTy → Type} [FloatOps F]
-- ==== Output.lean ====
abbrev S32768x1024 : Shape := ⟨2, ![32768, 1024]⟩
abbrev S32768x256 : Shape := ⟨2, ![32768, 256]⟩
abbrev S32768x512 : Shape := ⟨2, ![32768, 512]⟩
abbrev S4x384 : Shape := ⟨2, ![4, 384]⟩
abbrev S4x1024x1024 : Shape := ⟨3, ![4, 1024, 1024]⟩
abbrev S4x1024 : Shape := ⟨2, ![4, 1024]⟩
abbrev S4x1024x32 : Shape := ⟨3, ![4, 1024, 32]⟩
abbrev S4x32 : Shape := ⟨2, ![4, 32]⟩
abbrev S4x4x96 : Shape := ⟨3, ![4, 4, 96]⟩
abbrev S_ : Shape := ⟨0, ![]⟩
abbrev S4x4x128 : Shape := ⟨3, ![4, 4, 128]⟩
abbrev S4x512 : Shape := ⟨2, ![4, 512]⟩
abbrev S4x1x512 : Shape := ⟨3, ![4, 1, 512]⟩
abbrev S4x1024x256 : Shape := ⟨3, ![4, 1024, 256]⟩
abbrev S4x1024x384 : Shape := ⟨3, ![4, 1024, 384]⟩
abbrev S4x1024x4x96 : Shape := ⟨4, ![4, 1024, 4, 96]⟩
abbrev S4x1024x4x128 : Shape := ⟨4, ![4, 1024, 4, 128]⟩
abbrev S4x1024x512 : Shape := ⟨3, ![4, 1024, 512]⟩
abbrev S4x1024x1280 : Shape := ⟨3, ![4, 1024, 1280]⟩
abbrev S4x1280x1024 : Shape := ⟨3, ![4, 1280, 1024]⟩
abbrev S4x1024x128 : Shape := ⟨3, ![4, 1024, 128]⟩
abbrev S4x128 : Shape := ⟨2, ![4, 128]⟩
abbrev S4x1x128 : Shape := ⟨3, ![4, 1, 128]⟩
abbrev S1x1x512 : Shape := ⟨3, ![1, 1, 512]⟩
abbrev S1x512 : Shape := ⟨2, ![1, 512]⟩
abbrev S1x1280x1024 : Shape := ⟨3, ![1, 1280, 1024]⟩
abbrev S1280x1024 : Shape := ⟨2, ![1280, 1024]⟩
abbrev S1x1024 : Shape := ⟨2, ![1, 1024]⟩
abbrev S1024 : Shape := ⟨1, ![1024]⟩
abbrev S1x1024x128 : Shape := ⟨3, ![1, 1024, 128]⟩
abbrev S1024x128 : Shape := ⟨2, ![1024, 128]⟩
abbrev S1x1x128 : Shape := ⟨3, ![1, 1, 128]⟩
abbrev S1x128 : Shape := ⟨2, ![1, 128]⟩
abbrev S32768x128 : Shape := ⟨2, ![32768, 128]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x1280 : Shape := ⟨2, ![512, 1280]⟩

abbrev nBuf : Space → Nat
  | .hbm => 76
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S32768x512, .bf16⟩
  | .hbm, ⟨7, _⟩ => ⟨S32768x512, .bf16⟩
  | .hbm, ⟨8, _⟩ => ⟨S4x384, .f32⟩
  | .hbm, ⟨9, _⟩ => ⟨S4x384, .f32⟩
  | .hbm, ⟨10, _⟩ => ⟨S4x1024x1024, .f32⟩
  | .hbm, ⟨11, _⟩ => ⟨S4x1024, .f32⟩
  | .hbm, ⟨12, _⟩ => ⟨S4x1024, .f32⟩
  | .hbm, ⟨13, _⟩ => ⟨S4x1024x32, .f32⟩
  | .hbm, ⟨14, _⟩ => ⟨S4x32, .f32⟩
  | .hbm, ⟨15, _⟩ => ⟨S4x4x96, .f32⟩
  | .hbm, ⟨16, _⟩ => ⟨S_, .i32⟩
  | .hbm, ⟨17, _⟩ => ⟨S_, .f32⟩
  | .hbm, ⟨18, _⟩ => ⟨S4x4x128, .f32⟩
  | .hbm, ⟨19, _⟩ => ⟨S4x512, .f32⟩
  | .hbm, ⟨20, _⟩ => ⟨S4x1x512, .f32⟩
  | .hbm, ⟨21, _⟩ => ⟨S4x4x96, .f32⟩
  | .hbm, ⟨22, _⟩ => ⟨S_, .i32⟩
  | .hbm, ⟨23, _⟩ => ⟨S_, .f32⟩
  | .hbm, ⟨24, _⟩ => ⟨S4x4x128, .f32⟩
  | .hbm, ⟨25, _⟩ => ⟨S4x512, .f32⟩
  | .hbm, ⟨26, _⟩ => ⟨S4x1x512, .f32⟩
  | .hbm, ⟨27, _⟩ => ⟨S4x1024x1024, .f32⟩
  | .hbm, ⟨28, _⟩ => ⟨S4x1024x256, .f32⟩
  | .hbm, ⟨29, _⟩ => ⟨S4x1024x384, .f32⟩
  | .hbm, ⟨30, _⟩ => ⟨S4x1024x4x96, .f32⟩
  | .hbm, ⟨31, _⟩ => ⟨S_, .i32⟩
  | .hbm, ⟨32, _⟩ => ⟨S_, .f32⟩
  | .hbm, ⟨33, _⟩ => ⟨S4x1024x4x128, .f32⟩
  | .hbm, ⟨34, _⟩ => ⟨S4x1024x512, .f32⟩
  | .hbm, ⟨35, _⟩ => ⟨S4x1024x384, .f32⟩
  | .hbm, ⟨36, _⟩ => ⟨S4x1024x4x96, .f32⟩
  | .hbm, ⟨37, _⟩ => ⟨S_, .i32⟩
  | .hbm, ⟨38, _⟩ => ⟨S_, .f32⟩
  | .hbm, ⟨39, _⟩ => ⟨S4x1024x4x128, .f32⟩
  | .hbm, ⟨40, _⟩ => ⟨S4x1024x512, .f32⟩
  | .hbm, ⟨41, _⟩ => ⟨S4x1024x1280, .f32⟩
  | .hbm, ⟨42, _⟩ => ⟨S4x1280x1024, .f32⟩
  | .hbm, ⟨43, _⟩ => ⟨S4x1280x1024, .bf16⟩
  | .hbm, ⟨44, _⟩ => ⟨S_, .i32⟩
  | .hbm, ⟨45, _⟩ => ⟨S_, .f32⟩
  | .hbm, ⟨46, _⟩ => ⟨S4x1024x128, .f32⟩
  | .hbm, ⟨47, _⟩ => ⟨S4x1024x128, .bf16⟩
  | .hbm, ⟨48, _⟩ => ⟨S4x1024x128, .f32⟩
  | .hbm, ⟨49, _⟩ => ⟨S4x1024x128, .f32⟩
  | .hbm, ⟨50, _⟩ => ⟨S4x1024x128, .bf16⟩
  | .hbm, ⟨51, _⟩ => ⟨S_, .i32⟩
  | .hbm, ⟨52, _⟩ => ⟨S_, .f32⟩
  | .hbm, ⟨53, _⟩ => ⟨S4x128, .f32⟩
  | .hbm, ⟨54, _⟩ => ⟨S4x1x128, .f32⟩
  | .hbm, ⟨55, _⟩ => ⟨S1x1x512, .f32⟩
  | .hbm, ⟨56, _⟩ => ⟨S1x512, .f32⟩
  | .hbm, ⟨57, _⟩ => ⟨S1x1x512, .f32⟩
  | .hbm, ⟨58, _⟩ => ⟨S1x512, .f32⟩
  | .hbm, ⟨59, _⟩ => ⟨S1x1280x1024, .bf16⟩
  | .hbm, ⟨60, _⟩ => ⟨S1280x1024, .bf16⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S1x1024x128, .bf16⟩
  | .hbm, ⟨68, _⟩ => ⟨S1024x128, .bf16⟩
  | .hbm, ⟨69, _⟩ => ⟨S1x1024x128, .bf16⟩
  | .hbm, ⟨70, _⟩ => ⟨S1024x128, .bf16⟩
  | .hbm, ⟨71, _⟩ => ⟨S1x1x128, .f32⟩
  | .hbm, ⟨72, _⟩ => ⟨S1x128, .f32⟩
  | .hbm, ⟨73, _⟩ => ⟨S32768x1024, .f32⟩
  | .hbm, ⟨74, _⟩ => ⟨S32768x1024, .bf16⟩
  | .hbm, ⟨75, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S1x512, .f32⟩
  | .local _ .vmem, ⟨18, _⟩ => ⟨S1280x1024, .bf16⟩
  | .local _ .vmem, ⟨19, _⟩ => ⟨S1x1024, .f32⟩
  | .local _ .vmem, ⟨20, _⟩ => ⟨S1x1024, .f32⟩
  | .local _ .vmem, ⟨21, _⟩ => ⟨S1024x128, .bf16⟩
  | .local _ .vmem, ⟨22, _⟩ => ⟨S1024x128, .bf16⟩
  | .local _ .vmem, ⟨23, _⟩ => ⟨S1x128, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x128, .f32⟩
  | .local _ .vmem, ⟨29, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_call1_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_call2_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_call3_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_call4_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_4 : Ref sig .tc := ⟨.hbm, 51, rfl⟩
abbrev main_call5_v0 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46_0 : Ref sig .tc := ⟨.hbm, 73, rfl⟩
abbrev main_v46_1 : Ref sig .tc := ⟨.hbm, 74, rfl⟩
abbrev main_v46_2 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1280x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== OutputIdeal.lean ====
variable {F : FTy → Type} [FloatOps F] [Named F]
def κ : String → Option EReal := fun
  | "part" => some ((1 / 96 : ℝ) : EReal)
  | _ => none
-- ==== OutputReferenceIdeal.lean ====
abbrev S32768x1024 : Shape := ⟨2, ![32768, 1024]⟩
abbrev S32768x256 : Shape := ⟨2, ![32768, 256]⟩
abbrev S32768x512 : Shape := ⟨2, ![32768, 512]⟩
abbrev S4x384 : Shape := ⟨2, ![4, 384]⟩
abbrev S4x1024x1024 : Shape := ⟨3, ![4, 1024, 1024]⟩
abbrev S4x1024 : Shape := ⟨2, ![4, 1024]⟩
abbrev S4x1024x32 : Shape := ⟨3, ![4, 1024, 32]⟩
abbrev S4x32 : Shape := ⟨2, ![4, 32]⟩
abbrev S32768x4x128 : Shape := ⟨3, ![32768, 4, 128]⟩
abbrev S32768x4x96 : Shape := ⟨3, ![32768, 4, 96]⟩
abbrev S_ : Shape := ⟨0, ![]⟩
abbrev S1x384 : Shape := ⟨2, ![1, 384]⟩
abbrev S384 : Shape := ⟨1, ![384]⟩
abbrev S32768x4 : Shape := ⟨2, ![32768, 4]⟩
abbrev S32768x4x1 : Shape := ⟨3, ![32768, 4, 1]⟩
abbrev S32768x384 : Shape := ⟨2, ![32768, 384]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩

abbrev nBuf : Space → Nat
  | .hbm => 155
  | .vmem => 0
  | .smem => 0
  | _ => 0

abbrev hbmTy0_0 (i : Nat) : BufTy := match i % 128 with
  | 0 => ⟨S32768x1024, .f32⟩
  | 1 => ⟨S32768x256, .f32⟩
  | 2 => ⟨S32768x512, .bf16⟩
  | 3 => ⟨S32768x512, .bf16⟩
  | 4 => ⟨S32768x512, .bf16⟩
  | 5 => ⟨S32768x512, .bf16⟩
  | 6 => ⟨S32768x512, .bf16⟩
  | 7 => ⟨S32768x512, .bf16⟩
  | 8 => ⟨S4x384, .f32⟩
  | 9 => ⟨S4x384, .f32⟩
  | 10 => ⟨S4x1024x1024, .f32⟩
  | 11 => ⟨S4x1024, .f32⟩
  | 12 => ⟨S4x1024, .f32⟩
  | 13 => ⟨S4x1024x32, .f32⟩
  | 14 => ⟨S4x32, .f32⟩
  | 15 => ⟨S32768x512, .f32⟩
  | 16 => ⟨S32768x4x128, .f32⟩
  | 17 => ⟨S32768x4x96, .f32⟩
  | 18 => ⟨S32768x4x96, .f32⟩
  | 19 => ⟨S32768x4x96, .f32⟩
  | 20 => ⟨S_, .f32⟩
  | 21 => ⟨S32768x4x96, .f32⟩
  | 22 => ⟨S32768x4x96, .f32⟩
  | 23 => ⟨S_, .f32⟩
  | 24 => ⟨S32768x4x96, .f32⟩
  | 25 => ⟨S32768x4x96, .f32⟩
  | 26 => ⟨S32768x512, .f32⟩
  | 27 => ⟨S32768x4x128, .f32⟩
  | 28 => ⟨S32768x4x96, .f32⟩
  | 29 => ⟨S32768x512, .f32⟩
  | 30 => ⟨S32768x4x128, .f32⟩
  | 31 => ⟨S32768x4x96, .f32⟩
  | 32 => ⟨S32768x4x96, .f32⟩
  | 33 => ⟨S32768x4x96, .f32⟩
  | 34 => ⟨S1x384, .f32⟩
  | 35 => ⟨S384, .f32⟩
  | 36 => ⟨S_, .f32⟩
  | 37 => ⟨S32768x4, .f32⟩
  | 38 => ⟨S32768x4x1, .f32⟩
  | 39 => ⟨S_, .f32⟩
  | 40 => ⟨S32768x4x1, .f32⟩
  | 41 => ⟨S32768x4x1, .f32⟩
  | 42 => ⟨S32768x4x96, .f32⟩
  | 43 => ⟨S32768x4x96, .f32⟩
  | 44 => ⟨S32768x4x96, .f32⟩
  | 45 => ⟨S_, .f32⟩
  | 46 => ⟨S32768x4, .f32⟩
  | 47 => ⟨S32768x4x1, .f32⟩
  | 48 => ⟨S_, .f32⟩
  | 49 => ⟨S32768x4x1, .f32⟩
  | 50 => ⟨S32768x4x1, .f32⟩
  | 51 => ⟨S32768x4x96, .f32⟩
  | 52 => ⟨S32768x4x96, .f32⟩
  | 53 => ⟨S_, .f32⟩
  | 54 => ⟨S32768x4x1, .f32⟩
  | 55 => ⟨S32768x4x1, .f32⟩
  | 56 => ⟨S32768x4x1, .f32⟩
  | 57 => ⟨S32768x4x96, .f32⟩
  | 58 => ⟨S32768x4x96, .f32⟩
  | 59 => ⟨S32768x384, .f32⟩
  | 60 => ⟨S1x384, .f32⟩
  | 61 => ⟨S32768x384, .f32⟩
  | 62 => ⟨S32768x384, .f32⟩
  | 63 => ⟨S32768x512, .f32⟩
  | 64 => ⟨S32768x4x128, .f32⟩
  | 65 => ⟨S32768x4x96, .f32⟩
  | 66 => ⟨S32768x4x96, .f32⟩
  | 67 => ⟨S32768x4x96, .f32⟩
  | 68 => ⟨S_, .f32⟩
  | 69 => ⟨S32768x4x96, .f32⟩
  | 70 => ⟨S32768x4x96, .f32⟩
  | 71 => ⟨S_, .f32⟩
  | 72 => ⟨S32768x4x96, .f32⟩
  | 73 => ⟨S32768x4x96, .f32⟩
  | 74 => ⟨S32768x4x96, .f32⟩
  | 75 => ⟨S32768x384, .f32⟩
  | 76 => ⟨S32768x512, .f32⟩
  | 77 => ⟨S32768x4x128, .f32⟩
  | 78 => ⟨S32768x4x96, .f32⟩
  | 79 => ⟨S32768x512, .f32⟩
  | 80 => ⟨S32768x4x128, .f32⟩
  | 81 => ⟨S32768x4x96, .f32⟩
  | 82 => ⟨S32768x4x96, .f32⟩
  | 83 => ⟨S1x384, .f32⟩
  | 84 => ⟨S384, .f32⟩
  | 85 => ⟨S_, .f32⟩
  | 86 => ⟨S32768x4, .f32⟩
  | 87 => ⟨S32768x4x1, .f32⟩
  | 88 => ⟨S_, .f32⟩
  | 89 => ⟨S32768x4x1, .f32⟩
  | 90 => ⟨S32768x4x1, .f32⟩
  | 91 => ⟨S32768x4x96, .f32⟩
  | 92 => ⟨S32768x4x96, .f32⟩
  | 93 => ⟨S32768x4x96, .f32⟩
  | 94 => ⟨S_, .f32⟩
  | 95 => ⟨S32768x4, .f32⟩
  | 96 => ⟨S32768x4x1, .f32⟩
  | 97 => ⟨S_, .f32⟩
  | 98 => ⟨S32768x4x1, .f32⟩
  | 99 => ⟨S32768x4x1, .f32⟩
  | 100 => ⟨S32768x4x96, .f32⟩
  | 101 => ⟨S32768x4x96, .f32⟩
  | 102 => ⟨S_, .f32⟩
  | 103 => ⟨S32768x4x1, .f32⟩
  | 104 => ⟨S32768x4x1, .f32⟩
  | 105 => ⟨S32768x4x1, .f32⟩
  | 106 => ⟨S32768x4x96, .f32⟩
  | 107 => ⟨S32768x4x96, .f32⟩
  | 108 => ⟨S32768x384, .f32⟩
  | 109 => ⟨S1x384, .f32⟩
  | 110 => ⟨S32768x384, .f32⟩
  | 111 => ⟨S32768x384, .f32⟩
  | 112 => ⟨S32768x384, .f32⟩
  | 113 => ⟨S32768x1024, .f32⟩
  | 114 => ⟨S1x1024x1024, .f32⟩
  | 115 => ⟨S1024x1024, .f32⟩
  | 116 => ⟨S32768x1024, .f32⟩
  | 117 => ⟨S_, .f32⟩
  | 118 => ⟨S32768x1024, .f32⟩
  | 119 => ⟨S32768x1024, .f32⟩
  | 120 => ⟨S32768x1024, .f32⟩
  | 121 => ⟨S_, .f32⟩
  | 122 => ⟨S32768, .f32⟩
  | 123 => ⟨S32768x1, .f32⟩
  | 124 => ⟨S_, .f32⟩
  | 125 => ⟨S32768x1, .f32⟩
  | 126 => ⟨S32768x1, .f32⟩
  | 127 => ⟨S32768x1024, .f32⟩
  | _ => ⟨S32768x1024, .f32⟩

abbrev hbmTy0_1 (i : Nat) : BufTy := match i % 128 with
  | 0 => ⟨S32768x1024, .f32⟩
  | 1 => ⟨S32768x1024, .f32⟩
  | 2 => ⟨S_, .f32⟩
  | 3 => ⟨S32768, .f32⟩
  | 4 => ⟨S32768x1, .f32⟩
  | 5 => ⟨S_, .f32⟩
  | 6 => ⟨S32768x1, .f32⟩
  | 7 => ⟨S32768x1, .f32⟩
  | 8 => ⟨S32768x1024, .f32⟩
  | 9 => ⟨S32768x1024, .f32⟩
  | 10 => ⟨S_, .f32⟩
  | 11 => ⟨S32768x1, .f32⟩
  | 12 => ⟨S32768x1, .f32⟩
  | 13 => ⟨S32768x1, .f32⟩
  | 14 => ⟨S32768x1024, .f32⟩
  | 15 => ⟨S32768x1024, .f32⟩
  | 16 => ⟨S1x1024, .f32⟩
  | 17 => ⟨S1024, .f32⟩
  | 18 => ⟨S1x1024, .f32⟩
  | 19 => ⟨S32768x1024, .f32⟩
  | 20 => ⟨S32768x1024, .f32⟩
  | 21 => ⟨S1x1024, .f32⟩
  | 22 => ⟨S1024, .f32⟩
  | 23 => ⟨S1x1024, .f32⟩
  | 24 => ⟨S32768x1024, .f32⟩
  | 25 => ⟨S32768x1024, .f32⟩
  | 26 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_cst_7 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_8 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_11 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_12 : Ref sig .tc := ⟨.hbm, 121, rfl⟩
abbrev main_v85 : Ref sig .tc := ⟨.hbm, 122, rfl⟩
abbrev main_v86 : Ref sig .tc := ⟨.hbm, 123, rfl⟩
abbrev main_cst_13 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_14 : Ref sig .tc := ⟨.hbm, 130, rfl⟩
abbrev main_v92 : Ref sig .tc := ⟨.hbm, 131, rfl⟩
abbrev main_v93 : Ref sig .tc := ⟨.hbm, 132, rfl⟩
abbrev main_cst_15 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_16 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩

abbrev nD : Nat := 1
abbrev τ : Topo := Topo.v7x

variable {F : FTy → Type} [FloatOps F]
-- ==== Proof.Memory.lean ====
/-
  Whole-memref loads and stores.

  Every vector load and store of the kernel goes through a unit-stride rectangle at offset zero that is
  the whole memref. Such a load returns what the memref holds, such a store leaves the stored value.
  The two rules below say so in terms of `owns`, for any shape, element type and float reading.
-/
module

public import proofs.«01_k».proof.Proof.Gen.KernelIdeal.Skeleton
public import proofs.«01_k».proof.Proof.Gen.KernelIdeal.Launch
public import Idealize.ShloMosaic.Lib.Pipeline.Regions
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's algebra: the pipeline library's and the transfers' counters. -/
abbrev UU (nD : Nat) (τ : Topo) : Type := UR sig nD τ × Counters

/-- The resource model every assertion of this certificate lives in. -/
abbrev MM (F : FTy → Type) : Type := MT nD τ sig Unit (Elt F) ℕ (UU nD τ) ℕ

/-- No loop carries a variant. -/
abbrev 𝒱₀ : Variants := Variants.none

/-- The rectangle at offset zero of the full extent picks every index itself. -/
theorem unit_zero_emb {S : Shape} {off : Fin S.rank → Nat} (h : off = fun _ => 0)
    (inb : ∀ a, off a + S.size a ≤ S.size a) (x : S.Idx) : (Rect.unit (s := S) off S.size inb).emb x = x := by
  subst h
  funext a
  apply Fin.ext
  rw [Rect.emb_apply]
  show 0 + 1 * (x a).val = (x a).val
  omega

/-- A load of all of a memref continues at what the memref holds. -/
theorem owns_load (c : Dev nD) {S : Shape} {e : EltTy} (M : Memref sig .tc .vmem S e) {off : Fin S.rank → Nat} (h : off = fun _ => 0)
    {inb : ∀ a, off a + S.size a ≤ S.size a} {hl : M.view.LoadsAt (Rect.unit (s := S) off S.size inb).toLoadRect}
    {q : PosShare TreeShare} {X : S.Idx → Elt F e} {k : (S.Idx → Elt F e) → Prog (TpuEff nD τ sig (Elt F) Λ₀ .tc) PUnit.{1}}
    {K : PUnit.{1} → sProp (MM F)} :
    (owns (c : Thread nD τ) M q X : sProp (MM F))
      ⊢ iprop((owns (c : Thread nD τ) M q X -∗ wp frame (wpE (defs₀ (F := F)) 𝒱₀ c none) Set.univ (k X) K)
        -∗ wp frame (wpE (defs₀ (F := F)) 𝒱₀ c none) Set.univ (.op (.load M (Rect.unit (s := S) off S.size inb).toLoadRect hl) k) K) := by
  have hr : ∀ f : Buf (Elt F) (M.view.loc (c : Thread nD τ)),
      (M.access (Rect.unit (s := S) off S.size inb)).read (Elt F) f = M.view.read (Elt F) f := fun f => by
    funext x
    show _root_.cast _ (f (M.view.emb ((Rect.unit (s := S) off S.size inb).emb x))) = _root_.cast _ (f (M.view.emb x))
    rw [unit_zero_emb h]
  unfold owns
  iintro ⟨%f, %hf, H⟩ Hk
  iapply (wp_load_rect 𝒱₀ (c : Thread nD τ) none Set.univ (m := M) (r := Rect.unit (s := S) off S.size inb) (View.set_slice_subset _ _)) $$ H
  iintro H
  rw [hr, hf]
  iapply Hk
  iexists f; isplitr; · ipureintro; exact hf
  iexact H

/-- A store through all of a memref leaves the stored value. -/
theorem owns_store (c : Dev nD) {S : Shape} {e : EltTy} (M : Memref sig .tc .vmem S e) {off : Fin S.rank → Nat} (h : off = fun _ => 0)
    {inb : ∀ a, off a + S.size a ≤ S.size a} {w : S.Idx → Elt F e}
    {hx : (M.access (Rect.unit (s := S) off S.size inb)).Stores Finset.univ}
    {hm : Finset.univ = Finset.univ ∨ ∀ a, (Rect.unit (s := S) off S.size inb).stride a = 1}
    {X : S.Idx → Elt F e} {k : PUnit.{1} → Prog (TpuEff nD τ sig (Elt F) Λ₀ .tc) PUnit.{1}}
    {K : PUnit.{1} → sProp (MM F)} :
    (owns (c : Thread nD τ) M fullShare X : sProp (MM F))
      ⊢ iprop((owns (c : Thread nD τ) M fullShare w -∗ wp frame (wpE (defs₀ (F := F)) 𝒱₀ c none) Set.univ (k ⟨⟩) K)
        -∗ wp frame (wpE (defs₀ (F := F)) 𝒱₀ c none) Set.univ (.op (.store M (Rect.unit (s := S) off S.size inb) w Finset.univ hx hm) k) K) := by
  have hr : ∀ f : Buf (Elt F) (M.view.loc (c : Thread nD τ)),
      M.view.read (Elt F) ((M.access (Rect.unit (s := S) off S.size inb)).write (Elt F) f w Finset.univ) = w := fun f => by
    funext y
    conv_lhs => rw [← unit_zero_emb h inb y]
    rw [View.read_slice_write_emb _ _ _ (Finset.mem_univ _)]
  unfold owns
  iintro ⟨%f, %hf, H⟩ Hk
  iapply (wp_store 𝒱₀ (c : Thread nD τ) none Set.univ (m := M) (r := Rect.unit (s := S) off S.size inb) (Mk := Finset.univ) (View.set_slice_subset _ _)) $$ H
  iintro H
  iapply Hk
  iexists _; isplitr; swap
  · iexact H
  · ipureintro; exact hr f

end Cert.Proof

end
-- ==== Proof.Body.lean ====
/-
  One grid point of the routed-experts kernel.

  The body first compares the expert of its block with the expert of the block before it; where they
  differ, or at the first block, it rounds the two weight blocks to bf16 into the two scratch buffers.
  Then, on a block below the number of used blocks, it writes the expert's two products of the row block
  over the scratch weights to the result block; on a block at or past that number it writes zeros.
-/
module

public import proofs.«01_k».proof.Proof.Memory

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The tables' contents, for a float reading `F` (they hold integers only). -/
abbrev Tables (F : FTy → Type) : Type := pre0.Contents (Elt F)

/-- The expert of the grid point's own block, as the body loads it from the block table; -/
abbrev expertNow (i : grid0.Coords) (pf : Tables F) : BitVec 32 :=
  pf.at 0 (Rect.unit (s := S288) (k0_off1 i) S1.size (k0_off1_inb i)) numel1_S1

/-- the expert of the block before it (of the block itself at the first); -/
abbrev expertBefore (i : grid0.Coords) (pf : Tables F) : BitVec 32 :=
  pf.at 0 (Rect.unit (s := S288) (k0_off2 i) S1.size (k0_off2_inb i)) numel1_S1

/-- and the number of used blocks. -/
abbrev usedBlocks (pf : Tables F) : BitVec 32 :=
  pf.at 1 (Rect.unit (s := S1) ![0] S1.size inb_S1_S1_0) numel1_S1

/-- The body's first condition: the block is the first, or its expert is not the one before's. -/
def reload (i : grid0.Coords) (pf : Tables F) : Prop :=
  Scalar.cmpi .ne (Scalar.extui (Scalar.ori (Scalar.cmpi .eq (BitVec.ofNat 32 (i 0).val) 0#32)
    (Scalar.cmpi .ne (expertNow i pf) (expertBefore i pf)))) 0#32 = 1#1

instance (i : grid0.Coords) (pf : Tables F) : Decidable (reload i pf) := by unfold reload; infer_instance

/-- The scratch weights after the point: reloaded or as they were. -/
def scr0 (i : grid0.Coords) (pf : Tables F) (w : Vec F S1x1024x2048 .f32) (s : Vec F S1024x2048 .bf16) : Vec F S1024x2048 .bf16 :=
  if reload i pf then k0_pay1 w else s
def scr1 (i : grid0.Coords) (pf : Tables F) (w : Vec F S1x1024x1024 .f32) (s : Vec F S1024x1024 .bf16) : Vec F S1024x1024 .bf16 :=
  if reload i pf then k0_pay2 w else s

/-- What the point leaves in the result block. -/
def outBlk (i : grid0.Coords) (pf : Tables F) (x : Vec F S512x1024 .bf16) (s0 : Vec F S1024x2048 .bf16) (b1 : Vec F S1x1x2048 .f32)
    (s1 : Vec F S1024x1024 .bf16) (b2 : Vec F S1x1x1024 .f32) : Vec F S512x1024 .bf16 :=
  if k0_cond2 i (usedBlocks pf) = 1#1 then k0_pay3 x s0 b1 s1 b2 else k0_pay4

theorem extui_ne (b : BitVec 1) : Scalar.cmpi .ne (Scalar.extui b : BitVec 32) 0#32 = b := by
  revert b; decide

/-- "At or past the number of used blocks" is exactly "not below it". -/
theorem cond3_iff (i : grid0.Coords) (v : BitVec 32) : k0_cond3 i v = 1#1 ↔ ¬ k0_cond2 i v = 1#1 := by
  unfold k0_cond3 k0_cond2
  simp only [extui_ne]
  show BitVec.ofBool (v.sle (BitVec.ofNat 32 (i 0).val)) = 1#1 ↔ ¬ BitVec.ofBool ((BitVec.ofNat 32 (i 0).val).slt v) = 1#1
  rw [BitVec.sle_eq_not_slt]
  cases (BitVec.ofNat 32 (i 0).val).slt v <;> decide

/-- The block table's contents as its buffer's, -/
def tab0 (c : Dev nD) (pf : Tables F) : Buf (Elt F) ((c : Thread nD τ).loc main_arg0) := pf 0
/-- and the word of used blocks as its buffer's. -/
def tab1 (c : Dev nD) (pf : Tables F) : Buf (Elt F) ((c : Thread nD τ).loc main_arg1) := pf 1

/-- The two tables, each whole at the full share. -/
theorem tables_eq (c : Dev nD) (pf : Tables F) :
    (Pipeline.prefHeld pre0 c (fun _ => fullShare) pf : sProp (MM F))
      = iprop((((c : Thread nD τ).loc main_arg0) ↦{fullShare} tab0 c pf) ∗ (((c : Thread nD τ).loc main_arg1) ↦{fullShare} tab1 c pf)) := by
  unfold Pipeline.prefHeld
  rw [show (Finset.univ : Finset (Fin 2)) = insert 0 {1} from by decide, bigSep_insert (by decide), bigSep_singleton]
  rfl

theorem z2 : (![0, 0] : Fin 2 → Nat) = fun _ => 0 := funext fun a => by fin_cases a <;> rfl
theorem z3 : (![0, 0, 0] : Fin 3 → Nat) = fun _ => 0 := funext fun a => by fin_cases a <;> rfl

/-- The body at any grid point, over any staging memrefs and any scratch contents. -/
theorem body_run (c : Dev nD) (i : grid0.Coords) (pf : Tables F)
    (M3 : Memref sig .tc .vmem S512x1024 .bf16) (h3 : M3.IsWhole) (M4 : Memref sig .tc .vmem S1x1024x2048 .f32) (h4 : M4.IsWhole)
    (M5 : Memref sig .tc .vmem S1x1x2048 .f32) (h5 : M5.IsWhole) (M6 : Memref sig .tc .vmem S1x1024x1024 .f32) (h6 : M6.IsWhole)
    (M7 : Memref sig .tc .vmem S1x1x1024 .f32) (h7 : M7.IsWhole) (M8 : Memref sig .tc .vmem S512x1024 .bf16) (h8 : M8.IsWhole)
    (M9 : Memref sig .tc .vmem S1024x2048 .bf16) (h9 : M9.IsWhole) (M10 : Memref sig .tc .vmem S1024x1024 .bf16) (h10 : M10.IsWhole)
    (x : Vec F S512x1024 .bf16) (w1 : Vec F S1x1024x2048 .f32) (b1 : Vec F S1x1x2048 .f32) (w2 : Vec F S1x1024x1024 .f32)
    (b2 : Vec F S1x1x1024 .f32) (s0 : Vec F S1024x2048 .bf16) (s1 : Vec F S1024x1024 .bf16) {K : PUnit.{1} → sProp (MM F)} :
    iprop(Pipeline.prefHeld pre0 c (fun _ => fullShare) pf ∗ owns (c : Thread nD τ) M3 fullShare x ∗ owns (c : Thread nD τ) M4 fullShare w1
        ∗ owns (c : Thread nD τ) M5 fullShare b1 ∗ owns (c : Thread nD τ) M6 fullShare w2 ∗ owns (c : Thread nD τ) M7 fullShare b2
        ∗ (∃ d, owns (c : Thread nD τ) M8 fullShare d) ∗ owns (c : Thread nD τ) M9 fullShare s0 ∗ owns (c : Thread nD τ) M10 fullShare s1)
      ⊢ iprop(((Pipeline.prefHeld pre0 c (fun _ => fullShare) pf ∗ owns (c : Thread nD τ) M3 fullShare x ∗ owns (c : Thread nD τ) M4 fullShare w1
          ∗ owns (c : Thread nD τ) M5 fullShare b1 ∗ owns (c : Thread nD τ) M6 fullShare w2 ∗ owns (c : Thread nD τ) M7 fullShare b2
          ∗ owns (c : Thread nD τ) M8 fullShare (outBlk i pf x (scr0 i pf w1 s0) b1 (scr1 i pf w2 s1) b2)
          ∗ owns (c : Thread nD τ) M9 fullShare (scr0 i pf w1 s0) ∗ owns (c : Thread nD τ) M10 fullShare (scr1 i pf w2 s1)) -∗ K ⟨⟩)
        -∗ wp frame (wpE (defs₀ (F := F)) 𝒱₀ c none) Set.univ
            (cc0_routed_experts i (Memref.whole main_arg0) (Memref.isWhole_whole _) (Memref.whole main_arg1) (Memref.isWhole_whole _)
              M3 h3 M4 h4 M5 h5 M6 h6 M7 h7 M8 h8 M9 h9 M10 h10) K) := by
  rw [cc0_routed_experts_eq_skeleton]
  unfold cc0_routed_experts_skel
  rw [tables_eq]
  simp only [smemLoad, smemLoadElt, Prog.lift, Prog.bind_op, Prog.bind_ret, Prog.pure_eq_ret, Prog.bind_assoc]
  iintro ⟨⟨HA, HN⟩, H3, H4, H5, H6, H7, ⟨%d, H8⟩, H9, H10⟩ Hk
  iapply (wp_load_rect 𝒱₀ (c : Thread nD τ) none Set.univ (m := Memref.whole main_arg0) (r := Rect.unit (s := S288) (k0_off1 i) S1.size (k0_off1_inb i)) (Finset.subset_univ _)) $$ HA
  iintro HA
  iapply (wp_load_rect 𝒱₀ (c : Thread nD τ) none Set.univ (m := Memref.whole main_arg0) (r := Rect.unit (s := S288) (k0_off2 i) S1.size (k0_off2_inb i)) (Finset.subset_univ _)) $$ HA
  iintro HA
  split <;> rename_i hr
  · have e0 : scr0 i pf w1 s0 = k0_pay1 w1 := if_pos hr
    have e1 : scr1 i pf w2 s1 = k0_pay2 w2 := if_pos hr
    iapply (owns_load c M4 z3) $$ H4
    iintro H4
    iapply (owns_load c M9 z2) $$ H9
    iintro H9
    iapply (owns_store c M9 z2) $$ H9
    iintro H9
    iapply (owns_load c M6 z3) $$ H6
    iintro H6
    iapply (owns_load c M10 z2) $$ H10
    iintro H10
    iapply (owns_store c M10 z2) $$ H10
    iintro H10
    iapply (wp_load_rect 𝒱₀ (c : Thread nD τ) none Set.univ (m := Memref.whole main_arg1) (r := Rect.unit (s := S1) ![0] S1.size inb_S1_S1_0) (Finset.subset_univ _)) $$ HN
    iintro HN
    split <;> rename_i hc
    · have hu : k0_cond2 i (usedBlocks pf) = 1#1 := hc
      iapply (owns_load c M3 z2) $$ H3
      iintro H3
      iapply (owns_load c M9 z2) $$ H9
      iintro H9
      iapply (owns_load c M5 z3) $$ H5
      iintro H5
      iapply (owns_load c M10 z2) $$ H10
      iintro H10
      iapply (owns_load c M7 z3) $$ H7
      iintro H7
      iapply (owns_load c M8 z2) $$ H8
      iintro H8
      iapply (owns_store c M8 z2) $$ H8
      iintro H8
      iapply (wp_load_rect 𝒱₀ (c : Thread nD τ) none Set.univ (m := Memref.whole main_arg1) (r := Rect.unit (s := S1) ![0] S1.size inb_S1_S1_0) (Finset.subset_univ _)) $$ HN
      iintro HN
      split
      · rename_i h; exact absurd hu ((cond3_iff i (usedBlocks pf)).mp h)
      rw [wp_ret]
      imodintro
      iapply Hk
      rw [show outBlk i pf x (scr0 i pf w1 s0) b1 (scr1 i pf w2 s1) b2 = k0_pay3 x (scr0 i pf w1 s0) b1 (scr1 i pf w2 s1) b2 from if_pos hu,
        e0, e1]
      isplitl [HA HN]
      · isplitl [HA] <;> iassumption
      isplitl [H3]; · iexact H3
      isplitl [H4]; · iexact H4
      isplitl [H5]; · iexact H5
      isplitl [H6]; · iexact H6
      isplitl [H7]; · iexact H7
      isplitl [H8]; · iexact H8
      isplitl [H9] <;> iassumption
    · have hu : ¬ k0_cond2 i (usedBlocks pf) = 1#1 := hc
      iapply (wp_load_rect 𝒱₀ (c : Thread nD τ) none Set.univ (m := Memref.whole main_arg1) (r := Rect.unit (s := S1) ![0] S1.size inb_S1_S1_0) (Finset.subset_univ _)) $$ HN
      iintro HN
      split
      swap
      · rename_i h; exact absurd ((cond3_iff i (usedBlocks pf)).mpr hu) h
      iapply (owns_load c M8 z2) $$ H8
      iintro H8
      iapply (owns_store c M8 z2) $$ H8
      iintro H8
      rw [wp_ret]
      imodintro
      iapply Hk
      rw [show outBlk i pf x (scr0 i pf w1 s0) b1 (scr1 i pf w2 s1) b2 = k0_pay4 from if_neg hu, e0, e1]
      isplitl [HA HN]
      · isplitl [HA] <;> iassumption
      isplitl [H3]; · iexact H3
      isplitl [H4]; · iexact H4
      isplitl [H5]; · iexact H5
      isplitl [H6]; · iexact H6
      isplitl [H7]; · iexact H7
      isplitl [H8]; · iexact H8
      isplitl [H9] <;> iassumption
  · have e0 : scr0 i pf w1 s0 = s0 := if_neg hr
    have e1 : scr1 i pf w2 s1 = s1 := if_neg hr
    iapply (wp_load_rect 𝒱₀ (c : Thread nD τ) none Set.univ (m := Memref.whole main_arg1) (r := Rect.unit (s := S1) ![0] S1.size inb_S1_S1_0) (Finset.subset_univ _)) $$ HN
    iintro HN
    split <;> rename_i hc
    · have hu : k0_cond2 i (usedBlocks pf) = 1#1 := hc
      iapply (owns_load c M3 z2) $$ H3
      iintro H3
      iapply (owns_load c M9 z2) $$ H9
      iintro H9
      iapply (owns_load c M5 z3) $$ H5
      iintro H5
      iapply (owns_load c M10 z2) $$ H10
      iintro H10
      iapply (owns_load c M7 z3) $$ H7
      iintro H7
      iapply (owns_load c M8 z2) $$ H8
      iintro H8
      iapply (owns_store c M8 z2) $$ H8
      iintro H8
      iapply (wp_load_rect 𝒱₀ (c : Thread nD τ) none Set.univ (m := Memref.whole main_arg1) (r := Rect.unit (s := S1) ![0] S1.size inb_S1_S1_0) (Finset.subset_univ _)) $$ HN
      iintro HN
      split
      · rename_i h; exact absurd hu ((cond3_iff i (usedBlocks pf)).mp h)
      rw [wp_ret]
      imodintro
      iapply Hk
      rw [show outBlk i pf x (scr0 i pf w1 s0) b1 (scr1 i pf w2 s1) b2 = k0_pay3 x (scr0 i pf w1 s0) b1 (scr1 i pf w2 s1) b2 from if_pos hu,
        e0, e1]
      isplitl [HA HN]
      · isplitl [HA] <;> iassumption
      isplitl [H3]; · iexact H3
      isplitl [H4]; · iexact H4
      isplitl [H5]; · iexact H5
      isplitl [H6]; · iexact H6
      isplitl [H7]; · iexact H7
      isplitl [H8]; · iexact H8
      isplitl [H9] <;> iassumption
    · have hu : ¬ k0_cond2 i (usedBlocks pf) = 1#1 := hc
      iapply (wp_load_rect 𝒱₀ (c : Thread nD τ) none Set.univ (m := Memref.whole main_arg1) (r := Rect.unit (s := S1) ![0] S1.size inb_S1_S1_0) (Finset.subset_univ _)) $$ HN
      iintro HN
      split
      swap
      · rename_i h; exact absurd ((cond3_iff i (usedBlocks pf)).mpr hu) h
      iapply (owns_load c M8 z2) $$ H8
      iintro H8
      iapply (owns_store c M8 z2) $$ H8
      iintro H8
      rw [wp_ret]
      imodintro
      iapply Hk
      rw [show outBlk i pf x (scr0 i pf w1 s0) b1 (scr1 i pf w2 s1) b2 = k0_pay4 from if_neg hu, e0, e1]
      isplitl [HA HN]
      · isplitl [HA] <;> iassumption
      isplitl [H3]; · iexact H3
      isplitl [H4]; · iexact H4
      isplitl [H5]; · iexact H5
      isplitl [H6]; · iexact H6
      isplitl [H7]; · iexact H7
      isplitl [H8]; · iexact H8
      isplitl [H9] <;> iassumption

end Cert.Proof

end
-- ==== Proof.Tables.lean ====
/-
  What the kernel reads from its two prefetched tables.

  The grid walks the 288 blocks in order. At block `t` the body reads entry `t` of the block table (the
  block's expert), entry `t - 1` (the expert of the block before) and the number of used blocks.
-/
module

public import proofs.«01_k».proof.Proof.Body

@[expose] public section

set_option maxRecDepth 16384

noncomputable section

namespace Cert.Proof

open Cert.KernelIdeal Cert.KernelIdeal.Gen

open Idealize.ShloMosaic Idealize.SL.Sem

variable {F : FTy → Type} [FloatOps F]

/-- Point `t` of the grid has coordinate `t`. -/
theorem coord_val : ∀ t : Fin grid0.N, ((grid0.coords t) 0).val = t.val := by decide +kernel

/-- Point `t` reads the table's entry before it at `t - 1`. -/
theorem off2_eq : ∀ t : Fin grid0.N, k0_off2 (grid0.coords t) 0 = t.val - 1 := by decide +kernel

/-- The point of a block number below 288. -/
def pt (n : Nat) (h : n < 288) : Fin grid0.N := ⟨n, lt_of_lt_of_eq h N_0.symm⟩

theorem lt_288 (t : Fin grid0.N) : t.val < 288 := lt_of_lt_of_eq t.isLt N_0

/-- The block table's index of entry `n`. -/
def ent (n : Nat) (h : n < 288) : S288.Idx := fun a => ⟨n, by fin_cases a; exact h⟩

/-- The index of the one word that counts the used blocks. -/
def one : S1.Idx := fun a => ⟨0, by fin_cases a; decide⟩

/-- A one-element rectangle at offset `n` picks entry `n`. -/
theorem emb_ent {off : Fin 1 → Nat} (inb : ∀ a, off a + S1.size a ≤ S288.size a) (x : S1.Idx) (n : Nat) (h : n < 288)
    (e : off 0 = n) : (Rect.unit (s := S288) off S1.size inb).emb x = ent n h := by
  funext a
  apply Fin.ext
  rw [Rect.emb_apply]
  fin_cases a
  have hx : (x 0).val < 1 := (x 0).isLt
  show off 0 + 1 * (x 0).val = n
  omega

theorem emb_one (x : S1.Idx) : (Rect.unit (s := S1) ![0] S1.size inb_S1_S1_0).emb x = one := by
  funext a
  apply Fin.ext
  rw [Rect.emb_apply]
  fin_cases a
  have hx : (x 0).val < 1 := (x 0).isLt
  show 0 + 1 * (x 0).val = 0
  omega

theorem expertNow_eq (t : Fin grid0.N) (pf : Tables F) :
    expertNow (grid0.coords t) pf = pf 0 (ent t.val (lt_288 t)) :=
  congrArg (pf 0) (emb_ent (k0_off1_inb (grid0.coords t)) _ _ _ (by rw [k0_off1_eq]; exact coord_val t))

theorem expertBefore_eq (t : Fin grid0.N) (pf : Tables F) :
    expertBefore (grid0.coords t) pf = pf 0 (ent (t.val - 1) (by have := lt_288 t; omega)) :=
  congrArg (pf 0) (emb_ent (k0_off2_inb (grid0.coords t)) _ _ _ (off2_eq t))

theorem usedBlocks_eq (pf : Tables F) : usedBlocks pf = pf 1 one := congrArg (pf 1) (emb_one _)

/-- Where the weights are not reloaded the block is not the first and has the expert of the one before. -/
theorem not_reload (t : Fin grid0.N) (pf : Tables F) (h : ¬ reload (grid0.coords t) pf) :
    0 < t.val ∧ expertNow (grid0.coords t) pf = expertBefore (grid0.coords t) pf := by
  unfold reload at h
  rw [extui_ne] at h
  have h' : ¬ (BitVec.ofBool (BitVec.ofNat 32 ((grid0.coords t) 0).val == 0#32)
      ||| BitVec.ofBool (expertNow (grid0.coords t) pf != expertBefore (grid0.coords t) pf)) = 1#1 := h
  constructor
  · rcases Nat.eq_zero_or_pos t.val with h0 | h0
    · exfalso; apply h'
      rw [coord_val, h0]
      generalize (expertNow (grid0.coords t) pf != expertBefore (grid0.coords t) pf) = b
      revert b; decide
    · exact h0
  · by_contra hne
    apply h'
    rw [show (expertNow (grid0.coords t) pf != expertBefore (grid0.coords t) pf) = true from by simpa using hne]
    generalize (BitVec.ofNat 32 ((grid0.coords t) 0).val == 0#32) = b
    revert b; decide

/-- There, the expert is also the one the previous point read. -/
theorem not_reload_prev (t u : Fin grid0.N) (hu : u.val + 1 = t.val) (pf : Tables F) (h : ¬ reload (grid0.coords t) pf) :
    expertNow (grid0.coords t) pf = expertNow (grid0.coords u) pf := by
  rw [(not_reload t pf h).2, expertBefore_eq, expertNow_eq]
  congr 1
  exact funext fun _ => Fin.ext (by show t.val - 1 = u.val; omega)

/-- No window is ever idle: at every point one of the two stores to the result block is made. -/
theorem idle_false (a : (pcfg0 (F := F)).Adm) (w : Fin 6) (i : grid0.Coords) : (cfg0 a).idle w i = false := by
  have key : ∀ v : BitVec 32, (!(k0_cond2 i v == 1#1) && !(k0_cond3 i v == 1#1)) = false := fun v => by
    by_cases h : k0_cond2 i v = 1#1
    · rw [h]; rfl
    · rw [(cond3_iff i v).mpr h]; simp
  fin_cases w
  · rfl
  · rfl
  · rfl
  · rfl
  · rfl
  · exact key _

end Cert.Proof

end
-- ==== Proof.Run.lean ====
/-
  The run of the routed-experts program, for any float reading.

  @main is four reshapes of the weight arrays, then one pipelined launch over a grid of 288 blocks whose
  block indices are read from two prefetched tables. Given tables the pipeline may run at, every execution
  ends with every argument as it was and the result array at the contents the pipeline's proof data name.
-/
module

public import proofs.«01_k».proof.Proof.Tables
public import Idealize.ShloMosaic.Lib.Pipeline.FrameBody
public import Idealize.ShloMosaic.Lib.Pipeline.Kit

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline library's algebra is the left component of the certificate's. -/
abbrev EP : Emb (UR sig nD τ) (MM F) := embL

variable (m : (ℓ : Loc nD τ sig) → Buf (Elt F) ℓ) (ρ : Dev nD → PrngReg) (a : (pcfg0 (F := F)).Adm)

/-! ## Before the launch: four reshapes -/

/-- The launch state: memory `m`, every counter at zero. -/
abbrev s₀ : MemSt nD τ sig (Elt F) := ⟨m, fun _ => 0, ρ⟩

/-- Core `c`'s buffers at launch, -/
abbrev V₀ (c : Dev nD) : Valuation τ sig (Elt F) := fun b => (s₀ m ρ).mem ((c : Dev nD), b)
/-- and once the reshapes have run. -/
abbrev V (c : Dev nD) (b : Ref sig .tc) : Buf (Elt F) ((c : Thread nD τ).loc b) := StableHlo.after hostOps0 (V₀ m ρ c) b

/-- A reshape writes its result only. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.reshape_writes, Finset.mem_singleton] <;>
    exact StableHlo.devRef_ne_of_ne ‹_›

/-- So a buffer that is no reshape's result reaches the launch as it was. -/
theorem V_of_not_written (c : Dev nD) (b : Ref sig .tc) (hb : b ≠ main_v0 ∧ b ≠ main_v1 ∧ b ≠ main_v2 ∧ b ≠ main_v3) :
    V m ρ c b = m ((c : Thread nD τ).loc b) :=
  StableHlo.after_of_forall_not_mem (b := Proc.devRef .tc b) hostOps0 (V₀ m ρ c) (not_written b hb)

/-- The buffers the reshapes run within: those that outlive a launch. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp (MM F)) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The pipeline's proof data -/

/-- The tables' contents the pipeline runs at. -/
abbrev pf : Tables F := a.1

/-- Window `w`'s block of its array at point `t`, as the launch finds the array. -/
def blkAt (c : Dev nD) (w : Fin 6) (t : Fin grid0.N) : ((cfg0 a).win w).block.Idx → Elt F ((cfg0 a).win w).elt :=
  (((cfg0 a).win w).blk t).view.read (Elt F) (V m ρ c (Pipeline.arrRef spec0 w))

/-- What point `t` leaves in the result block: the expert's products of the row block over the two weight
    blocks rounded to bf16, or zeros. -/
def resAt (c : Dev nD) (t : Fin grid0.N) : Vec F S512x1024 .bf16 :=
  outBlk (grid0.coords t) (pf a) (blkAt m ρ a c 0 t) (k0_pay1 (blkAt m ρ a c 1 t)) (blkAt m ρ a c 2 t)
    (k0_pay2 (blkAt m ρ a c 3 t)) (blkAt m ρ a c 4 t)

/-- The scratch weights once the points below `t` have run: those of the last of them. -/
def Scratch (c : Dev nD) (t : Nat) (s0 : Vec F S1024x2048 .bf16) (s1 : Vec F S1024x1024 .bf16) : Prop :=
  ∀ u : Fin grid0.N, u.val + 1 = t → s0 = k0_pay1 (blkAt m ρ a c 1 u) ∧ s1 = k0_pay2 (blkAt m ρ a c 3 u)

/-- The invariant before point `t`: the tables, and the two scratch buffers at the last point's weights. -/
def Φc (c : Dev nD) (t : Nat) : sProp (MM F) :=
  iprop(Pipeline.prefHeld pre0 c (fun _ => fullShare) (pf a)
    ∗ ∃ (s0 : Vec F S1024x2048 .bf16) (s1 : Vec F S1024x1024 .bf16), ⌜Scratch m ρ a c t s0 s1⌝
      ∗ owns (c : Thread nD τ) (Memref.whole cc0_scratch0) fullShare s0 ∗ owns (c : Thread nD τ) (Memref.whole cc0_scratch1) fullShare s1)

/-- The admissible tables of the program's one pipeline. -/
abbrev adm : (p : Fin 1) → (pcfgs (F := F) p).Adm := fun _ => a

/-- The proof data on core `c`. -/
def dats (_ : Fin 1) (c : Dev nD) : Dat τ (Elt F) Unit ℕ (UU nD τ) ℕ (cfg0 a) c where
  A w := V m ρ c (Pipeline.arrRef spec0 w)
  after w t := match w with
    | ⟨0, _⟩ => blkAt m ρ a c 0 t
    | ⟨1, _⟩ => blkAt m ρ a c 1 t
    | ⟨2, _⟩ => blkAt m ρ a c 2 t
    | ⟨3, _⟩ => blkAt m ρ a c 3 t
    | ⟨4, _⟩ => blkAt m ρ a c 4 t
    | ⟨5, _⟩ => resAt m ρ a c t
    | ⟨_ + 6, h⟩ => absurd h (Nat.not_lt.2 (Nat.le_add_left _ _))
  Φ t := Φc m ρ a c t.val
  q _ := fullShare
  owed _ := 0

theorem A_eq (c : Dev nD) (w : Fin 6) : (dats m ρ a 0 c).A w = V m ρ c (Pipeline.arrRef spec0 w) := by
  dsimp only [dats]

/-- An input window's buffer holds its block when the body runs. -/
theorem before0 (c : Dev nD) (t : Fin grid0.N) (d) : (dats m ρ a 0 c).before (0 : Fin 6) t d = blkAt m ρ a c 0 t :=
  (dats m ρ a 0 c).before_in_eq_fetched 0 rfl (idle_false a 0) (fun _ _ _ => rfl) (fun _ => rfl) t d
theorem before1 (c : Dev nD) (t : Fin grid0.N) (d) : (dats m ρ a 0 c).before (1 : Fin 6) t d = blkAt m ρ a c 1 t :=
  (dats m ρ a 0 c).before_in_eq_fetched 1 rfl (idle_false a 1) (fun _ _ _ => rfl) (fun _ => rfl) t d
theorem before2 (c : Dev nD) (t : Fin grid0.N) (d) : (dats m ρ a 0 c).before (2 : Fin 6) t d = blkAt m ρ a c 2 t :=
  (dats m ρ a 0 c).before_in_eq_fetched 2 rfl (idle_false a 2) (fun _ _ _ => rfl) (fun _ => rfl) t d
theorem before3 (c : Dev nD) (t : Fin grid0.N) (d) : (dats m ρ a 0 c).before (3 : Fin 6) t d = blkAt m ρ a c 3 t :=
  (dats m ρ a 0 c).before_in_eq_fetched 3 rfl (idle_false a 3) (fun _ _ _ => rfl) (fun _ => rfl) t d
theorem before4 (c : Dev nD) (t : Fin grid0.N) (d) : (dats m ρ a 0 c).before (4 : Fin 6) t d = blkAt m ρ a c 4 t :=
  (dats m ρ a 0 c).before_in_eq_fetched 4 rfl (idle_false a 4) (fun _ _ _ => rfl) (fun _ => rfl) t d

/-- Two points of one expert have one block of the first weights, -/
theorem blk1_congr (c : Dev nD) (t u : Fin grid0.N) (h : expertNow (grid0.coords t) (pf a) = expertNow (grid0.coords u) (pf a)) :
    blkAt m ρ a c 1 t = blkAt m ρ a c 1 u := by
  have hix : ((cfg0 a).win 1).index t = ((cfg0 a).win 1).index u := by
    show cc0_transform_1 k0_off1_inb numel1_S1 (pf a) (grid0.coords t) = cc0_transform_1 k0_off1_inb numel1_S1 (pf a) (grid0.coords u)
    show (![(Scalar.addi 32#32 (expertNow (grid0.coords t) (pf a))).toNat, 0, 0] : Fin 3 → Nat)
      = ![(Scalar.addi 32#32 (expertNow (grid0.coords u) (pf a))).toNat, 0, 0]
    rw [h]
  exact (dats m ρ a 0 c).fetched_congr 1 hix rfl (blkAt m ρ a c 1 t)

/-- and one block of the second. -/
theorem blk3_congr (c : Dev nD) (t u : Fin grid0.N) (h : expertNow (grid0.coords t) (pf a) = expertNow (grid0.coords u) (pf a)) :
    blkAt m ρ a c 3 t = blkAt m ρ a c 3 u := by
  have hix : ((cfg0 a).win 3).index t = ((cfg0 a).win 3).index u := by
    show (![(Scalar.addi 32#32 (expertNow (grid0.coords t) (pf a))).toNat, 0, 0] : Fin 3 → Nat)
      = ![(Scalar.addi 32#32 (expertNow (grid0.coords u) (pf a))).toNat, 0, 0]
    rw [h]
  exact (dats m ρ a 0 c).fetched_congr 3 hix rfl (blkAt m ρ a c 3 t)

/-- After point `t` the scratch holds `t`'s weights rounded, reloaded there or kept from the point before. -/
theorem scratch_step (c : Dev nD) (t : Fin grid0.N) (s0 : Vec F S1024x2048 .bf16) (s1 : Vec F S1024x1024 .bf16)
    (h : Scratch m ρ a c t.val s0 s1) :
    scr0 (grid0.coords t) (pf a) (blkAt m ρ a c 1 t) s0 = k0_pay1 (blkAt m ρ a c 1 t)
      ∧ scr1 (grid0.coords t) (pf a) (blkAt m ρ a c 3 t) s1 = k0_pay2 (blkAt m ρ a c 3 t) := by
  by_cases hr : reload (grid0.coords t) (pf a)
  · exact ⟨if_pos hr, if_pos hr⟩
  · have hpos := (not_reload t (pf a) hr).1
    have hu : (⟨t.val - 1, by have := t.isLt; omega⟩ : Fin grid0.N).val + 1 = t.val := by show t.val - 1 + 1 = t.val; omega
    have hE := not_reload_prev t _ hu (pf a) hr
    obtain ⟨e0, e1⟩ := h _ hu
    refine ⟨(if_neg hr).trans ?_, (if_neg hr).trans ?_⟩
    · rw [e0, blk1_congr m ρ a c t _ hE]
    · rw [e1, blk3_congr m ρ a c t _ hE]

/-- The body keeps the invariant and leaves in every window what the proof data say. -/
theorem body_obligation (c : Dev nD) : BodyObligation (dats m ρ a 0 c) (defs₀ (F := F)) 𝒱₀ () Set.univ := fun t => by
  rw [bigSep_W0, bigSep_W0]
  rw [show (dats m ρ a 0 c).Φ t.castSucc = Φc m ρ a c t.val from rfl, show (dats m ρ a 0 c).Φ t.succ = Φc m ρ a c (t.val + 1) from rfl]
  unfold Φc Dat.owesAt Pipeline.owesWithin
  rw [show (dats m ρ a 0 c).owed t.castSucc = 0 from rfl, show (dats m ρ a 0 c).owed t.succ = 0 from rfl]
  simp only [before0, before1, before2, before3, before4]
  iintro ⟨⟨HT, %s0, %s1, %hs, HS0, HS1⟩, ⟨%W, %hW, HO⟩, ⟨%d0, H0⟩, ⟨%d1, H1⟩, ⟨%d2, H2⟩, ⟨%d3, H3⟩, ⟨%d4, H4⟩, ⟨%d5, H5⟩⟩
  iapply (body_run c (grid0.coords t) (pf a) _ (stage_whole0 0 _) _ (stage_whole0 1 _) _ (stage_whole0 2 _) _ (stage_whole0 3 _) _ (stage_whole0 4 _)
    _ (stage_whole0 5 _) _ (Memref.isWhole_whole _) _ (Memref.isWhole_whole _) (blkAt m ρ a c 0 t) (blkAt m ρ a c 1 t) (blkAt m ρ a c 2 t)
    (blkAt m ρ a c 3 t) (blkAt m ρ a c 4 t) s0 s1) $$ [HT H0 H1 H2 H3 H4 H5 HS0 HS1]
  · isplitl [HT]; · iexact HT
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iexact HS1
  obtain ⟨e0, e1⟩ := scratch_step m ρ a c t s0 s1 hs
  rw [e0, e1]
  iintro ⟨HT, H0, H1, H2, H3, H4, H5, HS0, HS1⟩
  isplitl [HT HS0 HS1]
  · isplitl [HT]; · iexact HT
    iexists _, _
    isplitr
    swap
    · isplitl [HS0]; · iexact HS0
      iexact HS1
    · ipureintro
      intro u hu
      obtain rfl : u = t := Fin.ext (by omega)
      exact ⟨rfl, rfl⟩
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  rw [show idle0 a.1 5 ((pcfg0.gridAt a.1).coords t) = false from idle_false a 5 _]
  iexact H5

end Cert.Proof

end
-- ==== Proof.Launch.lean ====
/-
  The launch: from the proof data to the final state.

  The library's theorem for a @main that is a list of segments is applied to the four reshapes and the one
  launch. The final state has every window's array at what the proof data name, the tables and the four
  weight arguments as they were, and every counter at zero.
-/
module

public import proofs.«01_k».proof.Proof.Run

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg) (a : (pcfg0 (F := F)).Adm)

/-- The launch element: the pipeline library's at the staging cells; no counter yet. -/
def u₀ : UU nD τ :=
  (initOf (Pipeline.cells (Pipeline.pin (pcfgs (F := F)) (adm a)) (cellOf_inj (adm a)))
    (Pipeline.launchToks (Pipeline.pin (pcfgs (F := F)) (adm a)) (cellOf_inj (adm a))), 1)

/-- An array's contents after the run, as the proof data name them. -/
def finalA (c : Dev nD) (w : Fin 6) : Buf (Elt F) (((cfg0 a).win w).arr.view.loc (c : Thread nD τ)) := (dats m ρ a 0 c).arrAt w (cfg0 a).N

/-- The buffers that ride beside the windows' arrays: the two tables and the four weight arguments. -/
def Kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- The final state: every window's array at its named contents, the others kept. -/
def QC : PUnit × MemSt nD τ sig (Elt F) → Prop := fun r =>
  ∀ c : Dev nD, (∀ w : Fin 6, r.2.mem (((cfg0 a).win w).arr.view.loc (c : Thread nD τ)) = finalA m ρ a c w) ∧ Kept m c r.2

/-- No core owes another anything. -/
abbrev L : GSem nD τ sig → Finset Unit := fun _ => ∅
abbrev lv : GSem nD τ sig → Unit → ℕ := fun _ _ => 0

/-- What rides beside the buffers through the reshapes. -/
abbrev R (c : Dev nD) : sProp (MM F) := iprop(∃ W, owes (c : Thread nD τ) (0 : CellTallies nD τ sig Unit) W)

/-- The host segment: the four reshapes. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The four weight arguments, which the launch passes by. -/
abbrev Weights (c : Dev nD) : sProp (MM F) :=
  iprop((((c : Thread nD τ).loc main_arg3) ↦{fullShare} V m ρ c main_arg3) ∗ (((c : Thread nD τ).loc main_arg4) ↦{fullShare} V m ρ c main_arg4)
    ∗ (((c : Thread nD τ).loc main_arg5) ↦{fullShare} V m ρ c main_arg5) ∗ (((c : Thread nD τ).loc main_arg6) ↦{fullShare} V m ρ c main_arg6))

/-- What the launch leaves: its arrays, the tables, the weight arguments. -/
abbrev Tₙ (c : Dev nD) : sProp (MM F) :=
  iprop((dats m ρ a 0 c).arrays ((dats m ρ a 0 c).arrAt · (cfg0 a).N) ∗ Pipeline.prefHeld pre0 c (fun _ => fullShare) (pf a) ∗ Weights m ρ c)

set_option backward.isDefEq.respectTransparency.types false in
/-- The launch as a segment. -/
def reg0 (ht : ∀ c k, V m ρ c (pre0.ref k) = a.1 k) : Pipeline.RegionSeg (pcfgs (F := F)) (adm a) (dats m ρ a) () defs₀ 𝒱₀ L lv 0 where
  win := winFacts0.to₀
  block_pos := block_pos0
  stage_whole := stage_whole0
  K := PEmpty
  osem := fun k => k.elim
  ho := Pipeline.OwnSemFacts.none _
  hbody c := (body_obligation m ρ a c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ a c ∗ R c)
  X _ := BI.emp
  Y c := Pipeline.prefHeld pre0 c (fun _ => fullShare) (pf a)
  Z c := Weights m ρ c
  hentry c := by
    rw [show StableHlo.held (c : Thread nD τ) ucRefs (StableHlo.after hostOps0 (V₀ m ρ c)) = unscopedBufs c (V m ρ c) from (unscopedBufs_held c _).symm]
    have hsplit := (Pipeline.arrays_of_unscopedBufs (pcfgs (F := F)) (adm a) (dats m ρ a) (p := 0) winFacts0 arr_whole0 c
      ((dats m ρ a 0 c).share_full fun _ => rfl) (V m ρ c) (A_eq m ρ a c)).trans (sep_mono .rfl ((Entails.of_eq (Pipeline.unscopedRest_split preFacts0 c (V m ρ c))).trans
        (sep_mono .rfl (Entails.of_eq (unscopedRestP0_eq c (V m ρ c))))))
    iintro ⟨⟨Hub, HO⟩, -, -⟩
    ihave H := hsplit $$ Hub
    icases H with ⟨Ha, HT, HW⟩
    imodintro
    isplitl [Ha]; · iexact Ha
    isplitl [HT]
    · rw [show (fun k => V m ρ c (pre0.ref k)) = a.1 from funext fun k => ht c k]
      iexact HT
    isplitl [HO]
    · unfold Pipeline.Dat.owesAt Pipeline.owesWithin
      icases HO with ⟨%W, HO⟩; iexists W; isplitr; · ipureintro; exact fun _ _ => Or.inl trivial
      iexact HO
    isplitr; · iempintro
    iexact HW
  hin c := by
    rw [show (dats m ρ a 0 c).Φ 0 = Φc m ρ a c 0 from rfl]; unfold Φc
    rw [show Pipeline.scopedRest (Ix := Unit) (Name := ℕ) (U := UU nD τ) (Lvl := ℕ) (Val := Elt F) (pcfgs (F := F) 0).spec c = _ from scopedRest0_eq c]
    iintro ⟨-, HT, ⟨%f0, H0⟩, ⟨%f1, H1⟩⟩
    isplitl [HT]; · iexact HT
    iexists _, _
    simp only [owns_whole_eq]
    isplitr
    swap
    · isplitl [H0]
      · iexists f0; isplitr; swap; · iexact H0
        ipureintro; rfl
      · iexists f1; isplitr; swap; · iexact H1
        ipureintro; rfl
    · ipureintro
      intro u hu; exact absurd hu (by omega)
  hout c := by
    rw [Pipeline.ownSems0_none, show (dats m ρ a 0 c).Φ (Fin.last (cfg0 a).N) = Φc m ρ a c (cfg0 a).N from rfl]; unfold Φc
    rw [show Pipeline.scopedRest (Ix := Unit) (Name := ℕ) (U := UU nD τ) (Lvl := ℕ) (Val := Elt F) (pcfgs (F := F) 0).spec c = _ from scopedRest0_eq c]
    simp only [owns_whole_eq]
    iintro ⟨HT, %s0, %s1, -, ⟨%f0, -, H0⟩, ⟨%f1, -, H1⟩⟩
    isplitl [HT]; · iexact HT
    isplitr; · iempintro
    isplitl [H0]
    · iexists f0; iexact H0
    · iexists f1; iexact H1
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- @main as the list of the two. -/
abbrev segs (ht : ∀ c k, V m ρ c (pre0.ref k) = a.1 k) : List (Pipeline.Seg (pcfgs (F := F)) (adm a) (dats m ρ a) () defs₀ 𝒱₀ L lv) :=
  [.host (seg0 m ρ), .region (reg0 m ρ a ht)]

set_option backward.isDefEq.respectTransparency.types false in
/-- Every execution of @main from memory `m` with zero counters terminates, and every final state has the
    windows' arrays at the named contents, the other arguments as they were and every counter at zero. -/
theorem run_main (ht : ∀ c k, V m ρ c (pre0.ref k) = a.1 k) :
    θ_run defs (onTc (τ := τ) (main (F := F))) (s₀ m ρ) (fun r => QC m ρ a r ∧ r.2.sem = fun _ => 0) :=
  Pipeline.θ_run_regions_kit_sems (pcfgs (F := F)) (adm a) (dats m ρ a) () (cellOf_inj (adm a)) EP defs₀ 𝒱₀ L lv m ρ main (segs m ρ a ht)
    (fun c Q => by rw [main_segs (adm a) (dats m ρ a) () 𝒱₀ L lv (seg0 m ρ) (reg0 m ρ a ht) rfl c])
    (by simp only [Pipeline.Seg.pipes_host, Pipeline.Seg.pipes_region, Pipeline.Seg.pipes_nil]; decide) (O₀ := 0) (hL := fun _ _ => rfl) (G := fun _ => iprop(emp)) (u₀ := u₀ a)
    (hu₀ := by
      unfold u₀
      iintro Hu
      ihave H := (ownU_pair _ _) $$ Hu
      icases H with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) ucRefs (V₀ m ρ c) ∗ R c)) (Tₙ := Tₙ m ρ a)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => (∀ w : Fin 6, s.mem (((cfg0 a).win w).arr.view.loc (c : Thread nD τ)) = finalA m ρ a c w) ∧ Kept m c s)
    (hfin := fun c s' => by
      dsimp only [Tₙ, Weights]
      rw [V_of_not_written m ρ c main_arg3 (by decide), V_of_not_written m ρ c main_arg4 (by decide),
        V_of_not_written m ρ c main_arg5 (by decide), V_of_not_written m ρ c main_arg6 (by decide), tables_eq,
        show tab0 c (pf a) = m ((c : Thread nD τ).loc main_arg0) from (ht c 0).symm.trans (V_of_not_written m ρ c main_arg0 (by decide)),
        show tab1 c (pf a) = m ((c : Thread nD τ).loc main_arg1) from (ht c 1).symm.trans (V_of_not_written m ρ c main_arg1 (by decide))]
      iintro ⟨⟨Ha, ⟨H0, H1⟩, H3, H4, H5, H6⟩, HSI⟩
      icombine HSI H0 gives %h0
      icombine HSI H1 gives %h1
      icombine HSI H3 gives %h3
      icombine HSI H4 gives %h4
      icombine HSI H5 gives %h5
      icombine HSI H6 gives %h6
      ihave Hr := (Pipeline.arrays_read (pcfgs (F := F)) (adm a) (dats m ρ a) (p := 0) arr_whole0 c ((dats m ρ a 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h3, Buf.eq_of_forall_mem_univ h4,
          Buf.eq_of_forall_mem_univ h5, Buf.eq_of_forall_mem_univ h6⟩
      iexact HSI)
    (hQ := fun _ h hz => ⟨h, funext fun g => hz g (.inr (by revert g; decide))⟩)

end Cert.Proof

end
-- ==== Proof.Admissible.lean ====
/-
  The precondition, decoded: the tables the pipeline may run at.

  `experts_in_range` says that every entry of the block table names one of the 32 experts and that at least
  one block is used. Then every window's block lies inside its array at every point of the grid.
-/
module

public import proofs.«01_k».proof.Proof.Launch
public import proofs.«01_k».proof.Proof.Gen.Pre_experts_in_range
public import Idealize.ShloMosaic.Lib.Affine
public import Idealize.ShloMosaic.Lib.ReduceAll
public import Idealize.ShloMosaic.Lib.WordArith

@[expose] public section

set_option maxRecDepth 16384

noncomputable section

namespace Cert.Proof

open Cert.KernelIdeal Cert.KernelIdeal.Gen

open Idealize.ShloMosaic Idealize.ShloMosaic.TcCoe Idealize.SL.Sem Idealize.ShloMosaic.WordArith

variable {F : FTy → Type} [FloatOps F]

/-- What the precondition says of the two tables: each block names an expert, and a block is used. -/
structure InRange (be : IVec S288 32) (nb : IVec S1 32) : Prop where
  expert : ∀ i, (be i).toNat < 32
  used : 1 ≤ (nb one).toInt

/-- A word that is neither negative nor above 31, read signed, is below 32. -/
theorem lt_32_of_signed (x : BitVec 32) (h0 : (0#32).sle x) (h1 : x.slt 32#32) : x.toNat < 32 := by
  simp only [BitVec.sle, BitVec.slt, decide_eq_true_eq, BitVec.toInt, BitVec.toNat_ofNat] at h0 h1
  omega

/-- The count of used blocks is an array of one entry. -/
theorem idx_one (j : S1.Idx) : j = one := by
  funext a
  fin_cases a
  exact Fin.ext (by have h : (j 0).val < 1 := (j 0).isLt; show (j 0).val = 0; omega)

/-- The precondition gives the ranges. -/
theorem inRange_of_pre (be : IVec S288 32) (nb : IVec S1 32) (xs : FVec F S147456x1024 .bf16) (w1 : FVec F S4x32x1024x2048 .f32)
    (b1 : FVec F S4x32x2048 .f32) (w2 : FVec F S4x32x1024x1024 .f32) (b2 : FVec F S4x32x1024 .f32)
    (h : Cert.Pre_experts_in_range.fn (F := F) be nb xs w1 b1 w2 b2 = fun _ => 1#1) : InRange be nb := by
  have e := congrFun h (fun a => Fin.elim0 a)
  simp only [Cert.Pre_experts_in_range.fn, andi, IntOp.andi] at e
  obtain ⟨e0, e1⟩ : _ = 1#1 ∧ _ = 1#1 := (show ∀ a b : BitVec 1, a &&& b = 1#1 → a = 1#1 ∧ b = 1#1 by decide) _ _ e
  constructor
  · intro i
    haveI : Subsingleton Cert.Pre_experts_in_range.S_.Idx := ⟨fun _ _ => funext fun a => Fin.elim0 a⟩
    have e2 := Host.reduce_andi_all _ _ _ _ _ e0 i
    obtain ⟨a0, a1⟩ : _ = 1#1 ∧ _ = 1#1 := (show ∀ a b : BitVec 1, a &&& b = 1#1 → a = 1#1 ∧ b = 1#1 by decide) _ _ e2
    have b0 : BitVec.ofBool ((0#32).sle (be i)) = 1#1 := a0
    have b1 : BitVec.ofBool ((be i).slt 32#32) = 1#1 := a1
    rw [ofBool_eq_one_iff] at b0 b1
    exact lt_32_of_signed _ b0 b1
  · have c0 : BitVec.ofBool ((1#32).sle (shapeCast Cert.Pre_experts_in_range.S_ nb Cert.Pre_experts_in_range.Facts.shapeCasts_S1_S_ fun a => Fin.elim0 a)) = 1#1 := e1
    obtain ⟨j, hj⟩ : ∃ j : S1.Idx, shapeCast Cert.Pre_experts_in_range.S_ nb Cert.Pre_experts_in_range.Facts.shapeCasts_S1_S_ (fun a => Fin.elim0 a) = nb j := ⟨_, rfl⟩
    have c1 : BitVec.ofBool ((1#32).sle (nb one)) = 1#1 := by rw [← idx_one j, ← hj]; exact c0
    rw [ofBool_eq_one_iff] at c1
    simpa [BitVec.sle] using c1

/-- At a point `i` the weights' block index is 32 plus the expert, below 64. -/
theorem expert_isInt (pf : Tables F) (h : InRange (pf 0) (pf 1)) (i : grid0.Coords) :
    ∃ e : Int, Affine.IsInt (Scalar.addi 32#32 (expertNow i pf)) e ∧ 32 ≤ e ∧ e < 64 := by
  have hb : (expertNow i pf).toNat < 32 := h.expert _
  have hi : 0 ≤ (expertNow i pf).toInt ∧ (expertNow i pf).toInt < 32 := by
    rw [BitVec.toInt_eq_toNat_cond]; split <;> omega
  exact ⟨32 + (expertNow i pf).toInt, Affine.addi (Affine.ofNat 32 ⟨rfl, by decide⟩) (Affine.word _) (by omega), by omega, by omega⟩

/-- At a point `i` the rows' block index is the lesser of `i` and the last used block. -/
theorem row_isInt (pf : Tables F) (h : InRange (pf 0) (pf 1)) (i : grid0.Coords) :
    ∃ e : Int, Affine.IsInt (Scalar.minsi (BitVec.ofNat 32 (i 0).val) (Scalar.subi (usedBlocks pf) 1#32)) e ∧ 0 ≤ e ∧ e < 288 := by
  have r_i0 : (i 0).val < 288 := (i 0).isLt
  have hu : 1 ≤ (usedBlocks pf).toInt := by
    rw [usedBlocks_eq]; exact h.used
  have hlt : (usedBlocks pf).toInt < 2 ^ 31 := by
    have := BitVec.toInt_lt (x := usedBlocks pf); omega
  exact ⟨min (i 0).val ((usedBlocks pf).toInt - 1), Affine.minsi (Affine.ofNat _ ⟨rfl, by omega⟩)
    (Affine.subi (Affine.word _) (Affine.ofNat 1 ⟨rfl, by decide⟩) (by omega)) rfl, by omega, by omega⟩

/-- So the pipeline may run at such tables. -/
theorem ok_of_inRange (pf : Tables F) (h : InRange (pf 0) (pf 1)) : ok0 pf := by
  have z : Affine.IsInt 0#32 0 := Affine.ofNat 0 ⟨rfl, by decide⟩
  refine ⟨fun i => ?_, fun i => ?_, fun i => ?_, fun i => ?_, fun i => ?_⟩
  · obtain ⟨e, he, h0, h1⟩ := row_isInt pf h i
    exact ⟨Affine.blk_cons he (by omega) <| Affine.blk_cons z (by omega) <| Affine.blk_nil,
      .inr (Affine.block_words_dvd (of_decide_eq_true rfl) (by decide))⟩
  all_goals
    obtain ⟨e, he, h0, h1⟩ := expert_isInt pf h i
    exact ⟨Affine.blk_cons he (by omega) <| Affine.blk_cons z (by omega) <| Affine.blk_cons z (by omega) <| Affine.blk_nil, .inl rfl⟩

/-- The tables of a launch memory, on the one device. -/
def tablesOf (m : (ℓ : Loc nD τ sig) → Buf (Elt F) ℓ) : Tables F := fun k => m (((0 : Dev nD) : Thread nD τ).loc (pre0.ref k))

/-- The tables of a launch memory, as tables the pipeline may run at. -/
def admOf (m : (ℓ : Loc nD τ sig) → Buf (Elt F) ℓ)
    (h : InRange (m (((0 : Dev nD) : Thread nD τ).loc main_arg0)) (m (((0 : Dev nD) : Thread nD τ).loc main_arg1))) : (pcfg0 (F := F)).Adm :=
  ⟨tablesOf m, ok_of_inRange (tablesOf m) h⟩

/-- The tables reach the launch as they were: no reshape writes one. -/
theorem tables_kept (m : (ℓ : Loc nD τ sig) → Buf (Elt F) ℓ) (ρ : Dev nD → PrngReg)
    (h : InRange (m (((0 : Dev nD) : Thread nD τ).loc main_arg0)) (m (((0 : Dev nD) : Thread nD τ).loc main_arg1))) (c : Dev nD) (k) :
    V m ρ c (pre0.ref k) = (admOf m h).1 k := by
  obtain rfl : c = 0 := Subsingleton.elim _ _
  match k with
  | ⟨0, _⟩ => exact V_of_not_written m ρ 0 main_arg0 (by decide)
  | ⟨1, _⟩ => exact V_of_not_written m ρ 0 main_arg1 (by decide)

end Cert.Proof

end
-- ==== Proof.SameProgram.lean ====
/-
  The printed program and the program read at the extended reals have one text.

  No operation was rewritten between the two, so their body tables and their @main's are equal at every
  float reading, and what is proved of the one holds of the other.
-/
module

public import proofs.«01_k».proof.Proof.Gen.Kernel
public import proofs.«01_k».proof.Proof.Gen.KernelIdeal

@[expose] public section

set_option maxRecDepth 16384

noncomputable section

namespace Cert.Proof

open Idealize.ShloMosaic Idealize.ShloMosaic.TcCoe Idealize.SL.Sem

variable {F : FTy → Type} [FloatOps F]

/-- The kernel bodies are one function, -/
theorem bodies_eq : Cert.Kernel.defs₀ (F := F) = Cert.KernelIdeal.defs₀ := by
  unfold Cert.Kernel.defs₀ Cert.KernelIdeal.defs₀
  refine congrArg Defs.onTc (funext fun l => funext fun x => ?_)
  match l, x with
  | ⟨0, _⟩, (t, s) => rfl

set_option maxHeartbeats 2000000 in
/-- the body tables with the pipeline are one table, -/
theorem tables_of_bodies_eq : Cert.Kernel.defs (F := F) = Cert.KernelIdeal.defs := by
  unfold Cert.Kernel.defs Cert.KernelIdeal.defs
  exact congrArg (Pipeline.defs Cert.KernelIdeal.pcfgs) bodies_eq

set_option maxHeartbeats 2000000 in
/-- and @main is one program. -/
theorem main_eq : Cert.Kernel.main (F := F) = Cert.KernelIdeal.main := by
  unfold Cert.Kernel.main Cert.KernelIdeal.main
  rfl

end Cert.Proof

end
-- ==== Proof.Frames.lean ====
/-
  The program runs and leaves its arguments as they were.

  The run is stated once, over any float reading: from a memory whose tables are in range every execution
  ends with the seven arguments unchanged, the result array at the contents the pipeline's proof data name,
  and every counter at zero.
-/
module

public import proofs.«01_k».proof.Defs
public import proofs.«01_k».proof.Proof.Admissible
public import proofs.«01_k».proof.Proof.SameProgram

@[expose] public section

set_option maxRecDepth 16384

noncomputable section

namespace Cert.Proof

open Cert.KernelIdeal Cert.KernelIdeal.Gen

open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The tables of the memory are in range. -/
abbrev TablesInRange : Prop :=
  InRange (m (((0 : Dev nD) : Thread nD τ).loc main_arg0)) (m (((0 : Dev nD) : Thread nD τ).loc main_arg1))

/-- The result array's contents after the run. -/
def result (h : TablesInRange m) (c : Dev nD) : Buf (Elt F) ((c : Thread nD τ).loc main_v4) := finalA m ρ (admOf m h) c 5

/-- The arguments are as they were. -/
def ArgsKept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- The rows are an input window's array, which no flush writes. -/
theorem rows_kept (a : (pcfg0 (F := F)).Adm) (c : Dev nD) : finalA m ρ a c 0 = m ((c : Thread nD τ).loc main_arg2) :=
  ((dats m ρ a 0 c).arrAt_in 0 rfl _).trans (V_of_not_written m ρ c main_arg2 (by decide))

/-- The run: the result named, the arguments kept, every counter at zero. -/
theorem run_result (h : TablesInRange m) :
    θ_run defs (onTc (τ := τ) (main (F := F))) ⟨m, fun _ => 0, ρ⟩ (fun r =>
      (∀ c : Dev nD, r.2.mem ((c : Thread nD τ).loc main_v4) = result m ρ h c ∧ ArgsKept m r.2 c) ∧ r.2.sem = fun _ => 0) :=
  (θ_run defs _ _).mono (fun r hr => ⟨fun c => ⟨(hr.1 c).1 5, (hr.1 c).2.1, (hr.1 c).2.2.1, ((hr.1 c).1 0).trans (rows_kept m ρ _ c),
      (hr.1 c).2.2.2⟩, hr.2⟩)
    (run_main m ρ (admOf m h) (tables_kept m ρ h))

/-- The printed program runs and keeps its arguments. -/
theorem frame_kernel : Cert.quiescent_Kernel := fun m ρ hp => by
  rw [tables_of_bodies_eq, main_eq]
  exact (θ_run Cert.KernelIdeal.defs _ _).mono (fun _ h => ⟨fun c => (h.1 c).2, h.2⟩)
    (run_result (F := Bits) m ρ (inRange_of_pre _ _ _ _ _ _ _ (hp 0)))

/-- The program read at the extended reals runs and keeps its arguments. -/
theorem frame_ideal : Cert.quiescent_KernelIdeal := fun m ρ hp =>
  (θ_run defs _ _).mono (fun _ h => ⟨fun c => (h.1 c).2, h.2⟩)
    (run_result (F := Ideal) m ρ (inRange_of_pre _ _ _ _ _ _ _ (hp 0)))

end Cert.Proof

end
-- ==== Proof.Expert.lean ====
/- What one routed row is worth: an expert applied to one row of 1024 numbers, written as sums over the extended reals.
   Both programs' values are brought to this form. -/
module

public import Idealize.ShloMosaic.PureOps.Ideal
public import Idealize.ShloMosaic.Lib.Pointwise

@[expose] public section

noncomputable section

namespace Cert.Proof

open Idealize.ShloMosaic

/-- The expert's first product at column `j`: the row times the 1024 by 2048 matrix, and the bias. -/
def hidden (x : Fin 1024 → EReal) (w : Fin 1024 → Fin 2048 → EReal) (b : Fin 2048 → EReal) (j : Fin 2048) : EReal :=
  (∑ k : Fin 1024, x k * w k j) + b j

/-- The gate's clamp from above, at 7. -/
def gateClamp (g : EReal) : EReal := min g (Ideal.ofBits .f32 0x40E00000#32)

/-- The clamp of the linear half to [-7, 7]. -/
def linearClamp (u : EReal) : EReal := min (Ideal.ofBits .f32 0x40E00000#32) (max (Ideal.ofBits .f32 0xC0E00000#32) u)

/-- The gated activation of a gate `g` and a linear part `u`, both clamped: `(u + 1) * (g * logistic (1.702 * g))`. -/
def gated (g u : EReal) : EReal :=
  (linearClamp u + 1) * (gateClamp g * Ideal.logistic (Ideal.ofBits .f32 0x3FD9DB23#32 * gateClamp g))

/-- The expert's row at column `d`: the first product's two halves gated, then the second product and its bias. -/
def expertRow (x : Fin 1024 → EReal) (w₁ : Fin 1024 → Fin 2048 → EReal) (b₁ : Fin 2048 → EReal) (w₂ : Fin 1024 → Fin 1024 → EReal)
    (b₂ : Fin 1024 → EReal) (d : Fin 1024) : EReal :=
  (∑ j : Fin 1024, gated (hidden x w₁ b₁ ⟨j.val, by omega⟩) (hidden x w₁ b₁ ⟨1024 + j.val, by omega⟩) * w₂ j d) + b₂ d

end Cert.Proof

end
-- ==== Proof.Payload.lean ====
/- The kernel's stored block, element by element: the expert's row for the block's row. -/
module

public import proofs.«01_k».proof.Proof.Expert
public import proofs.«01_k».proof.Proof.Gen.KernelIdeal.Skeleton

@[expose] public section

set_option maxRecDepth 16384

noncomputable section

namespace Cert.Proof

open Cert.KernelIdeal Cert.KernelIdeal.Gen Idealize.ShloMosaic

/-- The block a used grid point stores holds, row by row, the expert's row of the input block's row. -/
theorem stored_apply (x : Vec Ideal S512x1024 .bf16) (w₁ : Vec Ideal S1x1024x2048 .f32) (b₁ : Vec Ideal S1x1x2048 .f32)
    (w₂ : Vec Ideal S1x1024x1024 .f32) (b₂ : Vec Ideal S1x1x1024 .f32) (r : Fin 512) (d : Fin 1024) :
    k0_pay3 (F := Ideal) x (k0_pay1 (F := Ideal) w₁) b₁ (k0_pay2 (F := Ideal) w₂) b₂ (ix2 r d)
      = expertRow (fun k => x (ix2 r k)) (fun k j => w₁ (ix3 0 k j)) (fun j => b₁ (ix3 0 0 j)) (fun j d => w₂ (ix3 0 j d))
          (fun d => b₂ (ix3 0 0 d)) d := by
  unfold expertRow hidden gated gateClamp linearClamp
  pointwise [k0_pay3, k0_pay1, k0_pay2]

/-- The block an unused grid point stores is zero. -/
theorem cleared_apply (r : Fin 512) (d : Fin 1024) : k0_pay4 (F := Ideal) (ix2 r d) = 0 := by
  pointwise [k0_pay4]

end Cert.Proof

end
-- ==== Proof.Blocks.lean ====
/- Where the pipeline's blocks sit in their arrays.

   The result array's block `t` is rows `t * 512` to `t * 512 + 511`; every point of the grid writes its block back. The
   rows' block of a used point is the block of the same number, and the weights' blocks are those of layer 1 at the point's
   expert. -/
module

public import proofs.«01_k».proof.Proof.Frames
public import proofs.«01_k».proof.Proof.Payload
public import Idealize.ShloMosaic.Lib.Pipeline.Value
public import Idealize.ShloMosaic.Lib.Pointwise

@[expose] public section

set_option maxRecDepth 16384

noncomputable section

namespace Cert.Proof

open Cert.KernelIdeal Cert.KernelIdeal.Gen

open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (a : (pcfg0 (F := F)).Adm)

/-- The result array, put together from the blocks the points leave. -/
def assembled (c : Dev nD) : Vec F S147456x1024 .bf16 := fun i =>
  resAt m ρ a c (pt ((i 0).val / 512) (by have h : (i 0).val < 147456 := (i 0).isLt; omega))
    (ix2 ⟨(i 0).val % 512, Nat.mod_lt _ (by decide)⟩ (i 1))

theorem index5 (t : Fin grid0.N) : cc0_transform_5 (grid0.coords t) 0 = t.val ∧ cc0_transform_5 (grid0.coords t) 1 = 0 := by
  refine ⟨?_, rfl⟩
  show (BitVec.ofNat 32 ((grid0.coords t) 0).val).toNat = t.val
  rw [coord_val, BitVec.toNat_ofNat, Nat.mod_eq_of_lt]
  have := lt_288 t; omega

/-- Where an element of block `t` sits in the result array. -/
theorem emb5 (t : Fin grid0.N) (y : S512x1024.Idx) :
    ((((cfg0 a).win 5).blk t).view.emb y : S147456x1024.Idx)
      = ix2 ⟨t.val * 512 + (y 0).val, by have := lt_288 t; have h : (y 0).val < 512 := (y 0).isLt; omega⟩ (y 1) := by
  funext b
  apply Fin.ext
  match b with
  | ⟨0, _⟩ =>
    show cc0_transform_5 (grid0.coords t) 0 * 512 + 1 * (y 0).val = t.val * 512 + (y 0).val
    rw [(index5 t).1, Nat.one_mul]
  | ⟨1, _⟩ =>
    show cc0_transform_5 (grid0.coords t) 1 * 1024 + 1 * (y 1).val = (y 1).val
    rw [(index5 t).2]; omega

/-- Block `t` of the result array, read off an array. -/
theorem read5 (A : Vec F S147456x1024 .bf16) (t : Fin grid0.N) (y : S512x1024.Idx) :
    (((cfg0 a).win 5).blk t).view.read (Elt F) A y
      = A (ix2 ⟨t.val * 512 + (y 0).val, by have := lt_288 t; have h : (y 0).val < 512 := (y 0).isLt; omega⟩ (y 1)) :=
  congrArg A (emb5 a t y)

/-- Point `t` writes back block `t` of the assembled array. -/
theorem flushed_eq (c : Dev nD) (t : Fin grid0.N) :
    (dats m ρ a 0 c).flushed 5 t = (((cfg0 a).win 5).blk t).view.read (Elt F) (assembled m ρ a c) := by
  have key : ∀ y : S512x1024.Idx, resAt m ρ a c t y = (((cfg0 a).win 5).blk t).view.read (Elt F) (assembled m ρ a c) y := by
    intro y
    have hy0 : (y 0).val < 512 := (y 0).isLt
    have ht := lt_288 t
    rw [read5]
    have h1 : (t.val * 512 + (y 0).val) / 512 = t.val := by omega
    have h2 : (t.val * 512 + (y 0).val) % 512 = (y 0).val := by omega
    have e1 : pt ((t.val * 512 + (y 0).val) / 512) (by omega) = t := Fin.ext h1
    have e2 : (ix2 ⟨(t.val * 512 + (y 0).val) % 512, Nat.mod_lt _ (by decide)⟩ (y 1) : S512x1024.Idx) = y := by
      funext b
      match b with
      | ⟨0, _⟩ => exact Fin.ext h2
      | ⟨1, _⟩ => rfl
    show resAt m ρ a c t y = resAt m ρ a c (pt ((t.val * 512 + (y 0).val) / 512) _) (ix2 ⟨(t.val * 512 + (y 0).val) % 512, _⟩ (y 1))
    rw [e1, e2]
  funext y
  exact key y

/-- No two points in a row share a block, so every point writes its own back. -/
theorem flush5 (t : Fin grid0.N) : ((cfg0 a).win 5).flush t = true := by
  rw [Window.flush_eq_flushOf]
  show Window.flushOf grid0 true cc0_transform_5 t = true
  unfold Window.flushOf
  by_cases h : t.val + 1 = grid0.N
  · simp [h]
  · have hlt : t.val + 1 < grid0.N := by have := t.isLt; omega
    have hne : cc0_transform_5 (grid0.coords ⟨t.val + 1, hlt⟩) ≠ cc0_transform_5 (grid0.coords t) := fun e => by
      have e0 := congrFun e 0
      rw [(index5 _).1, (index5 t).1] at e0
      exact absurd e0 (by show t.val + 1 ≠ t.val; omega)
    simp [hlt, hne]

/-- Every index of the result array is in some point's block. -/
theorem cover5 (i : S147456x1024.Idx) : ∃ t : Fin grid0.N, ((cfg0 a).win 5).flush t = true ∧ i ∈ (((cfg0 a).win 5).blk t).view.set := by
  have h0 : (i 0).val < 147456 := (i 0).isLt
  have e := emb5 a (pt ((i 0).val / 512) (by omega)) (ix2 ⟨(i 0).val % 512, Nat.mod_lt _ (by decide)⟩ (i 1))
  have hi : ix2 ⟨(pt ((i 0).val / 512) (by omega)).val * 512 + (i 0).val % 512, by show (i 0).val / 512 * 512 + _ < _; omega⟩ (i 1) = i := by
    funext b
    apply Fin.ext
    match b with
    | ⟨0, _⟩ => show (i 0).val / 512 * 512 + (i 0).val % 512 = (i 0).val; omega
    | ⟨1, _⟩ => rfl
  exact ⟨_, flush5 a _, (e.trans hi) ▸ View.emb_mem_set _ _⟩

/-- So the result array ends assembled of them. -/
theorem final_eq (c : Dev nD) : finalA m ρ a c 5 = assembled m ρ a c :=
  (dats m ρ a 0 c).arrAt_eq_of_cover 5 (assembled m ρ a c) (fun t _ => flushed_eq m ρ a c t) (cover5 a)

end Cert.Proof

end
-- ==== Proof.Inputs.lean ====
/- The blocks the pipeline fetches, read off the arguments.

   Block `t`'s rows are rows `t * 512` to `t * 512 + 511` when the block is used. Its weights and biases are those of layer 1
   at its expert: the program flattens the arrays' layer and expert axes into one axis of 128, and layer 1 begins at 32. -/
module

public import proofs.«01_k».proof.Proof.Blocks

@[expose] public section

set_option maxRecDepth 16384

noncomputable section

namespace Cert.Proof

open Cert.KernelIdeal Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg) (a : (pcfg0 (F := F)).Adm)

/-! ## The flattened arrays -/

/-- Splitting 32 plus an expert into layer and expert. -/
theorem layer_one {β : Type} (e : Fin 32) (f : Fin 4 → Fin 32 → β) :
    f ⟨(32 + e.val) / 32, by omega⟩ ⟨(32 + e.val) % 32, by omega⟩ = f 1 e := by
  have h1 : (⟨(32 + e.val) / 32, by omega⟩ : Fin 4) = 1 := Fin.ext (by show (32 + e.val) / 32 = 1; omega)
  have h2 : (⟨(32 + e.val) % 32, by omega⟩ : Fin 32) = e := Fin.ext (by show (32 + e.val) % 32 = e.val; omega)
  rw [h1, h2]

/-- A flattened entry of the first matrices, in layer and expert. -/
theorem split1 (w : Vec F S4x32x1024x2048 .f32) (l : Fin 128) (k : Fin 1024) (j : Fin 2048) :
    shapeCast S128x1024x2048 w shapeCasts_S4x32x1024x2048_S128x1024x2048 (ix3 l k j)
      = w (ix4 ⟨l.val / 32, by omega⟩ ⟨l.val % 32, by omega⟩ k j) := by
  pointwise

/-- The first matrices' flattened array is a reshape of the argument, -/
theorem flat1_eq (c : Dev nD) :
    V m ρ c main_v0 = shapeCast S128x1024x2048 (m ((c : Thread nD τ).loc main_arg3)) shapeCasts_S4x32x1024x2048_S128x1024x2048 := by
  unfold V
  after_results_simp
  try rfl

/-- and its entry `32 + e` is layer 1's expert `e`. -/
theorem flat1 (c : Dev nD) (e : Fin 32) (k : Fin 1024) (j : Fin 2048) :
    (V m ρ c main_v0 : Vec F S128x1024x2048 .f32) (ix3 ⟨32 + e.val, by omega⟩ k j)
      = (m ((c : Thread nD τ).loc main_arg3) : Vec F S4x32x1024x2048 .f32) (ix4 1 e k j) := by
  rw [flat1_eq, split1]
  exact congrArg (fun q => (m ((c : Thread nD τ).loc main_arg3) : Vec F S4x32x1024x2048 .f32) q) (layer_one e fun p q => ix4 p q k j)

/-- A flattened entry of the second matrices, in layer and expert. -/
theorem split3 (w : Vec F S4x32x1024x1024 .f32) (l : Fin 128) (k : Fin 1024) (j : Fin 1024) :
    shapeCast S128x1024x1024 w shapeCasts_S4x32x1024x1024_S128x1024x1024 (ix3 l k j)
      = w (ix4 ⟨l.val / 32, by omega⟩ ⟨l.val % 32, by omega⟩ k j) := by
  pointwise

/-- The second matrices' flattened array is a reshape of the argument, -/
theorem flat3_eq (c : Dev nD) :
    V m ρ c main_v1 = shapeCast S128x1024x1024 (m ((c : Thread nD τ).loc main_arg5)) shapeCasts_S4x32x1024x1024_S128x1024x1024 := by
  unfold V
  after_results_simp
  try rfl

/-- and its entry `32 + e` is layer 1's expert `e`. -/
theorem flat3 (c : Dev nD) (e : Fin 32) (k : Fin 1024) (j : Fin 1024) :
    (V m ρ c main_v1 : Vec F S128x1024x1024 .f32) (ix3 ⟨32 + e.val, by omega⟩ k j)
      = (m ((c : Thread nD τ).loc main_arg5) : Vec F S4x32x1024x1024 .f32) (ix4 1 e k j) := by
  rw [flat3_eq, split3]
  exact congrArg (fun q => (m ((c : Thread nD τ).loc main_arg5) : Vec F S4x32x1024x1024 .f32) q) (layer_one e fun p q => ix4 p q k j)

/-- A flattened entry of the first biases, in layer and expert. -/
theorem split2 (w : Vec F S4x32x2048 .f32) (l : Fin 128) (j : Fin 2048) :
    shapeCast S128x1x2048 w shapeCasts_S4x32x2048_S128x1x2048 (ix3 l 0 j)
      = w (ix3 ⟨l.val / 32, by omega⟩ ⟨l.val % 32, by omega⟩ j) := by
  pointwise

/-- The first biases' flattened array is a reshape of the argument, -/
theorem flat2_eq (c : Dev nD) :
    V m ρ c main_v2 = shapeCast S128x1x2048 (m ((c : Thread nD τ).loc main_arg4)) shapeCasts_S4x32x2048_S128x1x2048 := by
  unfold V
  after_results_simp
  try rfl

/-- and its entry `32 + e` is layer 1's expert `e`. -/
theorem flat2 (c : Dev nD) (e : Fin 32) (j : Fin 2048) :
    (V m ρ c main_v2 : Vec F S128x1x2048 .f32) (ix3 ⟨32 + e.val, by omega⟩ 0 j)
      = (m ((c : Thread nD τ).loc main_arg4) : Vec F S4x32x2048 .f32) (ix3 1 e j) := by
  rw [flat2_eq, split2]
  exact congrArg (fun q => (m ((c : Thread nD τ).loc main_arg4) : Vec F S4x32x2048 .f32) q) (layer_one e fun p q => ix3 p q j)

/-- A flattened entry of the second biases, in layer and expert. -/
theorem split4 (w : Vec F S4x32x1024 .f32) (l : Fin 128) (j : Fin 1024) :
    shapeCast S128x1x1024 w shapeCasts_S4x32x1024_S128x1x1024 (ix3 l 0 j)
      = w (ix3 ⟨l.val / 32, by omega⟩ ⟨l.val % 32, by omega⟩ j) := by
  pointwise

/-- The second biases' flattened array is a reshape of the argument, -/
theorem flat4_eq (c : Dev nD) :
    V m ρ c main_v3 = shapeCast S128x1x1024 (m ((c : Thread nD τ).loc main_arg6)) shapeCasts_S4x32x1024_S128x1x1024 := by
  unfold V
  after_results_simp
  try rfl

/-- and its entry `32 + e` is layer 1's expert `e`. -/
theorem flat4 (c : Dev nD) (e : Fin 32) (j : Fin 1024) :
    (V m ρ c main_v3 : Vec F S128x1x1024 .f32) (ix3 ⟨32 + e.val, by omega⟩ 0 j)
      = (m ((c : Thread nD τ).loc main_arg6) : Vec F S4x32x1024 .f32) (ix3 1 e j) := by
  rw [flat4_eq, split4]
  exact congrArg (fun q => (m ((c : Thread nD τ).loc main_arg6) : Vec F S4x32x1024 .f32) q) (layer_one e fun p q => ix3 p q j)

/-! ## Which block a point fetches -/

/-- The block index of the weights and biases at point `t`: 32 plus the point's expert. -/
theorem weight_index (t : Fin grid0.N) (h : (pf a 0 (ent t.val (lt_288 t))).toNat < 32) :
    (Scalar.addi 32#32 (expertNow (grid0.coords t) (pf a))).toNat = 32 + (pf a 0 (ent t.val (lt_288 t))).toNat := by
  have key : ∀ x : BitVec 32, x.toNat < 32 → (Scalar.addi 32#32 x).toNat = 32 + x.toNat := fun x hx => by
    show (32#32 + x).toNat = _
    rw [BitVec.toNat_add]
    simp only [BitVec.toNat_ofNat]
    omega
  rw [expertNow_eq]
  exact key _ h

/-- A point's block of the first matrices is the matrix of its expert. -/
theorem blk1_apply (c : Dev nD) (t : Fin grid0.N) (e : Fin 32) (he : (pf a 0 (ent t.val (lt_288 t))).toNat = e.val) (k : Fin 1024) (j : Fin 2048) :
    (blkAt m ρ a c 1 t : Vec F S1x1024x2048 .f32) (ix3 0 k j) = (m ((c : Thread nD τ).loc main_arg3) : Vec F S4x32x1024x2048 .f32) (ix4 1 e k j) := by
  have hb : ((((cfg0 a).win 1).blk t).view.emb (ix3 0 k j : S1x1024x2048.Idx) : S128x1024x2048.Idx) = ix3 ⟨32 + e.val, by omega⟩ k j := by
    have hw := weight_index a t (by rw [he]; exact e.isLt)
    rw [he] at hw
    funext b
    apply Fin.ext
    match b with
    | ⟨0, _⟩ => show (Scalar.addi 32#32 (expertNow (grid0.coords t) (pf a))).toNat * 1 + 1 * 0 = 32 + e.val; omega
    | ⟨1, _⟩ => show 0 * 1024 + 1 * k.val = k.val; omega
    | ⟨2, _⟩ => show 0 * 2048 + 1 * j.val = j.val; omega
  exact (congrArg (V m ρ c main_v0 : Vec F S128x1024x2048 .f32) hb).trans (flat1 m ρ c e k j)

/-- A point's block of the second matrices is the matrix of its expert. -/
theorem blk3_apply (c : Dev nD) (t : Fin grid0.N) (e : Fin 32) (he : (pf a 0 (ent t.val (lt_288 t))).toNat = e.val) (k : Fin 1024) (j : Fin 1024) :
    (blkAt m ρ a c 3 t : Vec F S1x1024x1024 .f32) (ix3 0 k j) = (m ((c : Thread nD τ).loc main_arg5) : Vec F S4x32x1024x1024 .f32) (ix4 1 e k j) := by
  have hb : ((((cfg0 a).win 3).blk t).view.emb (ix3 0 k j : S1x1024x1024.Idx) : S128x1024x1024.Idx) = ix3 ⟨32 + e.val, by omega⟩ k j := by
    have hw := weight_index a t (by rw [he]; exact e.isLt)
    rw [he] at hw
    funext b
    apply Fin.ext
    match b with
    | ⟨0, _⟩ => show (Scalar.addi 32#32 (expertNow (grid0.coords t) (pf a))).toNat * 1 + 1 * 0 = 32 + e.val; omega
    | ⟨1, _⟩ => show 0 * 1024 + 1 * k.val = k.val; omega
    | ⟨2, _⟩ => show 0 * 1024 + 1 * j.val = j.val; omega
  exact (congrArg (V m ρ c main_v1 : Vec F S128x1024x1024 .f32) hb).trans (flat3 m ρ c e k j)

/-- A point's block of the first biases are the biases of its expert. -/
theorem blk2_apply (c : Dev nD) (t : Fin grid0.N) (e : Fin 32) (he : (pf a 0 (ent t.val (lt_288 t))).toNat = e.val) (j : Fin 2048) :
    (blkAt m ρ a c 2 t : Vec F S1x1x2048 .f32) (ix3 0 0 j) = (m ((c : Thread nD τ).loc main_arg4) : Vec F S4x32x2048 .f32) (ix3 1 e j) := by
  have hb : ((((cfg0 a).win 2).blk t).view.emb (ix3 0 0 j : S1x1x2048.Idx) : S128x1x2048.Idx) = ix3 ⟨32 + e.val, by omega⟩ 0 j := by
    have hw := weight_index a t (by rw [he]; exact e.isLt)
    rw [he] at hw
    funext b
    apply Fin.ext
    match b with
    | ⟨0, _⟩ => show (Scalar.addi 32#32 (expertNow (grid0.coords t) (pf a))).toNat * 1 + 1 * 0 = 32 + e.val; omega
    | ⟨1, _⟩ => show 0 * 1 + 1 * 0 = 0; omega
    | ⟨2, _⟩ => show 0 * 2048 + 1 * j.val = j.val; omega
  exact (congrArg (V m ρ c main_v2 : Vec F S128x1x2048 .f32) hb).trans (flat2 m ρ c e j)

/-- A point's block of the second biases are the biases of its expert. -/
theorem blk4_apply (c : Dev nD) (t : Fin grid0.N) (e : Fin 32) (he : (pf a 0 (ent t.val (lt_288 t))).toNat = e.val) (j : Fin 1024) :
    (blkAt m ρ a c 4 t : Vec F S1x1x1024 .f32) (ix3 0 0 j) = (m ((c : Thread nD τ).loc main_arg6) : Vec F S4x32x1024 .f32) (ix3 1 e j) := by
  have hb : ((((cfg0 a).win 4).blk t).view.emb (ix3 0 0 j : S1x1x1024.Idx) : S128x1x1024.Idx) = ix3 ⟨32 + e.val, by omega⟩ 0 j := by
    have hw := weight_index a t (by rw [he]; exact e.isLt)
    rw [he] at hw
    funext b
    apply Fin.ext
    match b with
    | ⟨0, _⟩ => show (Scalar.addi 32#32 (expertNow (grid0.coords t) (pf a))).toNat * 1 + 1 * 0 = 32 + e.val; omega
    | ⟨1, _⟩ => show 0 * 1 + 1 * 0 = 0; omega
    | ⟨2, _⟩ => show 0 * 1024 + 1 * j.val = j.val; omega
  exact (congrArg (V m ρ c main_v3 : Vec F S128x1x1024 .f32) hb).trans (flat4 m ρ c e j)

/-- The rows' block index at a used point is the point's number: it is below the count, so not above the last used block. -/
theorem row_index (t : Fin grid0.N) (h : (BitVec.ofNat 32 t.val).slt (pf a 1 one) = true) :
    (Scalar.minsi (BitVec.ofNat 32 ((grid0.coords t) 0).val) (Scalar.subi (usedBlocks (pf a)) 1#32)).toNat = t.val := by
  have ht := lt_288 t
  have key : ∀ x : BitVec 32, (BitVec.ofNat 32 t.val).slt x = true → (Scalar.minsi (BitVec.ofNat 32 t.val) (Scalar.subi x 1#32)).toNat = t.val := fun x hx => by
    show (if (BitVec.ofNat 32 t.val).slt (x - 1#32) then BitVec.ofNat 32 t.val else x - 1#32).toNat = t.val
    have hn : (BitVec.ofNat 32 t.val).toNat = t.val := by rw [BitVec.toNat_ofNat, Nat.mod_eq_of_lt]; omega
    have hi : (BitVec.ofNat 32 t.val).toInt = t.val := by rw [BitVec.toInt_eq_toNat_of_lt (by omega), hn]
    have hxi : (t.val : Int) < x.toInt := by rw [← hi]; simpa [BitVec.slt] using hx
    have hx2 : x.toNat < 2 ^ 31 ∧ t.val < x.toNat := by
      rw [BitVec.toInt_eq_toNat_cond] at hxi
      have := x.isLt
      split at hxi <;> omega
    have hs : (x - 1#32).toNat = x.toNat - 1 := by
      rw [BitVec.toNat_sub]; simp only [BitVec.toNat_ofNat]; omega
    split
    · exact hn
    · rename_i hns
      rw [hs]
      have : ¬ ((BitVec.ofNat 32 t.val).toInt < (x - 1#32).toInt) := by simpa [BitVec.slt] using hns
      rw [hi, BitVec.toInt_eq_toNat_of_lt (by omega), hs] at this
      omega
  rw [coord_val, usedBlocks_eq]
  exact key _ h

/-- A used point's block of the rows. -/
theorem blk0_apply (c : Dev nD) (t : Fin grid0.N) (h : (BitVec.ofNat 32 t.val).slt (pf a 1 one) = true) (r : Fin 512) (k : Fin 1024) :
    (blkAt m ρ a c 0 t : Vec F S512x1024 .bf16) (ix2 r k)
      = (m ((c : Thread nD τ).loc main_arg2) : Vec F S147456x1024 .bf16) (ix2 ⟨t.val * 512 + r.val, by have := lt_288 t; omega⟩ k) := by
  have hb : ((((cfg0 a).win 0).blk t).view.emb (ix2 r k : S512x1024.Idx) : S147456x1024.Idx) = ix2 ⟨t.val * 512 + r.val, by have := lt_288 t; omega⟩ k := by
    have hw := row_index a t h
    funext b
    apply Fin.ext
    match b with
    | ⟨0, _⟩ =>
      show (Scalar.minsi (BitVec.ofNat 32 ((grid0.coords t) 0).val) (Scalar.subi (usedBlocks (pf a)) 1#32)).toNat * 512 + 1 * r.val = t.val * 512 + r.val
      rw [hw]; omega
    | ⟨1, _⟩ => show 0 * 1024 + 1 * k.val = k.val; omega
  exact (congrArg (V m ρ c main_arg2 : Vec F S147456x1024 .bf16) hb).trans (congrFun (V_of_not_written m ρ c main_arg2 (by decide)) _)

/-- The body computes at the points below the count of used blocks. -/
theorem computes_iff (t : Fin grid0.N) (x : BitVec 32) : k0_cond2 (grid0.coords t) x = 1#1 ↔ (BitVec.ofNat 32 t.val).slt x = true := by
  unfold k0_cond2
  simp only [extui_ne]
  show BitVec.ofBool ((BitVec.ofNat 32 ((grid0.coords t) 0).val).slt x) = 1#1 ↔ _
  rw [coord_val]
  cases (BitVec.ofNat 32 t.val).slt x <;> decide

end Cert.Proof

end
-- ==== Proof.TakeRead.lean ====
/- The reference's four reads of an expert's weights.

   `w[1, e]` for a whole column of experts `e` is a gather whose start vectors are (1, e, 0, …): one slice per block. Where
   every expert is one of the 32, the slice is the array's own, unclamped. -/
module

public import proofs.«01_k».proof.Proof.Gen.ReferenceIdeal
public import Idealize.ShloMosaic.Lib.Pointwise

@[expose] public section

set_option maxRecDepth 16384

noncomputable section

namespace Cert.Proof.Take

open Cert.ReferenceIdeal Cert.ReferenceIdeal.Gen Idealize.ShloMosaic

/-- The layer's word, as the program clamps and wraps it, is 1. -/
def layerWord : IVec S_ 32 :=
  select (cmpi .slt (constantI S_ 32 1#32) (constantI S_ 32 0#32)) (addi (constantI S_ 32 1#32) (constantI S_ 32 4#32)) (constantI S_ 32 1#32)

/-- A start of 0, as the program wraps it by the axis's extent `n`. -/
def zeroWord (n : BitVec 32) : IVec S_ 32 :=
  select (cmpi .slt (constantI S_ 32 0#32) (constantI S_ 32 0#32)) (addi (constantI S_ 32 0#32) (constantI S_ 32 n)) (constantI S_ 32 0#32)

/-- The experts' words, as the program wraps them by 32. -/
def expertWords (be : IVec S288 32) : IVec S288 32 :=
  select (cmpi .slt be (broadcastInDim S288 ![] bcast_S_S288 (constantI S_ 32 0#32)))
    (addi be (broadcastInDim S288 ![] bcast_S_S288 (constantI S_ 32 32#32))) be

theorem layerWord_apply (j : S_.Idx) : layerWord j = 1#32 := rfl

theorem zeroWord_apply (n : BitVec 32) (j : S_.Idx) : zeroWord n j = 0#32 := rfl

/-- A word below 32 is not negative, so wrapping leaves it. -/
theorem expertWords_apply (be : IVec S288 32) (t : S288.Idx) (h : (be t).toNat < 32) : expertWords be t = be t := by
  have h0 : IntOp.cmpi .slt (be t) 0#32 = 0#1 := by
    show BitVec.ofBool ((be t).slt 0#32) = 0#1
    have : (be t).slt 0#32 = false := by
      simp only [BitVec.slt, BitVec.toInt_eq_toNat_cond, decide_eq_false_iff_not]
      split <;> simp <;> omega
    rw [this]; rfl
  show Scalar.select (IntOp.cmpi .slt (be t) 0#32) _ (be t) = be t
  rw [h0]
  rfl

/-- The start vectors of a read of matrices. -/
def starts4 (be : IVec S288 32) (n₁ n₂ : BitVec 32) : IVec S288x4 32 :=
  concatenate S288x4 1 [⟨S288x1, broadcastInDim S288x1 ![] bcast_S_S288x1 layerWord⟩,
    ⟨S288x1, broadcastInDim S288x1 ![0] bcast_S288_S288x1_0 (expertWords be)⟩,
    ⟨S288x1, broadcastInDim S288x1 ![] bcast_S_S288x1 (zeroWord n₁)⟩,
    ⟨S288x1, broadcastInDim S288x1 ![] bcast_S_S288x1 (zeroWord n₂)⟩] concatenates_S288x1_S288x1_S288x1_S288x1_S288x4_d1

/-- The start vectors of a read of bias rows. -/
def starts3 (be : IVec S288 32) (n : BitVec 32) : IVec S288x3 32 :=
  concatenate S288x3 1 [⟨S288x1, broadcastInDim S288x1 ![] bcast_S_S288x1 layerWord⟩,
    ⟨S288x1, broadcastInDim S288x1 ![0] bcast_S288_S288x1_0 (expertWords be)⟩,
    ⟨S288x1, broadcastInDim S288x1 ![] bcast_S_S288x1 (zeroWord n)⟩] concatenates_S288x1_S288x1_S288x1_S288x3_d1

theorem starts4_0 (be : IVec S288 32) (n₁ n₂ : BitVec 32) (t : Fin 288) : starts4 be n₁ n₂ (ix2 t 0) = 1#32 := by
  pointwise [starts4, layerWord_apply]

theorem starts4_1 (be : IVec S288 32) (n₁ n₂ : BitVec 32) (t : Fin 288) (h : (be (ix1 t)).toNat < 32) :
    starts4 be n₁ n₂ (ix2 t 1) = be (ix1 t) := by
  pointwise [starts4]
  exact expertWords_apply be _ h

theorem starts3_0 (be : IVec S288 32) (n : BitVec 32) (t : Fin 288) : starts3 be n (ix2 t 0) = 1#32 := by
  pointwise [starts3, layerWord_apply]

theorem starts3_1 (be : IVec S288 32) (n : BitVec 32) (t : Fin 288) (h : (be (ix1 t)).toNat < 32) :
    starts3 be n (ix2 t 1) = be (ix1 t) := by
  pointwise [starts3]
  exact expertWords_apply be _ h

/-- The dimension numbers of a read of one A by B matrix per start vector. -/
abbrev dims4 (A B : Nat) (wf : GatherDims.WF ⟨4, ![4, 32, A, B]⟩ ⟨2, ![288, 4]⟩ ⟨5, ![288, 1, 1, A, B]⟩ [1, 2, 3, 4] [] [] [0, 1, 2, 3] [] 1 ![1, 1, A, B]) :
    GatherDims ⟨4, ![4, 32, A, B]⟩ ⟨2, ![288, 4]⟩ ⟨5, ![288, 1, 1, A, B]⟩ where
  offsetDims := [1, 2, 3, 4]
  collapsedSliceDims := []
  operandBatchingDims := []
  startIndicesBatchingDims := []
  startIndexMap := [0, 1, 2, 3]
  indexVectorDim := 1
  sliceSizes := ![1, 1, A, B]
  wf := wf

/-- The dimension numbers of a read of one row of A per start vector. -/
abbrev dims3 (A : Nat) (wf : GatherDims.WF ⟨3, ![4, 32, A]⟩ ⟨2, ![288, 3]⟩ ⟨4, ![288, 1, 1, A]⟩ [1, 2, 3] [] [] [0, 1, 2] [] 1 ![1, 1, A]) :
    GatherDims ⟨3, ![4, 32, A]⟩ ⟨2, ![288, 3]⟩ ⟨4, ![288, 1, 1, A]⟩ where
  offsetDims := [1, 2, 3]
  collapsedSliceDims := []
  operandBatchingDims := []
  startIndicesBatchingDims := []
  startIndexMap := [0, 1, 2]
  indexVectorDim := 1
  sliceSizes := ![1, 1, A]
  wf := wf

/-- A gather of one matrix per start vector reads, where the vector is (1, e, 0, 0), matrix (1, e). -/
theorem take4 {α : Type} {A B : Nat} (wf) (x : (⟨4, ![4, 32, A, B]⟩ : Shape).Idx → α) (idx : IVec ⟨2, ![288, 4]⟩ 32) (t : Fin 288)
    (k : Fin A) (j : Fin B) (e : Fin 32) (h0 : idx (ix2 t 0) = 1#32) (h1 : (idx (ix2 t 1)).toInt.toNat = e.val) :
    Host.gather (dims4 A B wf) x idx (ix5 t 0 0 k j) = x (ix4 1 e k j) := by
  unfold Host.gather
  congr 1
  funext a
  apply Fin.ext
  fin_cases a
  · show min (idx _).toInt.toNat (4 - 1) + 0 + 0 = 1
    rw [show idx _ = idx (ix2 t 0) from congrArg idx (by funext b; fin_cases b <;> rfl), h0]
    rfl
  · show min (idx _).toInt.toNat (32 - 1) + 0 + 0 = e.val
    rw [show idx _ = idx (ix2 t 1) from congrArg idx (by funext b; fin_cases b <;> rfl), h1]
    omega
  · show min (idx _).toInt.toNat (A - A) + 0 + k.val = k.val
    omega
  · show min (idx _).toInt.toNat (B - B) + 0 + j.val = j.val
    omega

/-- A gather of one row per start vector reads, where the vector is (1, e, 0), row (1, e). -/
theorem take3 {α : Type} {A : Nat} (wf) (x : (⟨3, ![4, 32, A]⟩ : Shape).Idx → α) (idx : IVec ⟨2, ![288, 3]⟩ 32) (t : Fin 288)
    (j : Fin A) (e : Fin 32) (h0 : idx (ix2 t 0) = 1#32) (h1 : (idx (ix2 t 1)).toInt.toNat = e.val) :
    Host.gather (dims3 A wf) x idx (ix4 t 0 0 j) = x (ix3 1 e j) := by
  unfold Host.gather
  congr 1
  funext a
  apply Fin.ext
  fin_cases a
  · show min (idx _).toInt.toNat (4 - 1) + 0 + 0 = 1
    rw [show idx _ = idx (ix2 t 0) from congrArg idx (by funext b; fin_cases b <;> rfl), h0]
    rfl
  · show min (idx _).toInt.toNat (32 - 1) + 0 + 0 = e.val
    rw [show idx _ = idx (ix2 t 1) from congrArg idx (by funext b; fin_cases b <;> rfl), h1]
    omega
  · show min (idx _).toInt.toNat (A - A) + 0 + j.val = j.val
    omega

/-- The expert of each block, where the words are in range. -/
def expertOf (be : IVec S288 32) (h : ∀ i, (be i).toNat < 32) (t : Fin 288) : Fin 32 := ⟨(be (ix1 t)).toNat, h _⟩

theorem toInt_toNat_of_lt (x : BitVec 32) (h : x.toNat < 32) : x.toInt.toNat = x.toNat := by
  rw [BitVec.toInt_eq_toNat_cond]; split <;> omega

variable {α : Type} (be : IVec S288 32) (h : ∀ i, (be i).toNat < 32)

/-- The blocks' first matrices. -/
theorem first_matrices (x : S4x32x1024x2048.Idx → α) (n₁ n₂ : BitVec 32) :
    shapeCast S288x1024x2048 (Host.gather gather_S4x32x1024x2048_S288x4_S288x1x1x1024x2048_1234_n_n_n_0123_1_1110242048 x (starts4 be n₁ n₂))
        shapeCasts_S288x1x1x1024x2048_S288x1024x2048
      = fun i => x (ix4 1 (expertOf be h (i 0)) (i 1) (i 2)) := by
  funext i
  idx_vars i
  pointwise
  exact take4 _ x _ _ _ _ (expertOf be h i0) (starts4_0 be n₁ n₂ i0) (by rw [starts4_1 be n₁ n₂ i0 (h _)]; exact toInt_toNat_of_lt _ (h _))

/-- The blocks' second matrices. -/
theorem second_matrices (x : S4x32x1024x1024.Idx → α) (n₁ n₂ : BitVec 32) :
    shapeCast S288x1024x1024 (Host.gather gather_S4x32x1024x1024_S288x4_S288x1x1x1024x1024_1234_n_n_n_0123_1_1110241024 x (starts4 be n₁ n₂))
        shapeCasts_S288x1x1x1024x1024_S288x1024x1024
      = fun i => x (ix4 1 (expertOf be h (i 0)) (i 1) (i 2)) := by
  funext i
  idx_vars i
  pointwise
  exact take4 _ x _ _ _ _ (expertOf be h i0) (starts4_0 be n₁ n₂ i0) (by rw [starts4_1 be n₁ n₂ i0 (h _)]; exact toInt_toNat_of_lt _ (h _))

/-- The blocks' first bias rows. -/
theorem first_biases (x : S4x32x2048.Idx → α) (n : BitVec 32) :
    shapeCast S288x2048 (Host.gather gather_S4x32x2048_S288x3_S288x1x1x2048_123_n_n_n_012_1_112048 x (starts3 be n))
        shapeCasts_S288x1x1x2048_S288x2048
      = fun i => x (ix3 1 (expertOf be h (i 0)) (i 1)) := by
  funext i
  idx_vars i
  pointwise
  exact take3 _ x _ _ _ (expertOf be h i0) (starts3_0 be n i0) (by rw [starts3_1 be n i0 (h _)]; exact toInt_toNat_of_lt _ (h _))

/-- The blocks' second bias rows. -/
theorem second_biases (x : S4x32x1024.Idx → α) (n : BitVec 32) :
    shapeCast S288x1024 (Host.gather gather_S4x32x1024_S288x3_S288x1x1x1024_123_n_n_n_012_1_111024 x (starts3 be n))
        shapeCasts_S288x1x1x1024_S288x1024
      = fun i => x (ix3 1 (expertOf be h (i 0)) (i 1)) := by
  funext i
  idx_vars i
  pointwise
  exact take3 _ x _ _ _ (expertOf be h i0) (starts3_0 be n i0) (by rw [starts3_1 be n i0 (h _)]; exact toInt_toNat_of_lt _ (h _))

end Cert.Proof.Take

end
-- ==== Proof.Reference.lean ====
/- The reference's result, element by element.

   Its rows are taken in 288 blocks of 512. A block's expert is read from the block table; a block past the used ones is
   zero. -/
module

public import proofs.«01_k».proof.Proof.Expert
public import proofs.«01_k».proof.Proof.TakeRead
public import proofs.«01_k».proof.Proof.Gen.ReferenceIdeal.Run

@[expose] public section

set_option maxRecDepth 16384

noncomputable section

namespace Cert.Proof.Ref

open Cert.ReferenceIdeal Cert.ReferenceIdeal.Gen Idealize.ShloMosaic Idealize.ShloMosaic.TcCoe Cert.Proof.Take

variable (be : IVec S288 32) (nb : IVec S1 32) (xs : FVec Ideal S147456x1024 .bf16) (w₁ : FVec Ideal S4x32x1024x2048 .f32)
  (b₁ : FVec Ideal S4x32x2048 .f32) (w₂ : FVec Ideal S4x32x1024x1024 .f32) (b₂ : FVec Ideal S4x32x1024 .f32)

/-- The first product and its bias, of all blocks. -/
def hiddens : FVec Ideal S288x512x2048 .f32 :=
  addf (Host.dotGeneral dot_S288x512x1024_S288x1024x2048_S288x512x2048_2_1_1_2_0_0 none
      (shapeCast S288x512x1024 (extf .f32 xs bitsLt_bf16_f32) shapeCasts_S147456x1024_S288x512x1024)
      (shapeCast S288x1024x2048 (Host.gather gather_S4x32x1024x2048_S288x4_S288x1x1x1024x2048_1234_n_n_n_0123_1_1110242048 w₁ (starts4 be 1024#32 2048#32))
        shapeCasts_S288x1x1x1024x2048_S288x1024x2048))
    (broadcastInDim S288x512x2048 ![0, 1, 2] bcast_S288x1x2048_S288x512x2048_0_1_2
      (broadcastInDim S288x1x2048 ![0, 2] bcast_S288x2048_S288x1x2048_0_2
        (shapeCast S288x2048 (Host.gather gather_S4x32x2048_S288x3_S288x1x1x2048_123_n_n_n_012_1_112048 b₁ (starts3 be 2048#32))
          shapeCasts_S288x1x1x2048_S288x2048)))

/-- A number in every place. -/
def fill (b : BitVec 32) : FVec Ideal S288x512x1024 .f32 :=
  broadcastInDim S288x512x1024 ![] bcast_S_S288x512x1024 (constant S_ .f32 b)

/-- The clamped gates of all blocks, from the first products. -/
def gates (v : FVec Ideal S288x512x2048 .f32) : FVec Ideal S288x512x1024 .f32 :=
  minimumf (extractStridedSlice S288x512x1024 ![0, 0, 0] v slices_S288x512x2048_S288x512x1024_0_0_0) (fill 0x40E00000#32)

/-- The gated activations of all blocks, from the first products. -/
def activations (v : FVec Ideal S288x512x2048 .f32) : FVec Ideal S288x512x1024 .f32 :=
  mulf (addf (minimumf (fill 0x40E00000#32) (maximumf (fill 0xC0E00000#32)
      (extractStridedSlice S288x512x1024 ![0, 0, 1024] v slices_S288x512x2048_S288x512x1024_0_0_1024))) (fill 0x3F800000#32))
    (mulf (gates v) (Host.divf (fill 0x3F800000#32) (addf (fill 0x3F800000#32) (Host.exp (Host.negf (mulf (fill 0x3FD9DB23#32) (gates v)))))))

/-- The second product and its bias, of all blocks, from the activations. -/
def outputs (a : FVec Ideal S288x512x1024 .f32) : FVec Ideal S288x512x1024 .f32 :=
  addf (Host.dotGeneral dot_S288x512x1024_S288x1024x1024_S288x512x1024_2_1_1_2_0_0 none a
      (shapeCast S288x1024x1024 (Host.gather gather_S4x32x1024x1024_S288x4_S288x1x1x1024x1024_1234_n_n_n_0123_1_1110241024 w₂ (starts4 be 1024#32 1024#32))
        shapeCasts_S288x1x1x1024x1024_S288x1024x1024))
    (broadcastInDim S288x512x1024 ![0, 1, 2] bcast_S288x1x1024_S288x512x1024_0_1_2
      (broadcastInDim S288x1x1024 ![0, 2] bcast_S288x1024_S288x1x1024_0_2
        (shapeCast S288x1024 (Host.gather gather_S4x32x1024_S288x3_S288x1x1x1024_123_n_n_n_012_1_111024 b₂ (starts3 be 1024#32))
          shapeCasts_S288x1x1x1024_S288x1024)))

/-- Which blocks are used. -/
def usedMask : IVec S288x512x1024 1 :=
  broadcastInDim S288x512x1024 ![0, 1, 2] bcast_S288x1x1_S288x512x1024_0_1_2 (broadcastInDim S288x1x1 ![0] bcast_S288_S288x1x1_0
    (cmpi .slt (iotaInDim S288 32 0) (broadcastInDim S288 ![] bcast_S_S288 (shapeCast S_ nb shapeCasts_S1_S_))))

/-- The reference's result as one term of its arguments. -/
def array : FVec Ideal S147456x1024 .bf16 :=
  truncf .bf16 (shapeCast S147456x1024 (select (usedMask nb) (outputs be w₂ b₂ (activations (hiddens be xs w₁ b₁))) (fill 0x00000000#32))
    shapeCasts_S288x512x1024_S147456x1024) bitsLt_bf16_f32

/-- The run leaves that term in the result buffer. -/
theorem value_eq (V0 : Valuation τ sig (Elt Ideal)) :
    Cert.ReferenceIdeal.Value.val3 (F := Ideal) V0 (Proc.devRef .tc main_v110)
      = array (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) :=
  (Cert.ReferenceIdeal.Value.val3_main_v110 V0).trans rfl

variable (h : ∀ i, (be i).toNat < 32)

/-- The first product of block `t` at row `r`. -/
theorem hiddens_apply (t : Fin 288) (r : Fin 512) (j : Fin 2048) :
    hiddens be xs w₁ b₁ (ix3 t r j)
      = hidden (fun k => xs (ix2 ⟨t.val * 512 + r.val, by omega⟩ k)) (fun k j => w₁ (ix4 1 (expertOf be h t) k j))
          (fun j => b₁ (ix3 1 (expertOf be h t) j)) j := by
  unfold hidden hiddens
  rw [first_matrices be h, first_biases be h]
  pointwise

/-- The activation of block `t` at row `r`, from the first products. -/
theorem activations_apply (v : FVec Ideal S288x512x2048 .f32) (t : Fin 288) (r : Fin 512) (j : Fin 1024) :
    activations v (ix3 t r j) = gated (v (ix3 t r ⟨j.val, by omega⟩)) (v (ix3 t r ⟨1024 + j.val, by omega⟩)) := by
  unfold gated gateClamp linearClamp Ideal.logistic
  pointwise [activations, gates, fill]

/-- The second product of block `t` at row `r`, from the activations. -/
theorem outputs_apply (a : FVec Ideal S288x512x1024 .f32) (t : Fin 288) (r : Fin 512) (d : Fin 1024) :
    outputs be w₂ b₂ a (ix3 t r d)
      = (∑ j : Fin 1024, a (ix3 t r j) * w₂ (ix4 1 (expertOf be h t) j d)) + b₂ (ix3 1 (expertOf be h t) d) := by
  unfold outputs
  rw [second_matrices be h, second_biases be h]
  pointwise

/-- A block is used when its number, as a word, is below the count of used blocks. -/
theorem usedMask_apply (t : Fin 288) (r : Fin 512) (d : Fin 1024) :
    usedMask nb (ix3 t r d) = BitVec.ofBool ((BitVec.ofNat 32 t.val).slt (nb (ix1 0))) := by
  pointwise [usedMask]
  rfl

/-- The reference's result at row `t * 512 + r`: the row of block `t`'s expert where the block is used, else zero. -/
theorem array_apply (t : Fin 288) (r : Fin 512) (d : Fin 1024) :
    array be nb xs w₁ b₁ w₂ b₂ (ix2 ⟨t.val * 512 + r.val, by omega⟩ d)
      = if (BitVec.ofNat 32 t.val).slt (nb (ix1 0)) then
          expertRow (fun k => xs (ix2 ⟨t.val * 512 + r.val, by omega⟩ k)) (fun k j => w₁ (ix4 1 (expertOf be h t) k j))
            (fun j => b₁ (ix3 1 (expertOf be h t) j)) (fun j d => w₂ (ix4 1 (expertOf be h t) j d))
            (fun d => b₂ (ix3 1 (expertOf be h t) d)) d
        else 0 := by
  have e : array be nb xs w₁ b₁ w₂ b₂ (ix2 ⟨t.val * 512 + r.val, by omega⟩ d)
      = Scalar.select (usedMask nb (ix3 t r d)) (outputs be w₂ b₂ (activations (hiddens be xs w₁ b₁)) (ix3 t r d)) 0 := by
    pointwise [array, fill]
  rw [e, usedMask_apply, outputs_apply be w₂ b₂ h]
  unfold expertRow
  simp only [activations_apply, hiddens_apply be xs w₁ b₁ h]
  cases (BitVec.ofNat 32 t.val).slt (nb (ix1 0)) <;> rfl

end Cert.Proof.Ref

end
-- ==== Proof.Value.lean ====
/- The result array, entry by entry: the reference's array of the arguments. -/
module

public import proofs.«01_k».proof.Proof.Inputs
public import proofs.«01_k».proof.Proof.Reference

@[expose] public section

set_option maxRecDepth 16384

noncomputable section

namespace Cert.Proof

open Cert.KernelIdeal Cert.KernelIdeal.Gen

open Idealize.ShloMosaic Idealize.ShloMosaic.TcCoe Idealize.SL.Sem

variable (m : (ℓ : Loc nD τ sig) → Buf (Elt Ideal) ℓ) (ρ : Dev nD → PrngReg)

/-- Row `r`, column `d` of the block point `t` leaves: the expert's row if the point is used, zero if not. -/
theorem resAt_apply (a : (pcfg0 (F := Ideal)).Adm) (c : Dev nD) (t : Fin grid0.N) (e : Fin 32)
    (he : (pf a 0 (ent t.val (lt_288 t))).toNat = e.val) (r : Fin 512) (d : Fin 1024) :
    resAt m ρ a c t (ix2 r d)
      = if (BitVec.ofNat 32 t.val).slt (pf a 1 one) = true then
          expertRow (fun k => (m ((c : Thread nD τ).loc main_arg2) : Vec Ideal S147456x1024 .bf16) (ix2 ⟨t.val * 512 + r.val, by have := lt_288 t; omega⟩ k))
            (fun k j => (m ((c : Thread nD τ).loc main_arg3) : Vec Ideal S4x32x1024x2048 .f32) (ix4 1 e k j))
            (fun j => (m ((c : Thread nD τ).loc main_arg4) : Vec Ideal S4x32x2048 .f32) (ix3 1 e j))
            (fun j d => (m ((c : Thread nD τ).loc main_arg5) : Vec Ideal S4x32x1024x1024 .f32) (ix4 1 e j d))
            (fun d => (m ((c : Thread nD τ).loc main_arg6) : Vec Ideal S4x32x1024 .f32) (ix3 1 e d)) d
        else 0 := by
  unfold resAt outBlk
  rw [usedBlocks_eq]
  by_cases hu : (BitVec.ofNat 32 t.val).slt (pf a 1 one) = true
  · rw [if_pos ((computes_iff t _).mpr hu), if_pos hu]
    refine (stored_apply (blkAt m ρ a c 0 t) (blkAt m ρ a c 1 t) (blkAt m ρ a c 2 t) (blkAt m ρ a c 3 t) (blkAt m ρ a c 4 t) r d).trans ?_
    simp only [blk0_apply m ρ a c t hu, blk1_apply m ρ a c t e he, blk2_apply m ρ a c t e he, blk3_apply m ρ a c t e he, blk4_apply m ρ a c t e he]
  · rw [if_neg (fun h => hu ((computes_iff t _).mp h)), if_neg hu]
    exact cleared_apply r d

/-- The kernel's result array is the reference's array of the same arguments. -/
theorem result_eq (h : TablesInRange m) (c : Dev nD) :
    result m ρ h c = Ref.array (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  obtain rfl : c = 0 := Subsingleton.elim _ _
  refine (final_eq m ρ (admOf m h) 0).trans ?_
  have key : ∀ i : S147456x1024.Idx, assembled m ρ (admOf m h) 0 i = Ref.array (m (((0 : Dev nD) : Thread nD τ).loc main_arg0)) (m (((0 : Dev nD) : Thread nD τ).loc main_arg1)) (m (((0 : Dev nD) : Thread nD τ).loc main_arg2))
      (m (((0 : Dev nD) : Thread nD τ).loc main_arg3)) (m (((0 : Dev nD) : Thread nD τ).loc main_arg4)) (m (((0 : Dev nD) : Thread nD τ).loc main_arg5))
      (m (((0 : Dev nD) : Thread nD τ).loc main_arg6)) i := by
    intro i
    have hi : (i 0).val < 147456 := (i 0).isLt
    have hE := Ref.array_apply (m (((0 : Dev nD) : Thread nD τ).loc main_arg0)) (m (((0 : Dev nD) : Thread nD τ).loc main_arg1)) (m (((0 : Dev nD) : Thread nD τ).loc main_arg2))
      (m (((0 : Dev nD) : Thread nD τ).loc main_arg3)) (m (((0 : Dev nD) : Thread nD τ).loc main_arg4)) (m (((0 : Dev nD) : Thread nD τ).loc main_arg5))
      (m (((0 : Dev nD) : Thread nD τ).loc main_arg6)) h.expert ⟨(i 0).val / 512, by omega⟩ ⟨(i 0).val % 512, Nat.mod_lt _ (by decide)⟩ (i 1)
    have hix : (ix2 ⟨(i 0).val / 512 * 512 + (i 0).val % 512, by omega⟩ (i 1) : S147456x1024.Idx) = i := by
      funext b
      apply Fin.ext
      match b with
      | ⟨0, _⟩ => show (i 0).val / 512 * 512 + (i 0).val % 512 = (i 0).val; omega
      | ⟨1, _⟩ => rfl
    have hone : (one : S1.Idx) = ix1 0 := (idx_one (ix1 0)).symm
    have hent : ent ((i 0).val / 512) (by omega) = (ix1 ⟨(i 0).val / 512, by omega⟩ : S288.Idx) := by
      funext b
      match b with
      | ⟨0, _⟩ => rfl
    have hK := resAt_apply m ρ (admOf m h) 0 (pt ((i 0).val / 512) (by omega)) (Take.expertOf (m (((0 : Dev nD) : Thread nD τ).loc main_arg0)) h.expert ⟨(i 0).val / 512, by omega⟩)
      (by
        show ((m (((0 : Dev nD) : Thread nD τ).loc main_arg0) : IVec S288 32) (ent ((i 0).val / 512) _)).toNat = _
        rw [hent]; rfl) ⟨(i 0).val % 512, Nat.mod_lt _ (by decide)⟩ (i 1)
    refine hK.trans (Eq.trans ?_ (hE.symm.trans (congrArg _ hix)))
    rw [← hone]
    rfl
  funext i
  exact key i

end Cert.Proof

end
-- ==== Proof.Words.lean ====
/- A 32-bit word that holds two bf16 numbers, read half by half.

   Shifted left by sixteen bits, or cleared of its lower half, the word is an f32 number: the lower or the upper bf16 number, the
   significand lengthened by sixteen zero bits. -/
module

public import Idealize.ShloMosaic.Lib.Pointwise

@[expose] public section

noncomputable section

namespace Cert.Proof

open Idealize.ShloMosaic

/-- A bf16 pattern with sixteen zero bits after it denotes the same number as an f32 pattern. -/
theorem lengthened (b : BitVec 16) : Ideal.ofBits .f32 (b ++ 0#16) = Ideal.ofBits .bf16 b := by
  have hs : (b ++ 0#16).extractLsb' 31 1 = b.extractLsb' 15 1 := by
    apply BitVec.eq_of_toNat_eq
    simp only [BitVec.extractLsb'_toNat, BitVec.toNat_append, Nat.shiftLeft_eq, Nat.shiftRight_eq_div_pow, BitVec.toNat_ofNat, Nat.zero_mod, Nat.or_zero]
    omega
  have he : ((b ++ 0#16).extractLsb' 23 8).toNat = (b.extractLsb' 7 8).toNat := by
    simp only [BitVec.extractLsb'_toNat, BitVec.toNat_append, Nat.shiftLeft_eq, Nat.shiftRight_eq_div_pow, BitVec.toNat_ofNat, Nat.zero_mod, Nat.or_zero]
    omega
  have hf : ((b ++ 0#16).extractLsb' 0 23).toNat = (b.extractLsb' 0 7).toNat * 2 ^ 16 := by
    simp only [BitVec.extractLsb'_toNat, BitVec.toNat_append, Nat.shiftLeft_eq, Nat.shiftRight_eq_div_pow, BitVec.toNat_ofNat, Nat.zero_mod, Nat.or_zero]
    omega
  show Ideal.ieee 8 23 (b ++ 0#16) = Ideal.ieee 8 7 b
  unfold Ideal.ieee
  rw [show (8 + 23 : Nat) = 31 from rfl, show (8 + 7 : Nat) = 15 from rfl, hs, he, hf]
  generalize (b.extractLsb' 0 7).toNat = f
  generalize (b.extractLsb' 7 8).toNat = e
  generalize b.extractLsb' 15 1 = s
  have h0 : f * 2 ^ 16 = 0 ↔ f = 0 := by omega
  have hz : ∀ k : Int, ((2 : ℝ) ^ 16) * (2 : ℝ) ^ (k - 23) = (2 : ℝ) ^ (k - 7) := fun k => by
    rw [← zpow_natCast (2 : ℝ) 16, ← zpow_add₀ (by norm_num : (2 : ℝ) ≠ 0)]
    congr 1
    push_cast
    ring
  have hz1 := hz (1 - (2 ^ (8 - 1) - 1))
  have hz2 := hz ((e : Int) - (2 ^ (8 - 1) - 1))
  simp only [h0]
  split
  · rfl
  · split
    · congr 1
      push_cast
      push_cast at hz1
      rw [← hz1]
      ring
    · congr 1
      push_cast
      push_cast at hz2
      rw [← hz2]
      ring

/-- The word shifted left by sixteen bits is its lower number. -/
theorem lower_half (w : BitVec 32) : Ideal.ofBits .f32 (w <<< 16) = Ideal.ofBits .bf16 (w.extractLsb' 0 16) := by
  rw [← lengthened]
  congr 1
  apply BitVec.eq_of_getLsbD_eq
  intro i hi
  rw [BitVec.getLsbD_append]
  by_cases h : i < 16
  · simp [h]
  · have : i - 16 < 16 := by omega
    simp [h, hi, this]
    exact (BitVec.getLsbD_eq_getElem _).symm

/-- The word without its lower half is its upper number. -/
theorem upper_half (w : BitVec 32) : Ideal.ofBits .f32 (w &&& 0xFFFF0000#32) = Ideal.ofBits .bf16 (w.extractLsb' 16 16) := by
  rw [← lengthened]
  congr 1
  have hm : ∀ i, (hi : i < 32) → (0xFFFF0000#32).getLsbD i = decide (16 ≤ i) := by decide
  apply BitVec.eq_of_getLsbD_eq
  intro i hi
  rw [BitVec.getLsbD_append, BitVec.getLsbD_and, hm i hi]
  by_cases h : i < 16
  · simp [h]
  · have : i - 16 < 16 := by omega
    have e : 16 + (i - 16) = i := by omega
    simp [h, this, e, Nat.not_lt.mp h]

/-- The same two readings of the kernel's own shift and mask. -/
theorem lower_word (w : BitVec 32) : Ideal.ofBits .f32 (IntOp.shli .vector w 16#32) = Ideal.ofBits .bf16 (w.extractLsb' 0 16) :=
  lower_half w

theorem upper_word (w : BitVec 32) : Ideal.ofBits .f32 (IntOp.andi w 0xFFFF0000#32) = Ideal.ofBits .bf16 (w.extractLsb' 16 16) :=
  upper_half w

end Cert.Proof

end
-- ==== Proof.CombineRow.lean ====
/- One token's row of the second norm: its experts' rows weighted and added to the token's scaled row, then normalised. -/
module

public import proofs.«01_k».proof.Proof.Words

@[expose] public section

noncomputable section

namespace Cert.Proof.Combine

open Idealize.ShloMosaic

/-- Column `d` of an expert's row held in 512 words: the lower numbers are columns 0 to 511, the upper ones 512 to 1023. -/
def unpacked (w : Fin 512 → BitVec 32) (d : Fin 1024) : EReal :=
  if h : d.val < 512 then Ideal.ofBits .bf16 ((w ⟨d.val, h⟩).extractLsb' 0 16)
  else Ideal.ofBits .bf16 ((w ⟨d.val - 512, by omega⟩).extractLsb' 16 16)

/-- The token's scaled row and its four weighted expert rows. -/
def blended (x : Fin 1024 → EReal) (g : Fin 4 → EReal) (w : Fin 4 → Fin 512 → BitVec 32) (d : Fin 1024) : EReal :=
  Ideal.ofBits .f32 0x3FD744FD#32 * x d
    + (g 0 * unpacked (w 0) d + g 1 * unpacked (w 1) d + g 2 * unpacked (w 2) d + g 3 * unpacked (w 3) d)

/-- The mean of a row. -/
def mean (z : Fin 1024 → EReal) : EReal := Ideal.div (∑ d, z d) (Ideal.ofBits .f32 0x44800000#32)

/-- A row less its mean. -/
def centred (z : Fin 1024 → EReal) (d : Fin 1024) : EReal := z d - mean z

/-- The row normalised to mean zero and variance one. -/
def normalised (z : Fin 1024 → EReal) (d : Fin 1024) : EReal :=
  centred z d * Ideal.rsqrt (mean (fun k => centred z k * centred z k) + Ideal.ofBits .f32 0x3727C5AC#32)

/-- The norm's row: normalised, scaled and shifted. -/
def normRow (x : Fin 1024 → EReal) (g : Fin 4 → EReal) (w : Fin 4 → Fin 512 → BitVec 32) (s b : Fin 1024 → EReal) (d : Fin 1024) : EReal :=
  normalised (blended x g w) d * s d + b d

end Cert.Proof.Combine

end
-- ==== Proof.CombinePayload.lean ====
/- The block the second norm's kernel stores, element by element. -/
module

public import proofs.«01_k».proof.Proof.CombineRow
public import proofs.«01_k».proof.Proof.Gen.CombineIdeal.Frame

@[expose] public section

set_option maxRecDepth 16384

noncomputable section

namespace Cert.Proof.Combine

open Cert.CombineIdeal Cert.CombineIdeal.Gen Idealize.ShloMosaic

/-- The weighted sum of the upper numbers of the first two experts' words. -/
theorem upper_two (g : Vec Ideal S512x128 .f32) (w₀ w₁ : Vec Ideal S1x512x512 .i32) (r j : Fin 512) :
    k0_pay7 (F := Ideal) g w₀ w₁ (ix2 r j)
      = g (ix2 r 0) * Ideal.ofBits .bf16 ((w₀ (ix3 0 r j)).extractLsb' 16 16) + g (ix2 r 1) * Ideal.ofBits .bf16 ((w₁ (ix3 0 r j)).extractLsb' 16 16) := by
  pointwise [k0_pay7, k0_pay3, k0_pay4, k0_pay5, k0_pay6, lower_word, upper_word]

/-- The upper numbers of the third expert's words. -/
theorem upper_third (w₂ : Vec Ideal S1x512x512 .i32) (r j : Fin 512) :
    k0_pay9 (F := Ideal) w₂ (ix2 r j) = Ideal.ofBits .bf16 ((w₂ (ix3 0 r j)).extractLsb' 16 16) := by
  pointwise [k0_pay9, k0_pay8, upper_word]

/-- The weighted sum of the lower numbers of the first three experts' words. -/
theorem lower_three (g : Vec Ideal S512x128 .f32) (w₀ w₁ w₂ : Vec Ideal S1x512x512 .i32) (r j : Fin 512) :
    k0_pay11 (F := Ideal) g w₀ w₁ w₂ (ix2 r j)
      = g (ix2 r 0) * Ideal.ofBits .bf16 ((w₀ (ix3 0 r j)).extractLsb' 0 16) + g (ix2 r 1) * Ideal.ofBits .bf16 ((w₁ (ix3 0 r j)).extractLsb' 0 16)
        + g (ix2 r 2) * Ideal.ofBits .bf16 ((w₂ (ix3 0 r j)).extractLsb' 0 16) := by
  pointwise [k0_pay11, k0_pay8, k0_pay10, k0_pay3, k0_pay4, k0_pay5, k0_pay6, lower_word, upper_word]

/-- The third expert's weights. -/
theorem third_weight (g : Vec Ideal S512x128 .f32) (r j : Fin 512) : k0_pay12 (F := Ideal) g (ix2 r j) = g (ix2 r 2) := by
  pointwise [k0_pay12, k0_pay10]

/-- The lower numbers' weighted sum, from the first three experts' sum and the fourth's words. -/
def lowerSum (g : Vec Ideal S512x128 .f32) (v : FVec Ideal S512x512 .f32) (w₃ : Vec Ideal S1x512x512 .i32) : FVec Ideal S512x512 .f32 :=
  addf v (mulf (broadcastTo S512x512 (extractStridedSlice S512x1 ![0, 3] g slices_S512x128_o0_3_S512x1) broadcasts_S512x1_S512x512)
    (bitcastToFloat .f32 (shli (shapeCast S512x512 w₃ shapeCasts_S1x512x512_S512x512) (broadcast S512x512 16#32))))

/-- The upper numbers' weighted sum, from the first two experts' sum, the third's weights and numbers, and the fourth's words. -/
def upperSum (g : Vec Ideal S512x128 .f32) (v u t : FVec Ideal S512x512 .f32) (w₃ : Vec Ideal S1x512x512 .i32) : FVec Ideal S512x512 .f32 :=
  addf (addf v (mulf t u)) (mulf (broadcastTo S512x512 (extractStridedSlice S512x1 ![0, 3] g slices_S512x128_o0_3_S512x1) broadcasts_S512x1_S512x512)
    (bitcastToFloat .f32 (andi (shapeCast S512x512 w₃ shapeCasts_S1x512x512_S512x512) (broadcast S512x512 4294901760#32))))

/-- The scaled rows with the two sums side by side. -/
def sums (x : Vec Ideal S512x1024 .f32) (l u : FVec Ideal S512x512 .f32) : FVec Ideal S512x1024 .f32 :=
  addf (mulf (broadcast S512x1024 (Scalar.ofBits .f32 0x3FD744FD#32)) x)
    (concatenate S512x1024 1 [⟨S512x512, l⟩, ⟨S512x512, u⟩] concatenates_S512x512_S512x512_S512x1024_d1)

/-- A row's mean, in one column. -/
def means (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

/-- The rows less their means. -/
def centre (z : FVec Ideal S512x1024 .f32) : FVec Ideal S512x1024 .f32 := subf z (broadcastTo S512x1024 (means z) broadcasts_S512x1_S512x1024)

/-- The rows normalised. -/
def normal (z : FVec Ideal S512x1024 .f32) : FVec Ideal S512x1024 .f32 :=
  mulf (centre z) (broadcastTo S512x1024 (rsqrt (addf (means (mulf (centre z) (centre z))) (broadcast S512x1 (Scalar.ofBits .f32 0x3727C5AC#32))))
    broadcasts_S512x1_S512x1024)

/-- What the kernel normalises. -/
theorem payload_eq (g : Vec Ideal S512x128 .f32) (v u l t : FVec Ideal S512x512 .f32) (w₃ : Vec Ideal S1x512x512 .i32) (x : Vec Ideal S512x1024 .f32) :
    k0_pay14 (F := Ideal) g v u l t w₃ x = normal (sums x (lowerSum g l w₃) (upperSum g v u t w₃)) := rfl

theorem lowerSum_apply (g : Vec Ideal S512x128 .f32) (v : FVec Ideal S512x512 .f32) (w₃ : Vec Ideal S1x512x512 .i32) (r j : Fin 512) :
    lowerSum g v w₃ (ix2 r j) = v (ix2 r j) + g (ix2 r 3) * Ideal.ofBits .bf16 ((w₃ (ix3 0 r j)).extractLsb' 0 16) := by
  pointwise [lowerSum, lower_word]

theorem upperSum_apply (g : Vec Ideal S512x128 .f32) (v u t : FVec Ideal S512x512 .f32) (w₃ : Vec Ideal S1x512x512 .i32) (r j : Fin 512) :
    upperSum g v u t w₃ (ix2 r j)
      = v (ix2 r j) + t (ix2 r j) * u (ix2 r j) + g (ix2 r 3) * Ideal.ofBits .bf16 ((w₃ (ix3 0 r j)).extractLsb' 16 16) := by
  pointwise [upperSum, upper_word]

theorem means_apply (z : FVec Ideal S512x1024 .f32) (r : Fin 512) : means z (ix2 r 0) = mean fun d => z (ix2 r d) := by
  unfold mean
  pointwise [means]

theorem centre_apply (z : FVec Ideal S512x1024 .f32) (r : Fin 512) (d : Fin 1024) : centre z (ix2 r d) = centred (fun d => z (ix2 r d)) d := by
  unfold centred
  rw [← means_apply]
  pointwise [centre]

theorem normal_apply (z : FVec Ideal S512x1024 .f32) (r : Fin 512) (d : Fin 1024) : normal z (ix2 r d) = normalised (fun d => z (ix2 r d)) d := by
  have h : means (mulf (centre z) (centre z)) (ix2 r 0) = mean fun k => centred (fun d => z (ix2 r d)) k * centred (fun d => z (ix2 r d)) k := by
    rw [means_apply]
    refine congrArg mean (funext fun k => ?_)
    rw [← centre_apply]
    pointwise
  unfold normalised
  rw [← h, ← centre_apply]
  pointwise [normal]

theorem sums_low (x : Vec Ideal S512x1024 .f32) (l u : FVec Ideal S512x512 .f32) (r : Fin 512) (d : Fin 1024) (h : d.val < 512) :
    sums x l u (ix2 r d) = Ideal.ofBits .f32 0x3FD744FD#32 * x (ix2 r d) + l (ix2 r ⟨d.val, h⟩) := by
  pointwise [sums, h]

theorem sums_high (x : Vec Ideal S512x1024 .f32) (l u : FVec Ideal S512x512 .f32) (r : Fin 512) (d : Fin 1024) (h : ¬ d.val < 512) :
    sums x l u (ix2 r d) = Ideal.ofBits .f32 0x3FD744FD#32 * x (ix2 r d) + u (ix2 r ⟨d.val - 512, by omega⟩) := by
  pointwise [sums, h]

/-- The row the kernel normalises, from the blocks it loads. -/
theorem blended_apply (x : Vec Ideal S512x1024 .f32) (g : Vec Ideal S512x128 .f32) (w₀ w₁ w₂ w₃ : Vec Ideal S1x512x512 .i32) (r : Fin 512) (d : Fin 1024) :
    sums x (lowerSum g (k0_pay11 g w₀ w₁ w₂) w₃) (upperSum g (k0_pay7 g w₀ w₁) (k0_pay9 w₂) (k0_pay12 g) w₃) (ix2 r d)
      = blended (fun d => x (ix2 r d)) ![g (ix2 r 0), g (ix2 r 1), g (ix2 r 2), g (ix2 r 3)]
          ![fun j => w₀ (ix3 0 r j), fun j => w₁ (ix3 0 r j), fun j => w₂ (ix3 0 r j), fun j => w₃ (ix3 0 r j)] d := by
  unfold blended unpacked
  by_cases h : d.val < 512
  · rw [sums_low _ _ _ _ _ h, lowerSum_apply, lower_three]
    simp only [dif_pos h]
    rfl
  · rw [sums_high _ _ _ _ _ h, upperSum_apply, upper_two, upper_third, third_weight]
    simp only [dif_neg h]
    rfl

/-- The first result's block. -/
theorem first_apply (x : Vec Ideal S512x1024 .f32) (g : Vec Ideal S512x128 .f32) (w₀ w₁ w₂ w₃ : Vec Ideal S1x512x512 .i32)
    (s b : Vec Ideal S1x1024 .f32) (r : Fin 512) (d : Fin 1024) :
    k0_pay1 (F := Ideal) (k0_pay13 b) (k0_pay14 g (k0_pay7 g w₀ w₁) (k0_pay9 w₂) (k0_pay11 g w₀ w₁ w₂) (k0_pay12 g) w₃ x) (k0_pay15 s) (ix2 r d)
      = normRow (fun d => x (ix2 r d)) ![g (ix2 r 0), g (ix2 r 1), g (ix2 r 2), g (ix2 r 3)]
          ![fun j => w₀ (ix3 0 r j), fun j => w₁ (ix3 0 r j), fun j => w₂ (ix3 0 r j), fun j => w₃ (ix3 0 r j)]
          (fun d => s (ix2 0 d)) (fun d => b (ix2 0 d)) d := by
  have hp : ∀ v : FVec Ideal S512x1024 .f32, k0_pay1 (F := Ideal) (k0_pay13 b) v (k0_pay15 s) (ix2 r d) = v (ix2 r d) * s (ix2 0 d) + b (ix2 0 d) := fun v => by
    pointwise [k0_pay1, k0_pay13, k0_pay15]
  rw [hp, payload_eq, normal_apply]
  unfold normRow
  congr 3
  funext k
  exact blended_apply x g w₀ w₁ w₂ w₃ r k

end Cert.Proof.Combine

end
-- ==== Proof.CombineReference.lean ====
/- The second norm's reference, element by element. -/
module

public import proofs.«01_k».proof.Proof.CombineRow
public import proofs.«01_k».proof.Proof.Gen.CombineReferenceIdeal.Run

@[expose] public section

set_option maxRecDepth 16384

noncomputable section

namespace Cert.Proof.Combine.Ref

open Cert.CombineReferenceIdeal Cert.CombineReferenceIdeal.Gen Idealize.ShloMosaic Idealize.ShloMosaic.TcCoe

variable (x : FVec Ideal S32768x1024 .f32) (yk : IVec S4x32768x512 32) (g : FVec Ideal S32768x128 .f32) (s b : FVec Ideal S4x1024 .f32)

/-- The words' numbers, the two of a word in a last axis. -/
def numbers : FVec Ideal S4x32768x512x2 .f32 :=
  extf .f32 (bitcastToFloat (F := Ideal) .bf16 (Host.bitcastConvertNarrow S4x32768x512x2 16 yk splits_S4x32768x512_w32_S4x32768x512x2_w16)) bitsLt_bf16_f32

/-- The lower numbers. -/
def lower : FVec Ideal S4x32768x512 .f32 :=
  shapeCast _ (extractStridedSlice S4x32768x512x1 ![0, 0, 0, 0] (numbers yk) slices_S4x32768x512x2_S4x32768x512x1_0_0_0_0) shapeCasts_S4x32768x512x1_S4x32768x512

/-- The upper numbers. -/
def upper : FVec Ideal S4x32768x512 .f32 :=
  shapeCast _ (extractStridedSlice S4x32768x512x1 ![0, 0, 0, 1] (numbers yk) slices_S4x32768x512x2_S4x32768x512x1_0_0_0_1) shapeCasts_S4x32768x512x1_S4x32768x512

/-- The experts' rows. -/
def rows : FVec Ideal S4x32768x1024 .f32 :=
  concatenate S4x32768x1024 2 [⟨S4x32768x512, lower yk⟩, ⟨S4x32768x512, upper yk⟩] concatenates_S4x32768x512_S4x32768x512_S4x32768x1024_d2

/-- The experts' weights, along the rows. -/
def weights : FVec Ideal S4x32768x1024 .f32 :=
  broadcastInDim S4x32768x1024 ![0, 1, 2] bcast_S4x32768x1_S4x32768x1024_0_1_2 (broadcastInDim S4x32768x1 ![0, 1] bcast_S4x32768_S4x32768x1_0_1
    (transpose S4x32768 [1, 0] (extractStridedSlice S32768x4 ![0, 0] g slices_S32768x128_S32768x4_0_0) transposes_S32768x4_S4x32768_1_0))

/-- The rows to normalise. -/
def sums : FVec Ideal S32768x1024 .f32 :=
  addf (mulf (broadcastInDim S32768x1024 ![] bcast_S_S32768x1024 (constant S_ .f32 0x3FD744FD#32)) x)
    (Host.reduceAdd (mulf (weights g) (rows yk)) (constant S_ .f32 0x00000000#32) reducesTo_S4x32768x1024_S32768x1024_d0 h_S_)

/-- A row's mean, in one column. -/
def means (z : FVec Ideal S32768x1024 .f32) : FVec Ideal S32768x1 .f32 :=
  Host.divf (broadcastInDim S32768x1 ![0] bcast_S32768_S32768x1_0 (Host.reduceAdd z (constant S_ .f32 0x00000000#32) reducesTo_S32768x1024_S32768_d1 h_S_))
    (broadcastInDim S32768x1 ![] bcast_S_S32768x1 (constant S_ .f32 0x44800000#32))

/-- The rows less their means. -/
def centre (z : FVec Ideal S32768x1024 .f32) : FVec Ideal S32768x1024 .f32 :=
  subf z (broadcastInDim S32768x1024 ![0, 1] bcast_S32768x1_S32768x1024_0_1 (means z))

/-- The rows normalised. -/
def normal (z : FVec Ideal S32768x1024 .f32) : FVec Ideal S32768x1024 .f32 :=
  mulf (centre z) (broadcastInDim S32768x1024 ![0, 1] bcast_S32768x1_S32768x1024_0_1
    (Host.rsqrt (addf (means (mulf (centre z) (centre z))) (broadcastInDim S32768x1 ![] bcast_S_S32768x1 (constant S_ .f32 0x3727C5AC#32)))))

/-- The last layer's row of a norm parameter, along the tokens. -/
def layerRow (p : FVec Ideal S4x1024 .f32) : FVec Ideal S32768x1024 .f32 :=
  broadcastInDim S32768x1024 ![0, 1] bcast_S1x1024_S32768x1024_0_1 (broadcastInDim S1x1024 ![1] bcast_S1024_S1x1024_1
    (shapeCast S1024 (extractStridedSlice S1x1024 ![3, 0] p slices_S4x1024_S1x1024_3_0) shapeCasts_S1x1024_S1024))

/-- The reference's first result as one term of its arguments; the second is this one rounded. -/
def array : FVec Ideal S32768x1024 .f32 := addf (mulf (normal (sums x yk g)) (layerRow s)) (layerRow b)

theorem first_eq (m : (ℓ : Loc nD τ sig) → Buf (Elt Ideal) ℓ) (c : Dev nD) :
    Cert.CombineReferenceIdeal.Value.res_out0 m c
      = array (m ((c : Thread nD τ).loc main_arg0)) (m ((c : Thread nD τ).loc main_arg1)) (m ((c : Thread nD τ).loc main_arg2))
          (m ((c : Thread nD τ).loc main_arg3)) (m ((c : Thread nD τ).loc main_arg4)) := by
  unfold Cert.CombineReferenceIdeal.Value.res_out0 Cert.CombineReferenceIdeal.Value.res_main_v43
  rfl

theorem second_eq (m : (ℓ : Loc nD τ sig) → Buf (Elt Ideal) ℓ) (c : Dev nD) :
    Cert.CombineReferenceIdeal.Value.res_out1 m c
      = truncf .bf16 (array (m ((c : Thread nD τ).loc main_arg0)) (m ((c : Thread nD τ).loc main_arg1)) (m ((c : Thread nD τ).loc main_arg2))
          (m ((c : Thread nD τ).loc main_arg3)) (m ((c : Thread nD τ).loc main_arg4))) bitsLt_bf16_f32 := by
  unfold Cert.CombineReferenceIdeal.Value.res_out1 Cert.CombineReferenceIdeal.Value.res_main_v44
  rfl

/-- Number `q` of a word. -/
theorem split_apply (k : Fin 4) (t : Fin 32768) (j : Fin 512) (q : Fin 2) :
    Host.bitcastConvertNarrow S4x32768x512x2 16 yk splits_S4x32768x512_w32_S4x32768x512x2_w16 (ix4 k t j q)
      = (yk (ix3 k t j)).extractLsb' (q.val * 16) 16 := by
  show (yk _).extractLsb' (q.val * 16) 16 = _
  refine congrArg (fun i => (yk i).extractLsb' (q.val * 16) 16) (funext fun b => ?_)
  match b with
  | ⟨0, _⟩ => rfl
  | ⟨1, _⟩ => rfl
  | ⟨2, _⟩ => rfl

theorem lower_apply (k : Fin 4) (t : Fin 32768) (j : Fin 512) :
    lower yk (ix3 k t j) = Ideal.ofBits .bf16 ((yk (ix3 k t j)).extractLsb' 0 16) := by
  pointwise [lower, numbers, split_apply]

theorem upper_apply (k : Fin 4) (t : Fin 32768) (j : Fin 512) :
    upper yk (ix3 k t j) = Ideal.ofBits .bf16 ((yk (ix3 k t j)).extractLsb' 16 16) := by
  pointwise [upper, numbers, split_apply]

theorem rows_apply (k : Fin 4) (t : Fin 32768) (d : Fin 1024) : rows yk (ix3 k t d) = unpacked (fun j => yk (ix3 k t j)) d := by
  unfold unpacked
  by_cases h : d.val < 512
  · rw [dif_pos h, ← lower_apply]
    pointwise [rows, h]
  · rw [dif_neg h, ← upper_apply]
    pointwise [rows, h]

theorem weights_apply (k : Fin 4) (t : Fin 32768) (d : Fin 1024) : weights g (ix3 k t d) = g (ix2 t ⟨k.val, by omega⟩) := by
  pointwise [weights]

theorem sums_apply (t : Fin 32768) (d : Fin 1024) :
    sums x yk g (ix2 t d) = blended (fun d => x (ix2 t d)) (fun k => g (ix2 t ⟨k.val, by omega⟩)) (fun k j => yk (ix3 k t j)) d := by
  have h : sums x yk g (ix2 t d) = Ideal.ofBits .f32 0x3FD744FD#32 * x (ix2 t d) + ∑ k : Fin 4, weights g (ix3 k t d) * rows yk (ix3 k t d) := by
    pointwise [sums]
  rw [h, Fin.sum_univ_four]
  simp only [weights_apply, rows_apply]
  rfl

theorem means_apply (z : FVec Ideal S32768x1024 .f32) (t : Fin 32768) : means z (ix2 t 0) = mean fun d => z (ix2 t d) := by
  unfold mean
  pointwise [means]

theorem centre_apply (z : FVec Ideal S32768x1024 .f32) (t : Fin 32768) (d : Fin 1024) : centre z (ix2 t d) = centred (fun d => z (ix2 t d)) d := by
  unfold centred
  rw [← means_apply]
  pointwise [centre]

theorem normal_apply (z : FVec Ideal S32768x1024 .f32) (t : Fin 32768) (d : Fin 1024) : normal z (ix2 t d) = normalised (fun d => z (ix2 t d)) d := by
  have h : means (mulf (centre z) (centre z)) (ix2 t 0) = mean fun k => centred (fun d => z (ix2 t d)) k * centred (fun d => z (ix2 t d)) k := by
    rw [means_apply]
    refine congrArg mean (funext fun k => ?_)
    rw [← centre_apply]
    pointwise
  unfold normalised
  rw [← h, ← centre_apply]
  pointwise [normal]

theorem layerRow_apply (p : FVec Ideal S4x1024 .f32) (t : Fin 32768) (d : Fin 1024) : layerRow p (ix2 t d) = p (ix2 3 d) := by
  pointwise [layerRow]

theorem array_apply (t : Fin 32768) (d : Fin 1024) :
    array x yk g s b (ix2 t d)
      = normRow (fun d => x (ix2 t d)) (fun k => g (ix2 t ⟨k.val, by omega⟩)) (fun k j => yk (ix3 k t j)) (fun d => s (ix2 3 d)) (fun d => b (ix2 3 d)) d := by
  have h : array x yk g s b (ix2 t d) = normal (sums x yk g) (ix2 t d) * layerRow s (ix2 t d) + layerRow b (ix2 t d) := by
    unfold array
    generalize normal (sums x yk g) = v
    generalize layerRow s = p
    generalize layerRow b = q
    pointwise
  rw [h, normal_apply, layerRow_apply, layerRow_apply]
  exact congrArg (fun z => normalised z d * s (ix2 3 d) + b (ix2 3 d)) (funext fun k => sums_apply x yk g t k)

end Cert.Proof.Combine.Ref

end
-- ==== Proof.CombineValue.lean ====
/- The second norm's kernel, read at the extended reals: its results are the reference's arrays.

   Point `t` of the grid handles tokens `t * 512` to `t * 512 + 511`. -/
module

public import proofs.«01_k».proof.Proof.CombinePayload
public import proofs.«01_k».proof.Proof.CombineReference
public import proofs.«01_k».proof.Proof.Gen.CombineIdeal.Value
public import Idealize.ShloMosaic.Lib.Pipeline.ValueKit.Basic

@[expose] public section

set_option maxRecDepth 16384

noncomputable section

namespace Cert.Proof.Combine

open Cert.CombineIdeal Cert.CombineIdeal.Gen Idealize.ShloMosaic Idealize.ShloMosaic.TcCoe Idealize.SL.Sem

variable (m : (ℓ : Loc nD τ sig) → Buf (Elt Ideal) ℓ)

theorem coord_val : ∀ t : Fin grid0.N, ((grid0.coords t) 0).val = t.val := by decide +kernel

theorem lt_64 (t : Fin grid0.N) : t.val < 64 := lt_of_lt_of_eq t.isLt N_0

/-- The first axis' block index of the blocks that move with the grid. -/
theorem index_val (t : Fin grid0.N) : (BitVec.ofNat 32 ((grid0.coords t) 0).val).toNat = t.val := by
  rw [coord_val, BitVec.toNat_ofNat, Nat.mod_eq_of_lt]
  have := lt_64 t; omega

/-- Row `r` of point `t`'s tokens. -/
abbrev token (t : Fin grid0.N) (r : Fin 512) : Fin 32768 := ⟨t.val * 512 + r.val, by have := lt_64 t; omega⟩

/-! ## The blocks a point loads -/

theorem blk0_apply (c : Dev nD) (t : Fin grid0.N) (r : Fin 512) (d : Fin 1024) :
    (iblk m c 0 t : Vec Ideal S512x1024 .f32) (ix2 r d) = (m ((c : Thread nD τ).loc main_arg0) : Vec Ideal S32768x1024 .f32) (ix2 (token t r) d) := by
  have hb : (((cfg0.win 0).blk t).view.emb (ix2 r d : S512x1024.Idx) : S32768x1024.Idx) = ix2 (token t r) d := by
    have hw := index_val t
    funext b
    apply Fin.ext
    match b with
    | ⟨0, _⟩ => show (BitVec.ofNat 32 ((grid0.coords t) 0).val).toNat * 512 + 1 * r.val = t.val * 512 + r.val; omega
    | ⟨1, _⟩ => show 0 * 1024 + 1 * d.val = d.val; omega
  exact (congrArg (V m c main_arg0 : Vec Ideal S32768x1024 .f32) hb).trans (congrFun (V_main_arg0 m c) _)

theorem blk1_apply (c : Dev nD) (t : Fin grid0.N) (k : Fin 4) (r j : Fin 512) :
    (iblk m c 1 t : Vec Ideal S4x512x512 .i32) (ix3 k r j) = (m ((c : Thread nD τ).loc main_arg1) : Vec Ideal S4x32768x512 .i32) (ix3 k (token t r) j) := by
  have hb : (((cfg0.win 1).blk t).view.emb (ix3 k r j : S4x512x512.Idx) : S4x32768x512.Idx) = ix3 k (token t r) j := by
    have hw := index_val t
    funext b
    apply Fin.ext
    match b with
    | ⟨0, _⟩ => show 0 * 4 + 1 * k.val = k.val; omega
    | ⟨1, _⟩ => show (BitVec.ofNat 32 ((grid0.coords t) 0).val).toNat * 512 + 1 * r.val = t.val * 512 + r.val; omega
    | ⟨2, _⟩ => show 0 * 512 + 1 * j.val = j.val; omega
  exact (congrArg (V m c main_arg1 : Vec Ideal S4x32768x512 .i32) hb).trans (congrFun (V_main_arg1 m c) _)

theorem blk2_apply (c : Dev nD) (t : Fin grid0.N) (r : Fin 512) (k : Fin 128) :
    (iblk m c 2 t : Vec Ideal S512x128 .f32) (ix2 r k) = (m ((c : Thread nD τ).loc main_arg2) : Vec Ideal S32768x128 .f32) (ix2 (token t r) k) := by
  have hb : (((cfg0.win 2).blk t).view.emb (ix2 r k : S512x128.Idx) : S32768x128.Idx) = ix2 (token t r) k := by
    have hw := index_val t
    funext b
    apply Fin.ext
    match b with
    | ⟨0, _⟩ => show (BitVec.ofNat 32 ((grid0.coords t) 0).val).toNat * 512 + 1 * r.val = t.val * 512 + r.val; omega
    | ⟨1, _⟩ => show 0 * 128 + 1 * k.val = k.val; omega
  exact (congrArg (V m c main_arg2 : Vec Ideal S32768x128 .f32) hb).trans (congrFun (V_main_arg2 m c) _)

/-- The last layer's row of a norm parameter, as the program lays it out. -/
theorem layer_row (p : Vec Ideal S4x1024 .f32) (d : Fin 1024) :
    shapeCast S1x1024 (shapeCast S1024 (extractStridedSlice S1x1024 ![3, 0] p slices_S4x1024_S1x1024_3_0) shapeCasts_S1x1024_S1024) shapeCasts_S1024_S1x1024 (ix2 0 d)
      = p (ix2 3 d) := by
  pointwise

theorem scale_eq (c : Dev nD) : V m c main_v4
    = shapeCast S1x1024 (shapeCast S1024 (extractStridedSlice S1x1024 ![3, 0] (m ((c : Thread nD τ).loc main_arg3)) slices_S4x1024_S1x1024_3_0) shapeCasts_S1x1024_S1024) shapeCasts_S1024_S1x1024 := by
  unfold V
  after_results_simp
  try rfl

theorem shift_eq (c : Dev nD) : V m c main_v5
    = shapeCast S1x1024 (shapeCast S1024 (extractStridedSlice S1x1024 ![3, 0] (m ((c : Thread nD τ).loc main_arg4)) slices_S4x1024_S1x1024_3_0) shapeCasts_S1x1024_S1024) shapeCasts_S1024_S1x1024 := by
  unfold V
  after_results_simp
  try rfl

theorem blk3_apply (c : Dev nD) (t : Fin grid0.N) (d : Fin 1024) :
    (iblk m c 3 t : Vec Ideal S1x1024 .f32) (ix2 0 d) = (m ((c : Thread nD τ).loc main_arg3) : Vec Ideal S4x1024 .f32) (ix2 3 d) := by
  have hb : (((cfg0.win 3).blk t).view.emb (ix2 0 d : S1x1024.Idx) : S1x1024.Idx) = ix2 0 d := by
    funext b
    apply Fin.ext
    match b with
    | ⟨0, _⟩ => show 0 * 1 + 1 * 0 = 0; omega
    | ⟨1, _⟩ => show 0 * 1024 + 1 * d.val = d.val; omega
  exact (congrArg (V m c main_v4 : Vec Ideal S1x1024 .f32) hb).trans ((congrFun (scale_eq m c) _).trans (layer_row _ d))

theorem blk4_apply (c : Dev nD) (t : Fin grid0.N) (d : Fin 1024) :
    (iblk m c 4 t : Vec Ideal S1x1024 .f32) (ix2 0 d) = (m ((c : Thread nD τ).loc main_arg4) : Vec Ideal S4x1024 .f32) (ix2 3 d) := by
  have hb : (((cfg0.win 4).blk t).view.emb (ix2 0 d : S1x1024.Idx) : S1x1024.Idx) = ix2 0 d := by
    funext b
    apply Fin.ext
    match b with
    | ⟨0, _⟩ => show 0 * 1 + 1 * 0 = 0; omega
    | ⟨1, _⟩ => show 0 * 1024 + 1 * d.val = d.val; omega
  exact (congrArg (V m c main_v5 : Vec Ideal S1x1024 .f32) hb).trans ((congrFun (shift_eq m c) _).trans (layer_row _ d))

/-! ## The block a point leaves -/

/-- A word block of one expert. -/
theorem word_apply (x : Vec Ideal S4x512x512 .i32) (r j : Fin 512) :
    View.ld x r0_1 (ix3 0 r j) = x (ix3 0 r j) ∧ View.ld x r0_2 (ix3 0 r j) = x (ix3 1 r j)
      ∧ View.ld x r0_3 (ix3 0 r j) = x (ix3 2 r j) ∧ View.ld x r0_4 (ix3 0 r j) = x (ix3 3 r j) := by
  refine ⟨congrArg x (funext fun b => Fin.ext ?_), congrArg x (funext fun b => Fin.ext ?_), congrArg x (funext fun b => Fin.ext ?_), congrArg x (funext fun b => Fin.ext ?_)⟩
  · match b with
    | ⟨0, _⟩ => rfl
    | ⟨1, _⟩ => show 0 + 1 * r.val = r.val; omega
    | ⟨2, _⟩ => show 0 + 1 * j.val = j.val; omega
  · match b with
    | ⟨0, _⟩ => rfl
    | ⟨1, _⟩ => show 0 + 1 * r.val = r.val; omega
    | ⟨2, _⟩ => show 0 + 1 * j.val = j.val; omega
  · match b with
    | ⟨0, _⟩ => rfl
    | ⟨1, _⟩ => show 0 + 1 * r.val = r.val; omega
    | ⟨2, _⟩ => show 0 + 1 * j.val = j.val; omega
  · match b with
    | ⟨0, _⟩ => rfl
    | ⟨1, _⟩ => show 0 + 1 * r.val = r.val; omega
    | ⟨2, _⟩ => show 0 + 1 * j.val = j.val; omega

/-- The first result's block, from the blocks a point loads. -/
theorem out_apply (x : Vec Ideal S512x1024 .f32) (w : Vec Ideal S4x512x512 .i32) (g : Vec Ideal S512x128 .f32) (s b : Vec Ideal S1x1024 .f32)
    (r : Fin 512) (d : Fin 1024) :
    out0_5 (F := Ideal) x w g s b (ix2 r d)
      = normRow (fun d => x (ix2 r d)) (fun k => g (ix2 r ⟨k.val, by omega⟩)) (fun k j => w (ix3 k r j)) (fun d => s (ix2 0 d)) (fun d => b (ix2 0 d)) d := by
  have e : out0_5 (F := Ideal) x w g s b
      = k0_pay1 (k0_pay13 b) (k0_pay14 g (k0_pay7 g (View.ld w r0_1) (View.ld w r0_2)) (k0_pay9 (View.ld w r0_3))
          (k0_pay11 g (View.ld w r0_1) (View.ld w r0_2) (View.ld w r0_3)) (k0_pay12 g) (View.ld w r0_4) x) (k0_pay15 s) := by
    unfold_out out0_5
    rw [View.canon_cons_unit_lit _ _ _ (by decide), View.ld_unit_lit _ b (by decide), View.ld_unit_lit _ s (by decide), View.ld_unit_lit _ g (by decide),
      View.ld_unit_lit _ x (by decide)]
  rw [e, first_apply]
  have hg : (![g (ix2 r 0), g (ix2 r 1), g (ix2 r 2), g (ix2 r 3)] : Fin 4 → EReal) = fun k => g (ix2 r ⟨k.val, by omega⟩) := by
    funext k
    match k with
    | ⟨0, _⟩ => rfl
    | ⟨1, _⟩ => rfl
    | ⟨2, _⟩ => rfl
    | ⟨3, _⟩ => rfl
  have hw : (![fun j => View.ld w r0_1 (ix3 0 r j), fun j => View.ld w r0_2 (ix3 0 r j), fun j => View.ld w r0_3 (ix3 0 r j), fun j => View.ld w r0_4 (ix3 0 r j)] : Fin 4 → Fin 512 → BitVec 32)
      = fun k j => w (ix3 k r j) := by
    funext k j
    match k with
    | ⟨0, _⟩ => exact (word_apply w r j).1
    | ⟨1, _⟩ => exact (word_apply w r j).2.1
    | ⟨2, _⟩ => exact (word_apply w r j).2.2.1
    | ⟨3, _⟩ => exact (word_apply w r j).2.2.2
  rw [hg, hw]

/-- The second result's block is the first's, rounded. -/
theorem second_apply (x : Vec Ideal S512x1024 .f32) (w : Vec Ideal S4x512x512 .i32) (g : Vec Ideal S512x128 .f32) (s b : Vec Ideal S1x1024 .f32) :
    out0_6 (F := Ideal) x w g s b = (truncf .bf16 (out0_5 (F := Ideal) x w g s b : FVec Ideal S512x1024 .f32) bitsLt_bf16_f32 : FVec Ideal S512x1024 .bf16) := by
  unfold out0_6 out0_5
  rw [View.canon_cons_unit_lit _ _ _ (by decide), View.canon_cons_unit_lit _ _ _ (by decide)]
  rfl

/-! ## The result arrays -/

/-- The reference's array of the kernel's arguments. -/
def array (c : Dev nD) : Vec Ideal S32768x1024 .f32 :=
  Ref.array (m ((c : Thread nD τ).loc main_arg0)) (m ((c : Thread nD τ).loc main_arg1)) (m ((c : Thread nD τ).loc main_arg2))
    (m ((c : Thread nD τ).loc main_arg3)) (m ((c : Thread nD τ).loc main_arg4))

/-- The same array rounded. -/
def rounded (c : Dev nD) : Vec Ideal S32768x1024 .bf16 := (truncf .bf16 (array m c : FVec Ideal S32768x1024 .f32) bitsLt_bf16_f32 : FVec Ideal S32768x1024 .bf16)

/-- Point `t` leaves block `t` of that array. -/
theorem leaves (c : Dev nD) (t : Fin grid0.N) (r : Fin 512) (d : Fin 1024) :
    out0_5 (F := Ideal) (iblk m c 0 t) (iblk m c 1 t) (iblk m c 2 t) (iblk m c 3 t) (iblk m c 4 t) (ix2 r d) = array m c (ix2 (token t r) d) := by
  refine (out_apply (iblk m c 0 t) (iblk m c 1 t) (iblk m c 2 t) (iblk m c 3 t) (iblk m c 4 t) r d).trans (Eq.trans ?_ (Ref.array_apply _ _ _ _ _ _ _).symm)
  simp only [blk0_apply m c t, blk1_apply m c t, blk2_apply m c t, blk3_apply m c t, blk4_apply m c t]

/-- The rounded block likewise. -/
theorem leaves_rounded (c : Dev nD) (t : Fin grid0.N) (r : Fin 512) (d : Fin 1024) :
    out0_6 (F := Ideal) (iblk m c 0 t) (iblk m c 1 t) (iblk m c 2 t) (iblk m c 3 t) (iblk m c 4 t) (ix2 r d) = rounded m c (ix2 (token t r) d) := by
  refine (congrFun (second_apply (iblk m c 0 t) (iblk m c 1 t) (iblk m c 2 t) (iblk m c 3 t) (iblk m c 4 t)) (ix2 r d)).trans ?_
  have h := leaves m c t r d
  unfold rounded
  generalize out0_5 (F := Ideal) (iblk m c 0 t) (iblk m c 1 t) (iblk m c 2 t) (iblk m c 3 t) (iblk m c 4 t) = v at h ⊢
  generalize array m c = a at h ⊢
  exact congrArg (FloatOps.truncf (F := Ideal) (φ := .f32) .bf16 bitsLt_bf16_f32) h

theorem emb5 (t : Fin grid0.N) (r : Fin 512) (d : Fin 1024) :
    (((cfg0.win 5).blk t).view.emb (ix2 r d : S512x1024.Idx) : S32768x1024.Idx) = ix2 (token t r) d := by
  have hw := index_val t
  funext b
  apply Fin.ext
  match b with
  | ⟨0, _⟩ => show (BitVec.ofNat 32 ((grid0.coords t) 0).val).toNat * 512 + 1 * r.val = t.val * 512 + r.val; omega
  | ⟨1, _⟩ => show 0 * 1024 + 1 * d.val = d.val; omega

theorem emb6 (t : Fin grid0.N) (r : Fin 512) (d : Fin 1024) :
    (((cfg0.win 6).blk t).view.emb (ix2 r d : S512x1024.Idx) : S32768x1024.Idx) = ix2 (token t r) d := emb5 t r d

/-- A token is a row of some point. -/
theorem token_surj (i : S32768x1024.Idx) : ∃ (t : Fin grid0.N) (r : Fin 512), ix2 (token t r) (i 1) = i := by
  have h0 : (i 0).val < 32768 := (i 0).isLt
  refine ⟨⟨(i 0).val / 512, lt_of_lt_of_eq (by omega) N_0.symm⟩, ⟨(i 0).val % 512, Nat.mod_lt _ (by decide)⟩, ?_⟩
  funext b
  apply Fin.ext
  match b with
  | ⟨0, _⟩ => show (i 0).val / 512 * 512 + (i 0).val % 512 = (i 0).val; omega
  | ⟨1, _⟩ => rfl

/-- The first result array. -/
theorem final5 (c : Dev nD) : (dats m 0 c).arrAt 5 cfg0.N = array m c := by
  refine (dats m 0 c).arrAt_eq_of_cover 5 (array m c) (fun t _ => ?_) (fun i => ?_)
  · rw [Value.flushed5]
    have key : ∀ y : S512x1024.Idx, out0_5 (F := Ideal) (iblk m c 0 t) (iblk m c 1 t) (iblk m c 2 t) (iblk m c 3 t) (iblk m c 4 t) y
        = ((cfg0.win 5).blk t).view.read (Elt Ideal) (array m c) y := fun y => by
      idx_vars y
      exact (leaves m c t _ _).trans (congrArg (array m c) (emb5 t _ _)).symm
    funext y
    exact key y
  · obtain ⟨t, r, h⟩ := token_surj i
    exact ⟨t, flush0_5 t, ((emb5 t r (i 1)).trans h) ▸ View.emb_mem_set _ _⟩

/-- The second result array. -/
theorem final6 (c : Dev nD) : (dats m 0 c).arrAt 6 cfg0.N = rounded m c := by
  refine (dats m 0 c).arrAt_eq_of_cover 6 (rounded m c) (fun t _ => ?_) (fun i => ?_)
  · rw [Value.flushed6]
    have key : ∀ y : S512x1024.Idx, out0_6 (F := Ideal) (iblk m c 0 t) (iblk m c 1 t) (iblk m c 2 t) (iblk m c 3 t) (iblk m c 4 t) y
        = ((cfg0.win 6).blk t).view.read (Elt Ideal) (rounded m c) y := fun y => by
      idx_vars y
      exact (leaves_rounded m c t _ _).trans (congrArg (rounded m c) (emb6 t _ _)).symm
    funext y
    exact key y
  · obtain ⟨t, r, h⟩ := token_surj i
    exact ⟨t, flush0_6 t, ((emb6 t r (i 1)).trans h) ▸ View.emb_mem_set _ _⟩

end Cert.Proof.Combine

end
-- ==== Proof.ProjectionPayload.lean ====
/- The blocks the projection's kernel stores, element by element. -/
module

public import Idealize.ShloMosaic.Lib.Pointwise
public import proofs.«01_k».proof.Proof.Gen.ProjectionIdeal.Frame

@[expose] public section

set_option maxRecDepth 16384

noncomputable section

namespace Cert.Proof.Projection

open Cert.ProjectionIdeal Cert.ProjectionIdeal.Gen Idealize.ShloMosaic

variable (x : Vec Ideal S1024x1024 .bf16)

/-- 256 columns of the first result. -/
theorem fourier_block (w : Vec Ideal S1024x256 .bf16) (b : Vec Ideal S1x256 .f32) (r : Fin 1024) (j : Fin 256) :
    k0_pay2 (F := Ideal) x w b (ix2 r j) = (∑ k, x (ix2 r k) * w (ix2 k j)) + b (ix2 0 j) := by
  pointwise [k0_pay2]

variable (w : Vec Ideal S1024x512 .bf16) (b : Vec Ideal S1x512 .f32) (r : Fin 1024) (j : Fin 512)

theorem keys_block : k0_pay3 (F := Ideal) x w b (ix2 r j) = (∑ k, x (ix2 r k) * w (ix2 k j)) + b (ix2 0 j) := by
  pointwise [k0_pay3]

theorem values_block : k0_pay4 (F := Ideal) x w b (ix2 r j) = (∑ k, x (ix2 r k) * w (ix2 k j)) + b (ix2 0 j) := by
  pointwise [k0_pay4]

theorem outer_block : k0_pay6 (F := Ideal) (k0_pay5 (F := Ideal) x w) b (ix2 r j) = (∑ k, x (ix2 r k) * w (ix2 k j)) + b (ix2 0 j) := by
  pointwise [k0_pay6, k0_pay5]

theorem pairs_block : k0_pay7 (F := Ideal) x w b (ix2 r j) = (∑ k, x (ix2 r k) * w (ix2 k j)) + b (ix2 0 j) := by
  pointwise [k0_pay7]

theorem first_block : k0_pay8 (F := Ideal) x w b (ix2 r j) = (∑ k, x (ix2 r k) * w (ix2 k j)) + b (ix2 0 j) := by
  pointwise [k0_pay8]

theorem second_block : k0_pay9 (F := Ideal) x w b (ix2 r j) = (∑ k, x (ix2 r k) * w (ix2 k j)) + b (ix2 0 j) := by
  pointwise [k0_pay9]

/-- The gates' rows, a token to a column. -/
theorem gates_block (u : Vec Ideal S32x1024 .bf16) (v : Vec Ideal S32x1 .f32) (g : Fin 32) (r : Fin 1024) :
    k0_pay1 (F := Ideal) x u v (ix2 g r) = (∑ k, x (ix2 r k) * u (ix2 g k)) + v (ix2 g 0) := by
  have e : k0_pay1 (F := Ideal) x u v (ix2 g r) = (∑ k, u (ix2 g k) * x (ix2 r k)) + v (ix2 g 0) := by
    pointwise [k0_pay1]
  rw [e]
  simp only [mul_comm]

end Cert.Proof.Projection

end
-- ==== Proof.ProjectionColumns.lean ====
/- Which column of the projection each place of a result takes, and the one fact about sums that the layout rests on: a place without
   a column has a weight of zero and a bias of zero, so its sum is zero. -/
module

public import Idealize.ShloMosaic.Lib.Pointwise

@[expose] public section

noncomputable section

namespace Cert.Proof.Projection

open Idealize.ShloMosaic

/-- A projection's column, or none. -/
abbrev Col := Option (Fin 2576)

/-- What a place holds: its column's number, or zero. -/
def pick (o : Col) (p : Fin 2576 → EReal) : EReal := o.elim 0 p

theorem pick_some (c : Fin 2576) (p : Fin 2576 → EReal) : pick (some c) p = p c := rfl

theorem pick_none (p : Fin 2576 → EReal) : pick none p = 0 := rfl

/-- 256 columns as they stand. -/
def plainCol (j : Fin 256) : Col := some ⟨j.val, by omega⟩

/-- 192 columns from `a` on, then none. -/
def keyCol (a : ℕ) (ha : a + 192 ≤ 2576) (j : Fin 256) : Col := if h : j.val < 192 then some ⟨a + j.val, by omega⟩ else none

/-- Four heads of 96 columns from `a` on, each in 128 places. -/
def headCol (a : ℕ) (ha : a + 384 ≤ 2576) (j : Fin 512) : Col :=
  if h : j.val % 128 < 96 then some ⟨a + (j.val / 128 * 96 + j.val % 128), by omega⟩ else none

/-- Four heads of 24 pairs from `a` on: each head's 24 first members, then its 24 second ones. -/
def pairCol (a : ℕ) (ha : a + 192 ≤ 2576) (j : Fin 256) : Col :=
  if h : j.val < 192 then some ⟨a + (j.val / 48 * 48 + j.val % 24 * 2 + j.val / 24 % 2), by omega⟩ else none

/-- Four columns from `a` on, then none. -/
def gateCol (a : ℕ) (ha : a + 4 ≤ 2576) (j : Fin 8) : Col := if h : j.val < 4 then some ⟨a + j.val, by omega⟩ else none

/-- Two groups of 256 places side by side. -/
def both (f g : Fin 256 → Col) (j : Fin 512) : Col := if h : j.val < 256 then f ⟨j.val, h⟩ else g ⟨j.val - 256, by omega⟩

/-- The place that counts in a head of the values: the first one without a column. -/
def counts (j : Fin 512) : Prop := j.val % 128 = 96 + j.val / 128

instance (j : Fin 512) : Decidable (counts j) := inferInstanceAs (Decidable (_ = _))

/-- The number one. -/
def one : EReal := Ideal.ofBits .f32 0x3F800000#32

/-- A column of one token: the row's product with the weights' column, and the column's bias. -/
def column (x : Fin 1024 → EReal) (w : Fin 1024 → Fin 2576 → EReal) (b : Fin 2576 → EReal) (c : Fin 2576) : EReal := (∑ k, x k * w k c) + b c

/-- A sum over weights that are a column's or zero, plus a bias that is the column's or zero, is the column's sum or zero. -/
theorem sum_pick (o : Col) (x : Fin 1024 → EReal) (w : Fin 1024 → Fin 2576 → EReal) (b : Fin 2576 → EReal) :
    (∑ k, x k * pick o (w k)) + pick o b = pick o (column x w b) := by
  cases o with
  | none => simp [pick]
  | some c => rfl

/-- Two groups side by side, in a row of all the places. -/
theorem both_apply (f g : Fin 256 → Col) (q : Fin 2576 → EReal) (v : Fin 3328 → EReal) (a e : ℕ) (ha : a + 512 ≤ 3328) (he : e = a + 256)
    (hf : ∀ j : Fin 256, v ⟨a + j.val, by omega⟩ = pick (f j) q) (hg : ∀ j : Fin 256, v ⟨e + j.val, by omega⟩ = pick (g j) q) (j : Fin 512) :
    v ⟨a + j.val, by omega⟩ = pick (both f g j) q := by
  unfold both
  by_cases h : j.val < 256
  · rw [dif_pos h]
    exact hf ⟨j.val, h⟩
  · rw [dif_neg h]
    refine Eq.trans (congrArg v (Fin.ext ?_)) (hg ⟨j.val - 256, by omega⟩)
    show a + j.val = e + (j.val - 256)
    omega

/-- Without a column the sum is the bias. -/
theorem sum_none (x : Fin 1024 → EReal) (w : Fin 1024 → Fin 2576 → EReal) (b : EReal) : (∑ k, x k * pick none (w k)) + b = b := by
  simp [pick]

/-- The place that counts has no column. -/
theorem headCol_counts (a : ℕ) (ha : a + 384 ≤ 2576) (j : Fin 512) (h : counts j) : headCol a ha j = none := by
  unfold counts at h
  unfold headCol
  rw [dif_neg (by omega)]

end Cert.Proof.Projection

end
-- ==== Proof.ProjectionReference.lean ====
/- The projection's reference, element by element. -/
module

public import proofs.«01_k».proof.Proof.ProjectionColumns
public import proofs.«01_k».proof.Proof.Gen.ProjectionReferenceIdeal.Run
public import Idealize.ShloMosaic.Lib.Pipeline.Value

@[expose] public section

set_option maxRecDepth 16384

noncomputable section

namespace Cert.Proof.Projection.Ref

open Cert.ProjectionReferenceIdeal Cert.ProjectionReferenceIdeal.Gen Idealize.ShloMosaic Idealize.ShloMosaic.TcCoe

/-! ## The projection -/

/-- All tokens' columns. -/
def proj (x : FVec Ideal S32768x1024 .bf16) (w : FVec Ideal S4x1024x2576 .f32) (b : FVec Ideal S4x2576 .f32) : FVec Ideal S32768x2576 .f32 :=
  addf (Host.dotGeneral dot_S32768x1024_S1024x2576_S32768x2576_1_0_0_1_n_n none (extf .f32 x bitsLt_bf16_f32)
      (shapeCast _ (extractStridedSlice S1x1024x2576 ![1, 0, 0] w slices_S4x1024x2576_S1x1024x2576_1_0_0) shapeCasts_S1x1024x2576_S1024x2576))
    (broadcastInDim S32768x2576 ![0, 1] bcast_S1x2576_S32768x2576_0_1 (broadcastInDim S1x2576 ![1] bcast_S2576_S1x2576_1
      (shapeCast _ (extractStridedSlice S1x2576 ![1, 0] b slices_S4x2576_S1x2576_1_0) shapeCasts_S1x2576_S2576)))

theorem proj_apply (x : FVec Ideal S32768x1024 .bf16) (w : FVec Ideal S4x1024x2576 .f32) (b : FVec Ideal S4x2576 .f32) (t : Fin 32768) (c : Fin 2576) :
    proj x w b (ix2 t c) = column (fun k => x (ix2 t k)) (fun k c => w (ix3 1 k c)) (fun c => b (ix2 1 c)) c := by
  unfold column
  pointwise [proj]

/-! ## The results -/

variable (p : FVec Ideal S32768x2576 .f32)

/-- The number that fills. -/
def filler : FVec Ideal S_ .f32 := sitofp .f32 (constantI S_ 32 0#32)

theorem filler_apply (i : S_.Idx) : filler i = 0 := by
  show ((((0#32 : BitVec 32).toInt : ℝ)) : EReal) = 0
  simp

def filled (v : FVec Ideal S32768x192 .f32) : FVec Ideal S32768x256 .f32 :=
  pad S32768x256 ![0, 0] ![0, 64] ![0, 0] v filler pads_S32768x192_S32768x256_000_0640 h_S_

def heads (v : FVec Ideal S32768x384 .f32) : FVec Ideal S32768x512 .f32 :=
  shapeCast _ (pad S32768x4x128 ![0, 0, 0] ![0, 0, 32] ![0, 0, 0] (shapeCast _ v shapeCasts_S32768x384_S32768x4x96) filler
    pads_S32768x4x96_S32768x4x128_000_000_0320 h_S_) shapeCasts_S32768x4x128_S32768x512

/-- A head's pairs: the first members, then the second ones. -/
def unpaired (v : FVec Ideal S32768x192 .f32) : FVec Ideal S32768x192 .f32 :=
  shapeCast _ (concatenate S32768x4x48 2
    [⟨S32768x4x24, (shapeCast _ (extractStridedSlice S32768x4x24x1 ![0, 0, 0, 0] (shapeCast _ v shapeCasts_S32768x192_S32768x4x24x2)
        slices_S32768x4x24x2_S32768x4x24x1_0_0_0_0) shapeCasts_S32768x4x24x1_S32768x4x24)⟩,
     ⟨S32768x4x24, (shapeCast _ (extractStridedSlice S32768x4x24x1 ![0, 0, 0, 1] (shapeCast _ v shapeCasts_S32768x192_S32768x4x24x2)
        slices_S32768x4x24x2_S32768x4x24x1_0_0_0_1) shapeCasts_S32768x4x24x1_S32768x4x24)⟩] concatenates_S32768x4x24_S32768x4x24_S32768x4x48_d2)
    shapeCasts_S32768x4x48_S32768x192

def gate (v : FVec Ideal S32768x4 .f32) : FVec Ideal S8x32768 .f32 :=
  pad S8x32768 ![0, 0] ![4, 0] ![0, 0] (transpose S4x32768 [1, 0] v transposes_S32768x4_S4x32768_1_0) filler pads_S4x32768_S8x32768_040_000 h_S_

/-- A head's width, as the program guards it. -/
def width : IVec S_ 32 := select (cmpi .eq (id (constantI S_ 32 128#32)) (constantI S_ 32 0#32)) (constantI S_ 32 1#32) (id (constantI S_ 32 128#32))

/-- The places' remainders by the width. -/
def rests : IVec S512 32 := Host.remsi (iotaInDim S512 32 0) (broadcastInDim S512 ![] bcast_S_S512 width)

/-- The places that count. -/
def mask : IVec S512 1 :=
  cmpi .eq (select (andi (cmpi .ne (cmpi .slt rests (broadcastInDim S512 ![] bcast_S_S512 (constantI S_ 32 0#32))) (broadcastInDim S512 ![] bcast_S_S512 (cmpi .slt width (constantI S_ 32 0#32)))) (cmpi .ne rests (broadcastInDim S512 ![] bcast_S_S512 (constantI S_ 32 0#32)))) (addi rests (broadcastInDim S512 ![] bcast_S_S512 width)) rests) (addi (broadcastInDim S512 ![] bcast_S_S512 (constantI S_ 32 96#32)) (select (andi (cmpi .ne (signi (iotaInDim S512 32 0)) (broadcastInDim S512 ![] bcast_S_S512 (signi (id (constantI S_ 32 128#32))))) (cmpi .ne (Host.remsi (iotaInDim S512 32 0) (broadcastInDim S512 ![] bcast_S_S512 (id (constantI S_ 32 128#32)))) (broadcastInDim S512 ![] bcast_S_S512 (constantI S_ 32 0#32)))) (subi (Host.divsi (iotaInDim S512 32 0) (broadcastInDim S512 ![] bcast_S_S512 (id (constantI S_ 32 128#32)))) (broadcastInDim S512 ![] bcast_S_S512 (constantI S_ 32 1#32))) (Host.divsi (iotaInDim S512 32 0) (broadcastInDim S512 ![] bcast_S_S512 (id (constantI S_ 32 128#32))))))

theorem mask_apply : ∀ j : Fin 512, mask (ix1 j) = if counts j then 1#1 else 0#1 := by
  decide +kernel

/-- The first result before it is rounded. -/
def fourier : FVec Ideal S32768x256 .f32 := extractStridedSlice S32768x256 ![0, 0] p slices_S32768x2576_S32768x256_0_0

def keys : FVec Ideal S32768x512 .f32 :=
  concatenate S32768x512 1 [⟨S32768x256, filled (extractStridedSlice S32768x192 ![0, 256] p slices_S32768x2576_S32768x192_0_256)⟩,
    ⟨S32768x256, filled (extractStridedSlice S32768x192 ![0, 448] p slices_S32768x2576_S32768x192_0_448)⟩] concatenates_S32768x256_S32768x256_S32768x512_d1

def values : FVec Ideal S32768x512 .f32 :=
  select (broadcastInDim S32768x512 ![1] bcast_S512_S32768x512_1 mask)
    (broadcastInDim S32768x512 ![] bcast_S_S32768x512 (id (constant (F := Ideal) S_ .f32 0x3F800000#32)))
    (heads (extractStridedSlice S32768x384 ![0, 640] p slices_S32768x2576_S32768x384_0_640))

def pairs : FVec Ideal S32768x512 .f32 :=
  concatenate S32768x512 1 [⟨S32768x256, filled (unpaired (extractStridedSlice S32768x192 ![0, 1424] p slices_S32768x2576_S32768x192_0_1424))⟩,
    ⟨S32768x256, filled (unpaired (extractStridedSlice S32768x192 ![0, 1616] p slices_S32768x2576_S32768x192_0_1616))⟩] concatenates_S32768x256_S32768x256_S32768x512_d1

def gates : FVec Ideal S32x32768 .f32 :=
  concatenate S32x32768 0 [⟨S8x32768, gate (extractStridedSlice S32768x4 ![0, 1412] p slices_S32768x2576_S32768x4_0_1412)⟩,
    ⟨S8x32768, gate (extractStridedSlice S32768x4 ![0, 1408] p slices_S32768x2576_S32768x4_0_1408)⟩,
    ⟨S8x32768, gate (extractStridedSlice S32768x4 ![0, 1420] p slices_S32768x2576_S32768x4_0_1420)⟩,
    ⟨S8x32768, gate (extractStridedSlice S32768x4 ![0, 1416] p slices_S32768x2576_S32768x4_0_1416)⟩] concatenates_S8x32768_S8x32768_S8x32768_S8x32768_S32x32768_d0

/-! ## Their elements -/

theorem filled_apply (v : FVec Ideal S32768x192 .f32) (t : Fin 32768) (j : Fin 256) :
    filled v (ix2 t j) = if h : j.val < 192 then v (ix2 t ⟨j.val, h⟩) else 0 := by
  by_cases h : j.val < 192
  · rw [dif_pos h]; pointwise [filled, h]
  · rw [dif_neg h]; pointwise [filled, h, filler_apply]

theorem heads_apply (v : FVec Ideal S32768x384 .f32) (t : Fin 32768) (j : Fin 512) :
    heads v (ix2 t j) = if h : j.val % 128 < 96 then v (ix2 t ⟨j.val / 128 * 96 + j.val % 128, by omega⟩) else 0 := by
  have hd : j.val / 128 < 4 := by omega
  by_cases h : j.val % 128 < 96
  · rw [dif_pos h]; pointwise [heads, h, hd]
  · rw [dif_neg h]; pointwise [heads, h, hd, filler_apply]

theorem unpaired_apply (v : FVec Ideal S32768x192 .f32) (t : Fin 32768) (j : Fin 192) :
    unpaired v (ix2 t j) = v (ix2 t ⟨j.val / 48 * 48 + j.val % 24 * 2 + j.val / 24 % 2, by omega⟩) := by
  by_cases h : j.val % 48 < 24
  · pointwise [unpaired, h]
    exact congrArg v (congrArg (ix2 t) (Fin.ext (by dsimp only; omega)))
  · pointwise [unpaired, h]
    exact congrArg v (congrArg (ix2 t) (Fin.ext (by dsimp only; omega)))

theorem gate_apply (v : FVec Ideal S32768x4 .f32) (j : Fin 8) (t : Fin 32768) :
    gate v (ix2 j t) = if h : j.val < 4 then v (ix2 t ⟨j.val, h⟩) else 0 := by
  by_cases h : j.val < 4
  · rw [dif_pos h]; pointwise [gate, h]
  · rw [dif_neg h]; pointwise [gate, h, filler_apply]

theorem fourier_apply (t : Fin 32768) (j : Fin 256) : fourier p (ix2 t j) = pick (plainCol j) (fun c => p (ix2 t c)) := by
  rw [plainCol, pick_some]
  pointwise [fourier]

theorem keyGroup (a : ℕ) (ha : a + 192 ≤ 2576) (v : FVec Ideal S32768x192 .f32) (t : Fin 32768)
    (hv : ∀ j : Fin 192, v (ix2 t j) = p (ix2 t ⟨a + j.val, by omega⟩)) (j : Fin 256) :
    filled v (ix2 t j) = pick (keyCol a ha j) (fun c => p (ix2 t c)) := by
  rw [filled_apply]
  unfold keyCol
  by_cases h : j.val < 192
  · rw [dif_pos h, dif_pos h, pick_some, hv]
  · rw [dif_neg h, dif_neg h, pick_none]

theorem headGroup (a : ℕ) (ha : a + 384 ≤ 2576) (v : FVec Ideal S32768x384 .f32) (t : Fin 32768)
    (hv : ∀ j : Fin 384, v (ix2 t j) = p (ix2 t ⟨a + j.val, by omega⟩)) (j : Fin 512) :
    heads v (ix2 t j) = pick (headCol a ha j) (fun c => p (ix2 t c)) := by
  rw [heads_apply]
  unfold headCol
  by_cases h : j.val % 128 < 96
  · rw [dif_pos h, dif_pos h, pick_some, hv]
  · rw [dif_neg h, dif_neg h, pick_none]

theorem pairGroup (a : ℕ) (ha : a + 192 ≤ 2576) (v : FVec Ideal S32768x192 .f32) (t : Fin 32768)
    (hv : ∀ j : Fin 192, v (ix2 t j) = p (ix2 t ⟨a + j.val, by omega⟩)) (j : Fin 256) :
    filled (unpaired v) (ix2 t j) = pick (pairCol a ha j) (fun c => p (ix2 t c)) := by
  rw [filled_apply]
  unfold pairCol
  by_cases h : j.val < 192
  · rw [dif_pos h, dif_pos h, pick_some, unpaired_apply, hv]
  · rw [dif_neg h, dif_neg h, pick_none]

theorem gateGroup (a : ℕ) (ha : a + 4 ≤ 2576) (v : FVec Ideal S32768x4 .f32) (t : Fin 32768)
    (hv : ∀ j : Fin 4, v (ix2 t j) = p (ix2 t ⟨a + j.val, by omega⟩)) (j : Fin 8) :
    gate v (ix2 j t) = pick (gateCol a ha j) (fun c => p (ix2 t c)) := by
  rw [gate_apply]
  unfold gateCol
  by_cases h : j.val < 4
  · rw [dif_pos h, dif_pos h, pick_some, hv]
  · rw [dif_neg h, dif_neg h, pick_none]

/-- Two groups side by side. -/
theorem side (u v : FVec Ideal S32768x256 .f32) (f g : Fin 256 → Col) (t : Fin 32768) (hu : ∀ j, u (ix2 t j) = pick (f j) (fun c => p (ix2 t c)))
    (hv : ∀ j, v (ix2 t j) = pick (g j) (fun c => p (ix2 t c))) (j : Fin 512) :
    concatenate S32768x512 1 [⟨S32768x256, u⟩, ⟨S32768x256, v⟩] concatenates_S32768x256_S32768x256_S32768x512_d1 (ix2 t j)
      = pick (both f g j) (fun c => p (ix2 t c)) := by
  unfold both
  by_cases h : j.val < 256
  · rw [dif_pos h, ← hu]; pointwise [h]
  · rw [dif_neg h, ← hv]; pointwise [h]

theorem keys_apply (t : Fin 32768) (j : Fin 512) :
    keys p (ix2 t j) = pick (both (keyCol 256 (by decide)) (keyCol 448 (by decide)) j) (fun c => p (ix2 t c)) :=
  side p _ _ _ _ t (keyGroup p 256 _ _ t fun j => by pointwise) (keyGroup p 448 _ _ t fun j => by pointwise) j

theorem pairs_apply (t : Fin 32768) (j : Fin 512) :
    pairs p (ix2 t j) = pick (both (pairCol 1424 (by decide)) (pairCol 1616 (by decide)) j) (fun c => p (ix2 t c)) :=
  side p _ _ _ _ t (pairGroup p 1424 _ _ t fun j => by pointwise) (pairGroup p 1616 _ _ t fun j => by pointwise) j

theorem heads1024_apply (t : Fin 32768) (j : Fin 512) :
    heads (extractStridedSlice S32768x384 ![0, 1024] p slices_S32768x2576_S32768x384_0_1024) (ix2 t j) = pick (headCol 1024 (by decide) j) (fun c => p (ix2 t c)) :=
  headGroup p 1024 _ _ t (fun j => by pointwise) j

theorem heads1808_apply (t : Fin 32768) (j : Fin 512) :
    heads (extractStridedSlice S32768x384 ![0, 1808] p slices_S32768x2576_S32768x384_0_1808) (ix2 t j) = pick (headCol 1808 (by decide) j) (fun c => p (ix2 t c)) :=
  headGroup p 1808 _ _ t (fun j => by pointwise) j

theorem heads2192_apply (t : Fin 32768) (j : Fin 512) :
    heads (extractStridedSlice S32768x384 ![0, 2192] p slices_S32768x2576_S32768x384_0_2192) (ix2 t j) = pick (headCol 2192 (by decide) j) (fun c => p (ix2 t c)) :=
  headGroup p 2192 _ _ t (fun j => by pointwise) j

theorem values_apply (t : Fin 32768) (j : Fin 512) :
    values p (ix2 t j) = if counts j then one else pick (headCol 640 (by decide) j) (fun c => p (ix2 t c)) := by
  have e : values p (ix2 t j) = if mask (ix1 j) = 1#1 then one else heads (extractStridedSlice S32768x384 ![0, 640] p slices_S32768x2576_S32768x384_0_640) (ix2 t j) := by
    have hm : broadcastInDim S32768x512 ![1] bcast_S512_S32768x512_1 mask (ix2 t j) = mask (ix1 j) := by
      generalize mask = q
      pointwise
    show Scalar.select (broadcastInDim S32768x512 ![1] bcast_S512_S32768x512_1 mask (ix2 t j)) one _ = _
    rw [hm]
    rfl
  rw [e, mask_apply, headGroup p 640 (by decide) _ t (fun j => by pointwise) j]
  by_cases h : counts j
  · rw [if_pos h, if_pos h, if_pos rfl]
  · rw [if_neg h, if_neg h, if_neg (by decide)]

theorem gates_0 (j : Fin 8) (t : Fin 32768) :
    gates p (ix2 ⟨0 + j.val, by omega⟩ t) = pick (gateCol 1412 (by decide) j) (fun c => p (ix2 t c)) := by
  refine Eq.trans ?_ (gateGroup p 1412 (by decide) (extractStridedSlice S32768x4 ![0, 1412] p slices_S32768x2576_S32768x4_0_1412) t (fun j => by pointwise) j)
  unfold gates
  exact concatenate_apply_piece (t := S32x32768) (0 : Fin 2) _ _ _ 0 (by show 0 < 4; omega) S8x32768 _ rfl rfl 0 rfl (ix2 j t)
    (by intro b hb; match b, hb with | ⟨0, _⟩, hb => exact absurd rfl hb | ⟨1, _⟩, _ => rfl) rfl

theorem gates_1 (j : Fin 8) (t : Fin 32768) :
    gates p (ix2 ⟨8 + j.val, by omega⟩ t) = pick (gateCol 1408 (by decide) j) (fun c => p (ix2 t c)) := by
  refine Eq.trans ?_ (gateGroup p 1408 (by decide) (extractStridedSlice S32768x4 ![0, 1408] p slices_S32768x2576_S32768x4_0_1408) t (fun j => by pointwise) j)
  unfold gates
  exact concatenate_apply_piece (t := S32x32768) (0 : Fin 2) _ _ _ 1 (by show 1 < 4; omega) S8x32768 _ rfl rfl 8 rfl (ix2 j t)
    (by intro b hb; match b, hb with | ⟨0, _⟩, hb => exact absurd rfl hb | ⟨1, _⟩, _ => rfl) rfl

theorem gates_2 (j : Fin 8) (t : Fin 32768) :
    gates p (ix2 ⟨16 + j.val, by omega⟩ t) = pick (gateCol 1420 (by decide) j) (fun c => p (ix2 t c)) := by
  refine Eq.trans ?_ (gateGroup p 1420 (by decide) (extractStridedSlice S32768x4 ![0, 1420] p slices_S32768x2576_S32768x4_0_1420) t (fun j => by pointwise) j)
  unfold gates
  exact concatenate_apply_piece (t := S32x32768) (0 : Fin 2) _ _ _ 2 (by show 2 < 4; omega) S8x32768 _ rfl rfl 16 rfl (ix2 j t)
    (by intro b hb; match b, hb with | ⟨0, _⟩, hb => exact absurd rfl hb | ⟨1, _⟩, _ => rfl) rfl

theorem gates_3 (j : Fin 8) (t : Fin 32768) :
    gates p (ix2 ⟨24 + j.val, by omega⟩ t) = pick (gateCol 1416 (by decide) j) (fun c => p (ix2 t c)) := by
  refine Eq.trans ?_ (gateGroup p 1416 (by decide) (extractStridedSlice S32768x4 ![0, 1416] p slices_S32768x2576_S32768x4_0_1416) t (fun j => by pointwise) j)
  unfold gates
  exact concatenate_apply_piece (t := S32x32768) (0 : Fin 2) _ _ _ 3 (by show 3 < 4; omega) S8x32768 _ rfl rfl 24 rfl (ix2 j t)
    (by intro b hb; match b, hb with | ⟨0, _⟩, hb => exact absurd rfl hb | ⟨1, _⟩, _ => rfl) rfl

end Cert.Proof.Projection.Ref

end
-- ==== Proof.ProjectionHost.lean ====
/- What the projection's host code lays out: the weights' and biases' columns in the order of the call's results, with zeros between the
   groups, and a bias of one in the values' column that counts.

   The definitions are the program's operations; each operand of the call is one of them (`weights_eq` and so on). -/
module

public import proofs.«01_k».proof.Proof.Gen.ProjectionIdeal.Value
public import Idealize.ShloMosaic.Lib.Pointwise
public import Idealize.ShloMosaic.Lib.StableHlo.RunRead

@[expose] public section

set_option maxRecDepth 16384

noncomputable section

namespace Cert.Proof.Projection

open Cert.ProjectionIdeal Cert.ProjectionIdeal.Gen Idealize.ShloMosaic Idealize.ShloMosaic.TcCoe Idealize.SL.Sem

/-- The number that fills. -/
def filler : FVec Ideal S_ .f32 := sitofp .f32 (constantI S_ 32 0#32)

/-! ## The weights -/

/-- 192 columns, filled up to 256. -/
def keysW (v : FVec Ideal S4x1024x192 .f32) : FVec Ideal S4x1024x256 .f32 :=
  pad S4x1024x256 ![0, 0, 0] ![0, 0, 64] ![0, 0, 0] v filler pads_S4x1024x192_S4x1024x256_000_000_0640 h_S_

/-- Four heads of 96 columns, each filled up to 128. -/
def headsW (v : FVec Ideal S4x1024x384 .f32) : FVec Ideal S4x1024x512 .f32 :=
  shapeCast S4x1024x512 (pad S4x1024x4x128 ![0, 0, 0, 0] ![0, 0, 0, 32] ![0, 0, 0, 0] (shapeCast S4x1024x4x96 v shapeCasts_S4x1024x384_S4x1024x4x96) filler
    pads_S4x1024x4x96_S4x1024x4x128_000_000_000_0320 h_S_) shapeCasts_S4x1024x4x128_S4x1024x512

/-- Four heads of 24 pairs, each head's first members before its second ones; filled up to 256. -/
def pairsW (v : FVec Ideal S4x1024x192 .f32) : FVec Ideal S4x1024x256 .f32 :=
  keysW (shapeCast S4x1024x192 (transpose S4x1024x4x2x24 [0, 1, 2, 4, 3] (shapeCast S4x1024x4x24x2 v shapeCasts_S4x1024x192_S4x1024x4x24x2)
    transposes_S4x1024x4x24x2_S4x1024x4x2x24_0_1_2_4_3) shapeCasts_S4x1024x4x2x24_S4x1024x192)

/-- Four gates, filled up to 8. -/
def gatesW (v : FVec Ideal S4x1024x4 .f32) : FVec Ideal S4x1024x8 .f32 :=
  pad S4x1024x8 ![0, 0, 0] ![0, 0, 4] ![0, 0, 0] v filler pads_S4x1024x4_S4x1024x8_000_000_040 h_S_

/-- The weights' columns in the order of the call's results: the groups side by side. -/
def joinW (a₀ a₁ a₂ : FVec Ideal S4x1024x256 .f32) (a₃ a₄ : FVec Ideal S4x1024x512 .f32) (a₅ a₆ : FVec Ideal S4x1024x256 .f32)
    (a₇ a₈ : FVec Ideal S4x1024x512 .f32) : FVec Ideal S4x1024x3328 .f32 :=
  concatenate S4x1024x3328 2 [⟨S4x1024x256, a₀⟩, ⟨S4x1024x256, a₁⟩, ⟨S4x1024x256, a₂⟩, ⟨S4x1024x512, a₃⟩, ⟨S4x1024x512, a₄⟩,
      ⟨S4x1024x256, a₅⟩, ⟨S4x1024x256, a₆⟩, ⟨S4x1024x512, a₇⟩, ⟨S4x1024x512, a₈⟩]
    concatenates_S4x1024x256_S4x1024x256_S4x1024x256_S4x1024x512_S4x1024x512_S4x1024x256_S4x1024x256_S4x1024x512_S4x1024x512_S4x1024x3328_d2

/-- What that operation leaves. -/
theorem joinW_result (F : Valuation τ sig (Elt Ideal)) (hxs hy) :
    (StableHlo.nary (τ := τ) ![main_v0, main_v2, main_v4, main_v8, main_v12, main_v17, main_v22, main_v26, main_v30] main_v31
      (fun u => (concatenate S4x1024x3328 2 [⟨S4x1024x256, (u 0 : (⟨S4x1024x256, .f32⟩ : BufTy).Contents (Elt Ideal))⟩, ⟨S4x1024x256, (u 1 : (⟨S4x1024x256, .f32⟩ : BufTy).Contents (Elt Ideal))⟩, ⟨S4x1024x256, (u 2 : (⟨S4x1024x256, .f32⟩ : BufTy).Contents (Elt Ideal))⟩, ⟨S4x1024x512, (u 3 : (⟨S4x1024x512, .f32⟩ : BufTy).Contents (Elt Ideal))⟩, ⟨S4x1024x512, (u 4 : (⟨S4x1024x512, .f32⟩ : BufTy).Contents (Elt Ideal))⟩, ⟨S4x1024x256, (u 5 : (⟨S4x1024x256, .f32⟩ : BufTy).Contents (Elt Ideal))⟩, ⟨S4x1024x256, (u 6 : (⟨S4x1024x256, .f32⟩ : BufTy).Contents (Elt Ideal))⟩, ⟨S4x1024x512, (u 7 : (⟨S4x1024x512, .f32⟩ : BufTy).Contents (Elt Ideal))⟩, ⟨S4x1024x512, (u 8 : (⟨S4x1024x512, .f32⟩ : BufTy).Contents (Elt Ideal))⟩] concatenates_S4x1024x256_S4x1024x256_S4x1024x256_S4x1024x512_S4x1024x512_S4x1024x256_S4x1024x256_S4x1024x512_S4x1024x512_S4x1024x3328_d2 : (⟨S4x1024x3328, .f32⟩ : BufTy).Contents (Elt Ideal))) hxs hy).result F (no_index (Proc.devRef .tc main_v31))
      = joinW (F (Proc.devRef .tc main_v0)) (F (Proc.devRef .tc main_v2)) (F (Proc.devRef .tc main_v4)) (F (Proc.devRef .tc main_v8)) (F (Proc.devRef .tc main_v12)) (F (Proc.devRef .tc main_v17)) (F (Proc.devRef .tc main_v22)) (F (Proc.devRef .tc main_v26)) (F (Proc.devRef .tc main_v30)) :=
  StableHlo.nary_result _ _ _ _ _ _

/-- The weights' columns as the call takes them. -/
def laidW (w : FVec Ideal S4x1024x2576 .f32) : FVec Ideal S4x1024x3328 .f32 :=
  joinW (extractStridedSlice S4x1024x256 ![0, 0, 0] w slices_S4x1024x2576_S4x1024x256_0_0_0)
    (keysW (extractStridedSlice S4x1024x192 ![0, 0, 256] w slices_S4x1024x2576_S4x1024x192_0_0_256))
    (keysW (extractStridedSlice S4x1024x192 ![0, 0, 448] w slices_S4x1024x2576_S4x1024x192_0_0_448))
    (headsW (extractStridedSlice S4x1024x384 ![0, 0, 640] w slices_S4x1024x2576_S4x1024x384_0_0_640))
    (headsW (extractStridedSlice S4x1024x384 ![0, 0, 1024] w slices_S4x1024x2576_S4x1024x384_0_0_1024))
    (pairsW (extractStridedSlice S4x1024x192 ![0, 0, 1424] w slices_S4x1024x2576_S4x1024x192_0_0_1424))
    (pairsW (extractStridedSlice S4x1024x192 ![0, 0, 1616] w slices_S4x1024x2576_S4x1024x192_0_0_1616))
    (headsW (extractStridedSlice S4x1024x384 ![0, 0, 1808] w slices_S4x1024x2576_S4x1024x384_0_0_1808))
    (headsW (extractStridedSlice S4x1024x384 ![0, 0, 2192] w slices_S4x1024x2576_S4x1024x384_0_0_2192))

/-! ## The biases -/

def keysB (v : FVec Ideal S4x192 .f32) : FVec Ideal S4x256 .f32 :=
  pad S4x256 ![0, 0] ![0, 64] ![0, 0] v filler pads_S4x192_S4x256_000_0640 h_S_

def headsB (v : FVec Ideal S4x384 .f32) : FVec Ideal S4x512 .f32 :=
  shapeCast S4x512 (pad S4x4x128 ![0, 0, 0] ![0, 0, 32] ![0, 0, 0] (shapeCast S4x4x96 v shapeCasts_S4x384_S4x4x96) filler
    pads_S4x4x96_S4x4x128_000_000_0320 h_S_) shapeCasts_S4x4x128_S4x512

def pairsB (v : FVec Ideal S4x192 .f32) : FVec Ideal S4x256 .f32 :=
  keysB (shapeCast S4x192 (transpose S4x4x2x24 [0, 1, 3, 2] (shapeCast S4x4x24x2 v shapeCasts_S4x192_S4x4x24x2)
    transposes_S4x4x24x2_S4x4x2x24_0_1_3_2) shapeCasts_S4x4x2x24_S4x192)

def gatesB (v : FVec Ideal S4x4 .f32) : FVec Ideal S4x8 .f32 :=
  pad S4x8 ![0, 0] ![0, 4] ![0, 0] v filler pads_S4x4_S4x8_000_040 h_S_

/-- The biases in the order of the call's results: the groups side by side. -/
def joinB (a₀ a₁ a₂ : FVec Ideal S4x256 .f32) (a₃ a₄ : FVec Ideal S4x512 .f32) (a₅ a₆ : FVec Ideal S4x256 .f32) (a₇ a₈ : FVec Ideal S4x512 .f32) :
    FVec Ideal S4x3328 .f32 :=
  concatenate S4x3328 1 [⟨S4x256, a₀⟩, ⟨S4x256, a₁⟩, ⟨S4x256, a₂⟩, ⟨S4x512, a₃⟩, ⟨S4x512, a₄⟩, ⟨S4x256, a₅⟩, ⟨S4x256, a₆⟩, ⟨S4x512, a₇⟩, ⟨S4x512, a₈⟩]
    concatenates_S4x256_S4x256_S4x256_S4x512_S4x512_S4x256_S4x256_S4x512_S4x512_S4x3328_d1

/-- What the operation that sets them side by side leaves. -/
theorem joinB_result (F : Valuation τ sig (Elt Ideal)) (hxs hy) :
    (StableHlo.nary (τ := τ) ![main_v33, main_v35, main_v37, main_v41, main_v45, main_v50, main_v55, main_v59, main_v63] main_v64
      (fun u => (concatenate S4x3328 1 [⟨S4x256, (u 0 : (⟨S4x256, .f32⟩ : BufTy).Contents (Elt Ideal))⟩, ⟨S4x256, (u 1 : (⟨S4x256, .f32⟩ : BufTy).Contents (Elt Ideal))⟩, ⟨S4x256, (u 2 : (⟨S4x256, .f32⟩ : BufTy).Contents (Elt Ideal))⟩, ⟨S4x512, (u 3 : (⟨S4x512, .f32⟩ : BufTy).Contents (Elt Ideal))⟩, ⟨S4x512, (u 4 : (⟨S4x512, .f32⟩ : BufTy).Contents (Elt Ideal))⟩, ⟨S4x256, (u 5 : (⟨S4x256, .f32⟩ : BufTy).Contents (Elt Ideal))⟩, ⟨S4x256, (u 6 : (⟨S4x256, .f32⟩ : BufTy).Contents (Elt Ideal))⟩, ⟨S4x512, (u 7 : (⟨S4x512, .f32⟩ : BufTy).Contents (Elt Ideal))⟩, ⟨S4x512, (u 8 : (⟨S4x512, .f32⟩ : BufTy).Contents (Elt Ideal))⟩] concatenates_S4x256_S4x256_S4x256_S4x512_S4x512_S4x256_S4x256_S4x512_S4x512_S4x3328_d1 : (⟨S4x3328, .f32⟩ : BufTy).Contents (Elt Ideal))) hxs hy).result F (no_index (Proc.devRef .tc main_v64))
      = joinB (F (Proc.devRef .tc main_v33)) (F (Proc.devRef .tc main_v35)) (F (Proc.devRef .tc main_v37)) (F (Proc.devRef .tc main_v41)) (F (Proc.devRef .tc main_v45)) (F (Proc.devRef .tc main_v50)) (F (Proc.devRef .tc main_v55)) (F (Proc.devRef .tc main_v59)) (F (Proc.devRef .tc main_v63)) :=
  StableHlo.nary_result _ _ _ _ _ _

def laidB (b : FVec Ideal S4x2576 .f32) : FVec Ideal S4x3328 .f32 :=
  joinB (extractStridedSlice S4x256 ![0, 0] b slices_S4x2576_S4x256_0_0)
    (keysB (extractStridedSlice S4x192 ![0, 256] b slices_S4x2576_S4x192_0_256))
    (keysB (extractStridedSlice S4x192 ![0, 448] b slices_S4x2576_S4x192_0_448))
    (headsB (extractStridedSlice S4x384 ![0, 640] b slices_S4x2576_S4x384_0_640))
    (headsB (extractStridedSlice S4x384 ![0, 1024] b slices_S4x2576_S4x384_0_1024))
    (pairsB (extractStridedSlice S4x192 ![0, 1424] b slices_S4x2576_S4x192_0_1424))
    (pairsB (extractStridedSlice S4x192 ![0, 1616] b slices_S4x2576_S4x192_0_1616))
    (headsB (extractStridedSlice S4x384 ![0, 1808] b slices_S4x2576_S4x384_0_1808))
    (headsB (extractStridedSlice S4x384 ![0, 2192] b slices_S4x2576_S4x384_0_2192))

/-- The columns that count, one per head. -/
def counters : IVec S4 32 := fun i => lit0 (S4.rowMajor i)

/-- The same as a column of indices: a negative one would count from the end. -/
def counterIndices : IVec S4x1 32 :=
  broadcastInDim S4x1 ![0] bcast_S4_S4x1_0
    (select (cmpi .slt counters (broadcastInDim S4 ![] bcast_S_S4 (constantI S_ 32 0#32)))
      (addi counters (broadcastInDim S4 ![] bcast_S_S4 (constantI S_ 32 3328#32))) counters)

/-- A one for each layer and head. -/
def ones : FVec Ideal S4x4 .f32 := broadcastInDim S4x4 ![] bcast_S_S4x4 (constant (F := Ideal) S_ .f32 0x3F800000#32)

/-- The biases as the call takes them: a one in each column that counts. -/
def countedB (b : FVec Ideal S4x2576 .f32) : FVec Ideal S4x3328 .f32 :=
  Host.scatter scatter_S4x3328_S4x1_S4x4_0_1_1_1 (fun _ b => b) (laidB b) counterIndices ones

/-! ## The gates' rows -/

/-- The gates' weights in the order of their result: four groups side by side. -/
def joinG (a₀ a₁ a₂ a₃ : FVec Ideal S4x1024x8 .f32) : FVec Ideal S4x1024x32 .f32 :=
  concatenate S4x1024x32 2 [⟨S4x1024x8, a₀⟩, ⟨S4x1024x8, a₁⟩, ⟨S4x1024x8, a₂⟩, ⟨S4x1024x8, a₃⟩]
    concatenates_S4x1024x8_S4x1024x8_S4x1024x8_S4x1024x8_S4x1024x32_d2

/-- What the operation that sets them side by side leaves. -/
theorem joinG_result (F : Valuation τ sig (Elt Ideal)) (hxs hy) :
    (StableHlo.nary (τ := τ) ![main_v76, main_v78, main_v80, main_v82] main_v83
      (fun u => (concatenate S4x1024x32 2 [⟨S4x1024x8, (u 0 : (⟨S4x1024x8, .f32⟩ : BufTy).Contents (Elt Ideal))⟩, ⟨S4x1024x8, (u 1 : (⟨S4x1024x8, .f32⟩ : BufTy).Contents (Elt Ideal))⟩, ⟨S4x1024x8, (u 2 : (⟨S4x1024x8, .f32⟩ : BufTy).Contents (Elt Ideal))⟩, ⟨S4x1024x8, (u 3 : (⟨S4x1024x8, .f32⟩ : BufTy).Contents (Elt Ideal))⟩] concatenates_S4x1024x8_S4x1024x8_S4x1024x8_S4x1024x8_S4x1024x32_d2 : (⟨S4x1024x32, .f32⟩ : BufTy).Contents (Elt Ideal))) hxs hy).result F (no_index (Proc.devRef .tc main_v83))
      = joinG (F (Proc.devRef .tc main_v76)) (F (Proc.devRef .tc main_v78)) (F (Proc.devRef .tc main_v80)) (F (Proc.devRef .tc main_v82)) :=
  StableHlo.nary_result _ _ _ _ _ _

def gateRows (w : FVec Ideal S4x1024x2576 .f32) : FVec Ideal S4x1024x16 .f32 :=
  extractStridedSlice S4x1024x16 ![0, 0, 1408] w slices_S4x1024x2576_S4x1024x16_0_0_1408

def laidG (w : FVec Ideal S4x1024x2576 .f32) : FVec Ideal S4x1024x32 .f32 :=
  joinG (gatesW (extractStridedSlice S4x1024x4 ![0, 0, 4] (gateRows w) slices_S4x1024x16_S4x1024x4_0_0_4))
    (gatesW (extractStridedSlice S4x1024x4 ![0, 0, 0] (gateRows w) slices_S4x1024x16_S4x1024x4_0_0_0))
    (gatesW (extractStridedSlice S4x1024x4 ![0, 0, 12] (gateRows w) slices_S4x1024x16_S4x1024x4_0_0_12))
    (gatesW (extractStridedSlice S4x1024x4 ![0, 0, 8] (gateRows w) slices_S4x1024x16_S4x1024x4_0_0_8))

/-- The gates' biases in the order of their result. -/
def joinH (a₀ a₁ a₂ a₃ : FVec Ideal S4x8 .f32) : FVec Ideal S4x32 .f32 :=
  concatenate S4x32 1 [⟨S4x8, a₀⟩, ⟨S4x8, a₁⟩, ⟨S4x8, a₂⟩, ⟨S4x8, a₃⟩] concatenates_S4x8_S4x8_S4x8_S4x8_S4x32_d1

/-- What the operation that sets them side by side leaves. -/
theorem joinH_result (F : Valuation τ sig (Elt Ideal)) (hxs hy) :
    (StableHlo.nary (τ := τ) ![main_v88, main_v90, main_v92, main_v94] main_v95
      (fun u => (concatenate S4x32 1 [⟨S4x8, (u 0 : (⟨S4x8, .f32⟩ : BufTy).Contents (Elt Ideal))⟩, ⟨S4x8, (u 1 : (⟨S4x8, .f32⟩ : BufTy).Contents (Elt Ideal))⟩, ⟨S4x8, (u 2 : (⟨S4x8, .f32⟩ : BufTy).Contents (Elt Ideal))⟩, ⟨S4x8, (u 3 : (⟨S4x8, .f32⟩ : BufTy).Contents (Elt Ideal))⟩] concatenates_S4x8_S4x8_S4x8_S4x8_S4x32_d1 : (⟨S4x32, .f32⟩ : BufTy).Contents (Elt Ideal))) hxs hy).result F (no_index (Proc.devRef .tc main_v95))
      = joinH (F (Proc.devRef .tc main_v88)) (F (Proc.devRef .tc main_v90)) (F (Proc.devRef .tc main_v92)) (F (Proc.devRef .tc main_v94)) :=
  StableHlo.nary_result _ _ _ _ _ _

def gateBiases (b : FVec Ideal S4x2576 .f32) : FVec Ideal S4x16 .f32 :=
  extractStridedSlice S4x16 ![0, 1408] b slices_S4x2576_S4x16_0_1408

def laidH (b : FVec Ideal S4x2576 .f32) : FVec Ideal S4x32 .f32 :=
  joinH (gatesB (extractStridedSlice S4x4 ![0, 4] (gateBiases b) slices_S4x16_S4x4_0_4))
    (gatesB (extractStridedSlice S4x4 ![0, 0] (gateBiases b) slices_S4x16_S4x4_0_0))
    (gatesB (extractStridedSlice S4x4 ![0, 12] (gateBiases b) slices_S4x16_S4x4_0_12))
    (gatesB (extractStridedSlice S4x4 ![0, 8] (gateBiases b) slices_S4x16_S4x4_0_8))

/-! ## The call's operands -/

variable (m : (ℓ : Loc nD τ sig) → Buf (Elt Ideal) ℓ)

theorem weights_eq (c : Dev nD) : V m c main_v98
    = shapeCast S1024x3328 (extractStridedSlice S1x1024x3328 ![1, 0, 0]
        (truncf .bf16 (laidW (m ((c : Thread nD τ).loc main_arg1))) bitsLt_bf16_f32 : FVec Ideal S4x1024x3328 .bf16) slices_S4x1024x3328_S1x1024x3328_1_0_0)
        shapeCasts_S1x1024x3328_S1024x3328 := by
  unfold V
  simp only [List.flatten_cons, List.flatten_nil, List.append_nil]
  after_reads_simp [↓ joinW_result]
  rfl

theorem biases_eq (c : Dev nD) : V m c main_v100
    = shapeCast S1x3328 (extractStridedSlice S1x1x3328 ![1, 0, 0]
        (broadcastInDim S4x1x3328 ![0, 2] bcast_S4x3328_S4x1x3328_0_2 (countedB (m ((c : Thread nD τ).loc main_arg2))) : FVec Ideal S4x1x3328 .f32)
        slices_S4x1x3328_S1x1x3328_1_0_0) shapeCasts_S1x1x3328_S1x3328 := by
  unfold V
  simp only [List.flatten_cons, List.flatten_nil, List.append_nil]
  after_reads_simp [↓ joinB_result]
  rfl

theorem gateWeights_eq (c : Dev nD) : V m c main_v102
    = shapeCast S32x1024 (extractStridedSlice S1x32x1024 ![1, 0, 0]
        (truncf .bf16 (transpose S4x32x1024 [0, 2, 1] (laidG (m ((c : Thread nD τ).loc main_arg1))) transposes_S4x1024x32_S4x32x1024_0_2_1 :
          FVec Ideal S4x32x1024 .f32) bitsLt_bf16_f32 : FVec Ideal S4x32x1024 .bf16) slices_S4x32x1024_S1x32x1024_1_0_0)
        shapeCasts_S1x32x1024_S32x1024 := by
  unfold V
  simp only [List.flatten_cons, List.flatten_nil, List.append_nil]
  after_reads_simp [↓ joinG_result]
  rfl

theorem gateBiases_eq (c : Dev nD) : V m c main_v104
    = shapeCast S32x1 (extractStridedSlice S1x32x1 ![1, 0, 0]
        (broadcastInDim S4x32x1 ![0, 1] bcast_S4x32_S4x32x1_0_1 (laidH (m ((c : Thread nD τ).loc main_arg2))) : FVec Ideal S4x32x1 .f32)
        slices_S4x32x1_S1x32x1_1_0_0) shapeCasts_S1x32x1_S32x1 := by
  unfold V
  simp only [List.flatten_cons, List.flatten_nil, List.append_nil]
  after_reads_simp [↓ joinH_result]
  rfl

end Cert.Proof.Projection

end
-- ==== Proof.ProjectionJoin.lean ====
/- The projection's groups of columns, found again in the array that sets them side by side. -/
module

public import proofs.«01_k».proof.Proof.ProjectionHost

@[expose] public section

set_option maxRecDepth 16384

noncomputable section

namespace Cert.Proof.Projection

open Cert.ProjectionIdeal Cert.ProjectionIdeal.Gen Idealize.ShloMosaic

/-! ## The weights -/

section

variable (a0 : FVec Ideal S4x1024x256 .f32) (a1 : FVec Ideal S4x1024x256 .f32) (a2 : FVec Ideal S4x1024x256 .f32) (a3 : FVec Ideal S4x1024x512 .f32) (a4 : FVec Ideal S4x1024x512 .f32) (a5 : FVec Ideal S4x1024x256 .f32) (a6 : FVec Ideal S4x1024x256 .f32) (a7 : FVec Ideal S4x1024x512 .f32) (a8 : FVec Ideal S4x1024x512 .f32)

theorem joinW_0 (l : Fin 4) (k : Fin 1024) (j : Fin 256) :
    joinW a0 a1 a2 a3 a4 a5 a6 a7 a8 (ix3 l k ⟨0 + j.val, by omega⟩) = a0 (ix3 l k j) := by
  unfold joinW
  exact concatenate_apply_piece (t := S4x1024x3328) (2 : Fin 3) _ _ _ 0 (by show 0 < 9; omega) S4x1024x256 a0 rfl rfl 0 rfl (ix3 l k j)
    (by intro b hb; match b, hb with | ⟨0, _⟩, _ => rfl | ⟨1, _⟩, _ => rfl | ⟨2, _⟩, hb => exact absurd rfl hb) rfl

theorem joinW_1 (l : Fin 4) (k : Fin 1024) (j : Fin 256) :
    joinW a0 a1 a2 a3 a4 a5 a6 a7 a8 (ix3 l k ⟨256 + j.val, by omega⟩) = a1 (ix3 l k j) := by
  unfold joinW
  exact concatenate_apply_piece (t := S4x1024x3328) (2 : Fin 3) _ _ _ 1 (by show 1 < 9; omega) S4x1024x256 a1 rfl rfl 256 rfl (ix3 l k j)
    (by intro b hb; match b, hb with | ⟨0, _⟩, _ => rfl | ⟨1, _⟩, _ => rfl | ⟨2, _⟩, hb => exact absurd rfl hb) rfl

theorem joinW_2 (l : Fin 4) (k : Fin 1024) (j : Fin 256) :
    joinW a0 a1 a2 a3 a4 a5 a6 a7 a8 (ix3 l k ⟨512 + j.val, by omega⟩) = a2 (ix3 l k j) := by
  unfold joinW
  exact concatenate_apply_piece (t := S4x1024x3328) (2 : Fin 3) _ _ _ 2 (by show 2 < 9; omega) S4x1024x256 a2 rfl rfl 512 rfl (ix3 l k j)
    (by intro b hb; match b, hb with | ⟨0, _⟩, _ => rfl | ⟨1, _⟩, _ => rfl | ⟨2, _⟩, hb => exact absurd rfl hb) rfl

theorem joinW_3 (l : Fin 4) (k : Fin 1024) (j : Fin 512) :
    joinW a0 a1 a2 a3 a4 a5 a6 a7 a8 (ix3 l k ⟨768 + j.val, by omega⟩) = a3 (ix3 l k j) := by
  unfold joinW
  exact concatenate_apply_piece (t := S4x1024x3328) (2 : Fin 3) _ _ _ 3 (by show 3 < 9; omega) S4x1024x512 a3 rfl rfl 768 rfl (ix3 l k j)
    (by intro b hb; match b, hb with | ⟨0, _⟩, _ => rfl | ⟨1, _⟩, _ => rfl | ⟨2, _⟩, hb => exact absurd rfl hb) rfl

theorem joinW_4 (l : Fin 4) (k : Fin 1024) (j : Fin 512) :
    joinW a0 a1 a2 a3 a4 a5 a6 a7 a8 (ix3 l k ⟨1280 + j.val, by omega⟩) = a4 (ix3 l k j) := by
  unfold joinW
  exact concatenate_apply_piece (t := S4x1024x3328) (2 : Fin 3) _ _ _ 4 (by show 4 < 9; omega) S4x1024x512 a4 rfl rfl 1280 rfl (ix3 l k j)
    (by intro b hb; match b, hb with | ⟨0, _⟩, _ => rfl | ⟨1, _⟩, _ => rfl | ⟨2, _⟩, hb => exact absurd rfl hb) rfl

theorem joinW_5 (l : Fin 4) (k : Fin 1024) (j : Fin 256) :
    joinW a0 a1 a2 a3 a4 a5 a6 a7 a8 (ix3 l k ⟨1792 + j.val, by omega⟩) = a5 (ix3 l k j) := by
  unfold joinW
  exact concatenate_apply_piece (t := S4x1024x3328) (2 : Fin 3) _ _ _ 5 (by show 5 < 9; omega) S4x1024x256 a5 rfl rfl 1792 rfl (ix3 l k j)
    (by intro b hb; match b, hb with | ⟨0, _⟩, _ => rfl | ⟨1, _⟩, _ => rfl | ⟨2, _⟩, hb => exact absurd rfl hb) rfl

theorem joinW_6 (l : Fin 4) (k : Fin 1024) (j : Fin 256) :
    joinW a0 a1 a2 a3 a4 a5 a6 a7 a8 (ix3 l k ⟨2048 + j.val, by omega⟩) = a6 (ix3 l k j) := by
  unfold joinW
  exact concatenate_apply_piece (t := S4x1024x3328) (2 : Fin 3) _ _ _ 6 (by show 6 < 9; omega) S4x1024x256 a6 rfl rfl 2048 rfl (ix3 l k j)
    (by intro b hb; match b, hb with | ⟨0, _⟩, _ => rfl | ⟨1, _⟩, _ => rfl | ⟨2, _⟩, hb => exact absurd rfl hb) rfl

theorem joinW_7 (l : Fin 4) (k : Fin 1024) (j : Fin 512) :
    joinW a0 a1 a2 a3 a4 a5 a6 a7 a8 (ix3 l k ⟨2304 + j.val, by omega⟩) = a7 (ix3 l k j) := by
  unfold joinW
  exact concatenate_apply_piece (t := S4x1024x3328) (2 : Fin 3) _ _ _ 7 (by show 7 < 9; omega) S4x1024x512 a7 rfl rfl 2304 rfl (ix3 l k j)
    (by intro b hb; match b, hb with | ⟨0, _⟩, _ => rfl | ⟨1, _⟩, _ => rfl | ⟨2, _⟩, hb => exact absurd rfl hb) rfl

theorem joinW_8 (l : Fin 4) (k : Fin 1024) (j : Fin 512) :
    joinW a0 a1 a2 a3 a4 a5 a6 a7 a8 (ix3 l k ⟨2816 + j.val, by omega⟩) = a8 (ix3 l k j) := by
  unfold joinW
  exact concatenate_apply_piece (t := S4x1024x3328) (2 : Fin 3) _ _ _ 8 (by show 8 < 9; omega) S4x1024x512 a8 rfl rfl 2816 rfl (ix3 l k j)
    (by intro b hb; match b, hb with | ⟨0, _⟩, _ => rfl | ⟨1, _⟩, _ => rfl | ⟨2, _⟩, hb => exact absurd rfl hb) rfl

end

/-! ## The biases -/

section

variable (a0 : FVec Ideal S4x256 .f32) (a1 : FVec Ideal S4x256 .f32) (a2 : FVec Ideal S4x256 .f32) (a3 : FVec Ideal S4x512 .f32) (a4 : FVec Ideal S4x512 .f32) (a5 : FVec Ideal S4x256 .f32) (a6 : FVec Ideal S4x256 .f32) (a7 : FVec Ideal S4x512 .f32) (a8 : FVec Ideal S4x512 .f32)

theorem joinB_0 (l : Fin 4) (j : Fin 256) :
    joinB a0 a1 a2 a3 a4 a5 a6 a7 a8 (ix2 l ⟨0 + j.val, by omega⟩) = a0 (ix2 l j) := by
  unfold joinB
  exact concatenate_apply_piece (t := S4x3328) (1 : Fin 2) _ _ _ 0 (by show 0 < 9; omega) S4x256 a0 rfl rfl 0 rfl (ix2 l j)
    (by intro b hb; match b, hb with | ⟨0, _⟩, _ => rfl | ⟨1, _⟩, hb => exact absurd rfl hb) rfl

theorem joinB_1 (l : Fin 4) (j : Fin 256) :
    joinB a0 a1 a2 a3 a4 a5 a6 a7 a8 (ix2 l ⟨256 + j.val, by omega⟩) = a1 (ix2 l j) := by
  unfold joinB
  exact concatenate_apply_piece (t := S4x3328) (1 : Fin 2) _ _ _ 1 (by show 1 < 9; omega) S4x256 a1 rfl rfl 256 rfl (ix2 l j)
    (by intro b hb; match b, hb with | ⟨0, _⟩, _ => rfl | ⟨1, _⟩, hb => exact absurd rfl hb) rfl

theorem joinB_2 (l : Fin 4) (j : Fin 256) :
    joinB a0 a1 a2 a3 a4 a5 a6 a7 a8 (ix2 l ⟨512 + j.val, by omega⟩) = a2 (ix2 l j) := by
  unfold joinB
  exact concatenate_apply_piece (t := S4x3328) (1 : Fin 2) _ _ _ 2 (by show 2 < 9; omega) S4x256 a2 rfl rfl 512 rfl (ix2 l j)
    (by intro b hb; match b, hb with | ⟨0, _⟩, _ => rfl | ⟨1, _⟩, hb => exact absurd rfl hb) rfl

theorem joinB_3 (l : Fin 4) (j : Fin 512) :
    joinB a0 a1 a2 a3 a4 a5 a6 a7 a8 (ix2 l ⟨768 + j.val, by omega⟩) = a3 (ix2 l j) := by
  unfold joinB
  exact concatenate_apply_piece (t := S4x3328) (1 : Fin 2) _ _ _ 3 (by show 3 < 9; omega) S4x512 a3 rfl rfl 768 rfl (ix2 l j)
    (by intro b hb; match b, hb with | ⟨0, _⟩, _ => rfl | ⟨1, _⟩, hb => exact absurd rfl hb) rfl

theorem joinB_4 (l : Fin 4) (j : Fin 512) :
    joinB a0 a1 a2 a3 a4 a5 a6 a7 a8 (ix2 l ⟨1280 + j.val, by omega⟩) = a4 (ix2 l j) := by
  unfold joinB
  exact concatenate_apply_piece (t := S4x3328) (1 : Fin 2) _ _ _ 4 (by show 4 < 9; omega) S4x512 a4 rfl rfl 1280 rfl (ix2 l j)
    (by intro b hb; match b, hb with | ⟨0, _⟩, _ => rfl | ⟨1, _⟩, hb => exact absurd rfl hb) rfl

theorem joinB_5 (l : Fin 4) (j : Fin 256) :
    joinB a0 a1 a2 a3 a4 a5 a6 a7 a8 (ix2 l ⟨1792 + j.val, by omega⟩) = a5 (ix2 l j) := by
  unfold joinB
  exact concatenate_apply_piece (t := S4x3328) (1 : Fin 2) _ _ _ 5 (by show 5 < 9; omega) S4x256 a5 rfl rfl 1792 rfl (ix2 l j)
    (by intro b hb; match b, hb with | ⟨0, _⟩, _ => rfl | ⟨1, _⟩, hb => exact absurd rfl hb) rfl

theorem joinB_6 (l : Fin 4) (j : Fin 256) :
    joinB a0 a1 a2 a3 a4 a5 a6 a7 a8 (ix2 l ⟨2048 + j.val, by omega⟩) = a6 (ix2 l j) := by
  unfold joinB
  exact concatenate_apply_piece (t := S4x3328) (1 : Fin 2) _ _ _ 6 (by show 6 < 9; omega) S4x256 a6 rfl rfl 2048 rfl (ix2 l j)
    (by intro b hb; match b, hb with | ⟨0, _⟩, _ => rfl | ⟨1, _⟩, hb => exact absurd rfl hb) rfl

theorem joinB_7 (l : Fin 4) (j : Fin 512) :
    joinB a0 a1 a2 a3 a4 a5 a6 a7 a8 (ix2 l ⟨2304 + j.val, by omega⟩) = a7 (ix2 l j) := by
  unfold joinB
  exact concatenate_apply_piece (t := S4x3328) (1 : Fin 2) _ _ _ 7 (by show 7 < 9; omega) S4x512 a7 rfl rfl 2304 rfl (ix2 l j)
    (by intro b hb; match b, hb with | ⟨0, _⟩, _ => rfl | ⟨1, _⟩, hb => exact absurd rfl hb) rfl

theorem joinB_8 (l : Fin 4) (j : Fin 512) :
    joinB a0 a1 a2 a3 a4 a5 a6 a7 a8 (ix2 l ⟨2816 + j.val, by omega⟩) = a8 (ix2 l j) := by
  unfold joinB
  exact concatenate_apply_piece (t := S4x3328) (1 : Fin 2) _ _ _ 8 (by show 8 < 9; omega) S4x512 a8 rfl rfl 2816 rfl (ix2 l j)
    (by intro b hb; match b, hb with | ⟨0, _⟩, _ => rfl | ⟨1, _⟩, hb => exact absurd rfl hb) rfl

end

/-! ## The gates' weights -/

section

variable (a0 : FVec Ideal S4x1024x8 .f32) (a1 : FVec Ideal S4x1024x8 .f32) (a2 : FVec Ideal S4x1024x8 .f32) (a3 : FVec Ideal S4x1024x8 .f32)

theorem joinG_0 (l : Fin 4) (k : Fin 1024) (j : Fin 8) :
    joinG a0 a1 a2 a3 (ix3 l k ⟨0 + j.val, by omega⟩) = a0 (ix3 l k j) := by
  unfold joinG
  exact concatenate_apply_piece (t := S4x1024x32) (2 : Fin 3) _ _ _ 0 (by show 0 < 4; omega) S4x1024x8 a0 rfl rfl 0 rfl (ix3 l k j)
    (by intro b hb; match b, hb with | ⟨0, _⟩, _ => rfl | ⟨1, _⟩, _ => rfl | ⟨2, _⟩, hb => exact absurd rfl hb) rfl

theorem joinG_1 (l : Fin 4) (k : Fin 1024) (j : Fin 8) :
    joinG a0 a1 a2 a3 (ix3 l k ⟨8 + j.val, by omega⟩) = a1 (ix3 l k j) := by
  unfold joinG
  exact concatenate_apply_piece (t := S4x1024x32) (2 : Fin 3) _ _ _ 1 (by show 1 < 4; omega) S4x1024x8 a1 rfl rfl 8 rfl (ix3 l k j)
    (by intro b hb; match b, hb with | ⟨0, _⟩, _ => rfl | ⟨1, _⟩, _ => rfl | ⟨2, _⟩, hb => exact absurd rfl hb) rfl

theorem joinG_2 (l : Fin 4) (k : Fin 1024) (j : Fin 8) :
    joinG a0 a1 a2 a3 (ix3 l k ⟨16 + j.val, by omega⟩) = a2 (ix3 l k j) := by
  unfold joinG
  exact concatenate_apply_piece (t := S4x1024x32) (2 : Fin 3) _ _ _ 2 (by show 2 < 4; omega) S4x1024x8 a2 rfl rfl 16 rfl (ix3 l k j)
    (by intro b hb; match b, hb with | ⟨0, _⟩, _ => rfl | ⟨1, _⟩, _ => rfl | ⟨2, _⟩, hb => exact absurd rfl hb) rfl

theorem joinG_3 (l : Fin 4) (k : Fin 1024) (j : Fin 8) :
    joinG a0 a1 a2 a3 (ix3 l k ⟨24 + j.val, by omega⟩) = a3 (ix3 l k j) := by
  unfold joinG
  exact concatenate_apply_piece (t := S4x1024x32) (2 : Fin 3) _ _ _ 3 (by show 3 < 4; omega) S4x1024x8 a3 rfl rfl 24 rfl (ix3 l k j)
    (by intro b hb; match b, hb with | ⟨0, _⟩, _ => rfl | ⟨1, _⟩, _ => rfl | ⟨2, _⟩, hb => exact absurd rfl hb) rfl

end

/-! ## The gates' biases -/

section

variable (a0 : FVec Ideal S4x8 .f32) (a1 : FVec Ideal S4x8 .f32) (a2 : FVec Ideal S4x8 .f32) (a3 : FVec Ideal S4x8 .f32)

theorem joinH_0 (l : Fin 4) (j : Fin 8) :
    joinH a0 a1 a2 a3 (ix2 l ⟨0 + j.val, by omega⟩) = a0 (ix2 l j) := by
  unfold joinH
  exact concatenate_apply_piece (t := S4x32) (1 : Fin 2) _ _ _ 0 (by show 0 < 4; omega) S4x8 a0 rfl rfl 0 rfl (ix2 l j)
    (by intro b hb; match b, hb with | ⟨0, _⟩, _ => rfl | ⟨1, _⟩, hb => exact absurd rfl hb) rfl

theorem joinH_1 (l : Fin 4) (j : Fin 8) :
    joinH a0 a1 a2 a3 (ix2 l ⟨8 + j.val, by omega⟩) = a1 (ix2 l j) := by
  unfold joinH
  exact concatenate_apply_piece (t := S4x32) (1 : Fin 2) _ _ _ 1 (by show 1 < 4; omega) S4x8 a1 rfl rfl 8 rfl (ix2 l j)
    (by intro b hb; match b, hb with | ⟨0, _⟩, _ => rfl | ⟨1, _⟩, hb => exact absurd rfl hb) rfl

theorem joinH_2 (l : Fin 4) (j : Fin 8) :
    joinH a0 a1 a2 a3 (ix2 l ⟨16 + j.val, by omega⟩) = a2 (ix2 l j) := by
  unfold joinH
  exact concatenate_apply_piece (t := S4x32) (1 : Fin 2) _ _ _ 2 (by show 2 < 4; omega) S4x8 a2 rfl rfl 16 rfl (ix2 l j)
    (by intro b hb; match b, hb with | ⟨0, _⟩, _ => rfl | ⟨1, _⟩, hb => exact absurd rfl hb) rfl

theorem joinH_3 (l : Fin 4) (j : Fin 8) :
    joinH a0 a1 a2 a3 (ix2 l ⟨24 + j.val, by omega⟩) = a3 (ix2 l j) := by
  unfold joinH
  exact concatenate_apply_piece (t := S4x32) (1 : Fin 2) _ _ _ 3 (by show 3 < 4; omega) S4x8 a3 rfl rfl 24 rfl (ix2 l j)
    (by intro b hb; match b, hb with | ⟨0, _⟩, _ => rfl | ⟨1, _⟩, hb => exact absurd rfl hb) rfl

end

end Cert.Proof.Projection

end
-- ==== Proof.ProjectionLayout.lean ====
/- The projection's operands, read by their columns. -/
module

public import proofs.«01_k».proof.Proof.ProjectionJoin
public import Idealize.ShloMosaic.Lib.Routing.OpsSet
public import Idealize.ShloMosaic.Lib.Routing.OpsPair
public import proofs.«01_k».proof.Proof.ProjectionColumns

@[expose] public section

set_option maxRecDepth 16384

noncomputable section

namespace Cert.Proof.Projection

open Cert.ProjectionIdeal Cert.ProjectionIdeal.Gen Idealize.ShloMosaic Idealize.ShloMosaic.TcCoe Idealize.SL.Sem

theorem filler_apply (i : S_.Idx) : filler i = 0 := by
  show ((((0#32 : BitVec 32).toInt : ℝ)) : EReal) = 0
  simp

/-! ## One group -/

theorem keysW_apply (v : FVec Ideal S4x1024x192 .f32) (l : Fin 4) (k : Fin 1024) (j : Fin 256) :
    keysW v (ix3 l k j) = if h : j.val < 192 then v (ix3 l k ⟨j.val, h⟩) else 0 := by
  by_cases h : j.val < 192
  · rw [dif_pos h]; pointwise [keysW, h]
  · rw [dif_neg h]; pointwise [keysW, h, filler_apply]

theorem headsW_apply (v : FVec Ideal S4x1024x384 .f32) (l : Fin 4) (k : Fin 1024) (j : Fin 512) :
    headsW v (ix3 l k j) = if h : j.val % 128 < 96 then v (ix3 l k ⟨j.val / 128 * 96 + j.val % 128, by omega⟩) else 0 := by
  have hd : j.val / 128 < 4 := by omega
  by_cases h : j.val % 128 < 96
  · rw [dif_pos h]; pointwise [headsW, h, hd]
  · rw [dif_neg h]; pointwise [headsW, h, hd, filler_apply]

theorem unpairW_apply (v : FVec Ideal S4x1024x192 .f32) (l : Fin 4) (k : Fin 1024) (j : Fin 192) :
    shapeCast S4x1024x192 (transpose S4x1024x4x2x24 [0, 1, 2, 4, 3] (shapeCast S4x1024x4x24x2 v shapeCasts_S4x1024x192_S4x1024x4x24x2)
      transposes_S4x1024x4x24x2_S4x1024x4x2x24_0_1_2_4_3) shapeCasts_S4x1024x4x2x24_S4x1024x192 (ix3 l k j)
      = v (ix3 l k ⟨j.val / 48 * 48 + j.val % 24 * 2 + j.val / 24 % 2, by omega⟩) := by
  pointwise

theorem gatesW_apply (v : FVec Ideal S4x1024x4 .f32) (l : Fin 4) (k : Fin 1024) (j : Fin 8) :
    gatesW v (ix3 l k j) = if h : j.val < 4 then v (ix3 l k ⟨j.val, h⟩) else 0 := by
  by_cases h : j.val < 4
  · rw [dif_pos h]; pointwise [gatesW, h]
  · rw [dif_neg h]; pointwise [gatesW, h, filler_apply]

theorem keysB_apply (v : FVec Ideal S4x192 .f32) (l : Fin 4) (j : Fin 256) :
    keysB v (ix2 l j) = if h : j.val < 192 then v (ix2 l ⟨j.val, h⟩) else 0 := by
  by_cases h : j.val < 192
  · rw [dif_pos h]; pointwise [keysB, h]
  · rw [dif_neg h]; pointwise [keysB, h, filler_apply]

theorem headsB_apply (v : FVec Ideal S4x384 .f32) (l : Fin 4) (j : Fin 512) :
    headsB v (ix2 l j) = if h : j.val % 128 < 96 then v (ix2 l ⟨j.val / 128 * 96 + j.val % 128, by omega⟩) else 0 := by
  have hd : j.val / 128 < 4 := by omega
  by_cases h : j.val % 128 < 96
  · rw [dif_pos h]; pointwise [headsB, h, hd]
  · rw [dif_neg h]; pointwise [headsB, h, hd, filler_apply]

theorem unpairB_apply (v : FVec Ideal S4x192 .f32) (l : Fin 4) (j : Fin 192) :
    shapeCast S4x192 (transpose S4x4x2x24 [0, 1, 3, 2] (shapeCast S4x4x24x2 v shapeCasts_S4x192_S4x4x24x2)
      transposes_S4x4x24x2_S4x4x2x24_0_1_3_2) shapeCasts_S4x4x2x24_S4x192 (ix2 l j)
      = v (ix2 l ⟨j.val / 48 * 48 + j.val % 24 * 2 + j.val / 24 % 2, by omega⟩) := by
  pointwise

theorem gatesB_apply (v : FVec Ideal S4x4 .f32) (l : Fin 4) (j : Fin 8) :
    gatesB v (ix2 l j) = if h : j.val < 4 then v (ix2 l ⟨j.val, h⟩) else 0 := by
  by_cases h : j.val < 4
  · rw [dif_pos h]; pointwise [gatesB, h]
  · rw [dif_neg h]; pointwise [gatesB, h, filler_apply]

/-! ## All columns -/

theorem laidW_0 (w : FVec Ideal S4x1024x2576 .f32) (l : Fin 4) (k : Fin 1024) (j : Fin 256) :
    laidW w (ix3 l k ⟨0 + j.val, by omega⟩) = pick (plainCol j) (fun c => w (ix3 l k c)) := by
  refine (joinW_0 _ _ _ _ _ _ _ _ _ l k j).trans ?_
  rw [plainCol, pick_some]
  pointwise

theorem laidW_1 (w : FVec Ideal S4x1024x2576 .f32) (l : Fin 4) (k : Fin 1024) (j : Fin 256) :
    laidW w (ix3 l k ⟨256 + j.val, by omega⟩) = pick (keyCol 256 (by decide) j) (fun c => w (ix3 l k c)) := by
  refine (joinW_1 _ _ _ _ _ _ _ _ _ l k j).trans ?_
  rw [keysW_apply]
  unfold keyCol
  by_cases h : j.val < 192
  · rw [dif_pos h, dif_pos h, pick_some]; pointwise
  · rw [dif_neg h, dif_neg h, pick_none]

theorem laidW_2 (w : FVec Ideal S4x1024x2576 .f32) (l : Fin 4) (k : Fin 1024) (j : Fin 256) :
    laidW w (ix3 l k ⟨512 + j.val, by omega⟩) = pick (keyCol 448 (by decide) j) (fun c => w (ix3 l k c)) := by
  refine (joinW_2 _ _ _ _ _ _ _ _ _ l k j).trans ?_
  rw [keysW_apply]
  unfold keyCol
  by_cases h : j.val < 192
  · rw [dif_pos h, dif_pos h, pick_some]; pointwise
  · rw [dif_neg h, dif_neg h, pick_none]

theorem laidW_3 (w : FVec Ideal S4x1024x2576 .f32) (l : Fin 4) (k : Fin 1024) (j : Fin 512) :
    laidW w (ix3 l k ⟨768 + j.val, by omega⟩) = pick (headCol 640 (by decide) j) (fun c => w (ix3 l k c)) := by
  refine (joinW_3 _ _ _ _ _ _ _ _ _ l k j).trans ?_
  rw [headsW_apply]
  unfold headCol
  by_cases h : j.val % 128 < 96
  · rw [dif_pos h, dif_pos h, pick_some]; pointwise
  · rw [dif_neg h, dif_neg h, pick_none]

theorem laidW_4 (w : FVec Ideal S4x1024x2576 .f32) (l : Fin 4) (k : Fin 1024) (j : Fin 512) :
    laidW w (ix3 l k ⟨1280 + j.val, by omega⟩) = pick (headCol 1024 (by decide) j) (fun c => w (ix3 l k c)) := by
  refine (joinW_4 _ _ _ _ _ _ _ _ _ l k j).trans ?_
  rw [headsW_apply]
  unfold headCol
  by_cases h : j.val % 128 < 96
  · rw [dif_pos h, dif_pos h, pick_some]; pointwise
  · rw [dif_neg h, dif_neg h, pick_none]

theorem laidW_5 (w : FVec Ideal S4x1024x2576 .f32) (l : Fin 4) (k : Fin 1024) (j : Fin 256) :
    laidW w (ix3 l k ⟨1792 + j.val, by omega⟩) = pick (pairCol 1424 (by decide) j) (fun c => w (ix3 l k c)) := by
  refine (joinW_5 _ _ _ _ _ _ _ _ _ l k j).trans ?_
  unfold pairsW
  rw [keysW_apply]
  unfold pairCol
  by_cases h : j.val < 192
  · rw [dif_pos h, dif_pos h, unpairW_apply, pick_some]; pointwise
  · rw [dif_neg h, dif_neg h, pick_none]

theorem laidW_6 (w : FVec Ideal S4x1024x2576 .f32) (l : Fin 4) (k : Fin 1024) (j : Fin 256) :
    laidW w (ix3 l k ⟨2048 + j.val, by omega⟩) = pick (pairCol 1616 (by decide) j) (fun c => w (ix3 l k c)) := by
  refine (joinW_6 _ _ _ _ _ _ _ _ _ l k j).trans ?_
  unfold pairsW
  rw [keysW_apply]
  unfold pairCol
  by_cases h : j.val < 192
  · rw [dif_pos h, dif_pos h, unpairW_apply, pick_some]; pointwise
  · rw [dif_neg h, dif_neg h, pick_none]

theorem laidW_7 (w : FVec Ideal S4x1024x2576 .f32) (l : Fin 4) (k : Fin 1024) (j : Fin 512) :
    laidW w (ix3 l k ⟨2304 + j.val, by omega⟩) = pick (headCol 1808 (by decide) j) (fun c => w (ix3 l k c)) := by
  refine (joinW_7 _ _ _ _ _ _ _ _ _ l k j).trans ?_
  rw [headsW_apply]
  unfold headCol
  by_cases h : j.val % 128 < 96
  · rw [dif_pos h, dif_pos h, pick_some]; pointwise
  · rw [dif_neg h, dif_neg h, pick_none]

theorem laidW_8 (w : FVec Ideal S4x1024x2576 .f32) (l : Fin 4) (k : Fin 1024) (j : Fin 512) :
    laidW w (ix3 l k ⟨2816 + j.val, by omega⟩) = pick (headCol 2192 (by decide) j) (fun c => w (ix3 l k c)) := by
  refine (joinW_8 _ _ _ _ _ _ _ _ _ l k j).trans ?_
  rw [headsW_apply]
  unfold headCol
  by_cases h : j.val % 128 < 96
  · rw [dif_pos h, dif_pos h, pick_some]; pointwise
  · rw [dif_neg h, dif_neg h, pick_none]

theorem laidB_0 (b : FVec Ideal S4x2576 .f32) (l : Fin 4) (j : Fin 256) :
    laidB b (ix2 l ⟨0 + j.val, by omega⟩) = pick (plainCol j) (fun c => b (ix2 l c)) := by
  refine (joinB_0 _ _ _ _ _ _ _ _ _ l j).trans ?_
  rw [plainCol, pick_some]
  pointwise

theorem laidB_1 (b : FVec Ideal S4x2576 .f32) (l : Fin 4) (j : Fin 256) :
    laidB b (ix2 l ⟨256 + j.val, by omega⟩) = pick (keyCol 256 (by decide) j) (fun c => b (ix2 l c)) := by
  refine (joinB_1 _ _ _ _ _ _ _ _ _ l j).trans ?_
  rw [keysB_apply]
  unfold keyCol
  by_cases h : j.val < 192
  · rw [dif_pos h, dif_pos h, pick_some]; pointwise
  · rw [dif_neg h, dif_neg h, pick_none]

theorem laidB_2 (b : FVec Ideal S4x2576 .f32) (l : Fin 4) (j : Fin 256) :
    laidB b (ix2 l ⟨512 + j.val, by omega⟩) = pick (keyCol 448 (by decide) j) (fun c => b (ix2 l c)) := by
  refine (joinB_2 _ _ _ _ _ _ _ _ _ l j).trans ?_
  rw [keysB_apply]
  unfold keyCol
  by_cases h : j.val < 192
  · rw [dif_pos h, dif_pos h, pick_some]; pointwise
  · rw [dif_neg h, dif_neg h, pick_none]

theorem laidB_3 (b : FVec Ideal S4x2576 .f32) (l : Fin 4) (j : Fin 512) :
    laidB b (ix2 l ⟨768 + j.val, by omega⟩) = pick (headCol 640 (by decide) j) (fun c => b (ix2 l c)) := by
  refine (joinB_3 _ _ _ _ _ _ _ _ _ l j).trans ?_
  rw [headsB_apply]
  unfold headCol
  by_cases h : j.val % 128 < 96
  · rw [dif_pos h, dif_pos h, pick_some]; pointwise
  · rw [dif_neg h, dif_neg h, pick_none]

theorem laidB_4 (b : FVec Ideal S4x2576 .f32) (l : Fin 4) (j : Fin 512) :
    laidB b (ix2 l ⟨1280 + j.val, by omega⟩) = pick (headCol 1024 (by decide) j) (fun c => b (ix2 l c)) := by
  refine (joinB_4 _ _ _ _ _ _ _ _ _ l j).trans ?_
  rw [headsB_apply]
  unfold headCol
  by_cases h : j.val % 128 < 96
  · rw [dif_pos h, dif_pos h, pick_some]; pointwise
  · rw [dif_neg h, dif_neg h, pick_none]

theorem laidB_5 (b : FVec Ideal S4x2576 .f32) (l : Fin 4) (j : Fin 256) :
    laidB b (ix2 l ⟨1792 + j.val, by omega⟩) = pick (pairCol 1424 (by decide) j) (fun c => b (ix2 l c)) := by
  refine (joinB_5 _ _ _ _ _ _ _ _ _ l j).trans ?_
  unfold pairsB
  rw [keysB_apply]
  unfold pairCol
  by_cases h : j.val < 192
  · rw [dif_pos h, dif_pos h, unpairB_apply, pick_some]; pointwise
  · rw [dif_neg h, dif_neg h, pick_none]

theorem laidB_6 (b : FVec Ideal S4x2576 .f32) (l : Fin 4) (j : Fin 256) :
    laidB b (ix2 l ⟨2048 + j.val, by omega⟩) = pick (pairCol 1616 (by decide) j) (fun c => b (ix2 l c)) := by
  refine (joinB_6 _ _ _ _ _ _ _ _ _ l j).trans ?_
  unfold pairsB
  rw [keysB_apply]
  unfold pairCol
  by_cases h : j.val < 192
  · rw [dif_pos h, dif_pos h, unpairB_apply, pick_some]; pointwise
  · rw [dif_neg h, dif_neg h, pick_none]

theorem laidB_7 (b : FVec Ideal S4x2576 .f32) (l : Fin 4) (j : Fin 512) :
    laidB b (ix2 l ⟨2304 + j.val, by omega⟩) = pick (headCol 1808 (by decide) j) (fun c => b (ix2 l c)) := by
  refine (joinB_7 _ _ _ _ _ _ _ _ _ l j).trans ?_
  rw [headsB_apply]
  unfold headCol
  by_cases h : j.val % 128 < 96
  · rw [dif_pos h, dif_pos h, pick_some]; pointwise
  · rw [dif_neg h, dif_neg h, pick_none]

theorem laidB_8 (b : FVec Ideal S4x2576 .f32) (l : Fin 4) (j : Fin 512) :
    laidB b (ix2 l ⟨2816 + j.val, by omega⟩) = pick (headCol 2192 (by decide) j) (fun c => b (ix2 l c)) := by
  refine (joinB_8 _ _ _ _ _ _ _ _ _ l j).trans ?_
  rw [headsB_apply]
  unfold headCol
  by_cases h : j.val % 128 < 96
  · rw [dif_pos h, dif_pos h, pick_some]; pointwise
  · rw [dif_neg h, dif_neg h, pick_none]

theorem laidG_0 (w : FVec Ideal S4x1024x2576 .f32) (l : Fin 4) (k : Fin 1024) (j : Fin 8) :
    laidG w (ix3 l k ⟨0 + j.val, by omega⟩) = pick (gateCol 1412 (by decide) j) (fun c => w (ix3 l k c)) := by
  refine (joinG_0 _ _ _ _ l k j).trans ?_
  rw [gatesW_apply]
  unfold gateCol
  by_cases h : j.val < 4
  · rw [dif_pos h, dif_pos h, pick_some]; pointwise [gateRows]; exact congrArg w (congrArg (ix3 l k) (Fin.ext (Nat.add_assoc 1408 _ j.val).symm))
  · rw [dif_neg h, dif_neg h, pick_none]

theorem laidG_1 (w : FVec Ideal S4x1024x2576 .f32) (l : Fin 4) (k : Fin 1024) (j : Fin 8) :
    laidG w (ix3 l k ⟨8 + j.val, by omega⟩) = pick (gateCol 1408 (by decide) j) (fun c => w (ix3 l k c)) := by
  refine (joinG_1 _ _ _ _ l k j).trans ?_
  rw [gatesW_apply]
  unfold gateCol
  by_cases h : j.val < 4
  · rw [dif_pos h, dif_pos h, pick_some]; pointwise [gateRows]
  · rw [dif_neg h, dif_neg h, pick_none]

theorem laidG_2 (w : FVec Ideal S4x1024x2576 .f32) (l : Fin 4) (k : Fin 1024) (j : Fin 8) :
    laidG w (ix3 l k ⟨16 + j.val, by omega⟩) = pick (gateCol 1420 (by decide) j) (fun c => w (ix3 l k c)) := by
  refine (joinG_2 _ _ _ _ l k j).trans ?_
  rw [gatesW_apply]
  unfold gateCol
  by_cases h : j.val < 4
  · rw [dif_pos h, dif_pos h, pick_some]; pointwise [gateRows]; exact congrArg w (congrArg (ix3 l k) (Fin.ext (Nat.add_assoc 1408 _ j.val).symm))
  · rw [dif_neg h, dif_neg h, pick_none]

theorem laidG_3 (w : FVec Ideal S4x1024x2576 .f32) (l : Fin 4) (k : Fin 1024) (j : Fin 8) :
    laidG w (ix3 l k ⟨24 + j.val, by omega⟩) = pick (gateCol 1416 (by decide) j) (fun c => w (ix3 l k c)) := by
  refine (joinG_3 _ _ _ _ l k j).trans ?_
  rw [gatesW_apply]
  unfold gateCol
  by_cases h : j.val < 4
  · rw [dif_pos h, dif_pos h, pick_some]; pointwise [gateRows]; exact congrArg w (congrArg (ix3 l k) (Fin.ext (Nat.add_assoc 1408 _ j.val).symm))
  · rw [dif_neg h, dif_neg h, pick_none]

theorem laidH_0 (b : FVec Ideal S4x2576 .f32) (l : Fin 4) (j : Fin 8) :
    laidH b (ix2 l ⟨0 + j.val, by omega⟩) = pick (gateCol 1412 (by decide) j) (fun c => b (ix2 l c)) := by
  refine (joinH_0 _ _ _ _ l j).trans ?_
  rw [gatesB_apply]
  unfold gateCol
  by_cases h : j.val < 4
  · rw [dif_pos h, dif_pos h, pick_some]; pointwise [gateBiases]; exact congrArg b (congrArg (ix2 l) (Fin.ext (Nat.add_assoc 1408 _ j.val).symm))
  · rw [dif_neg h, dif_neg h, pick_none]

theorem laidH_1 (b : FVec Ideal S4x2576 .f32) (l : Fin 4) (j : Fin 8) :
    laidH b (ix2 l ⟨8 + j.val, by omega⟩) = pick (gateCol 1408 (by decide) j) (fun c => b (ix2 l c)) := by
  refine (joinH_1 _ _ _ _ l j).trans ?_
  rw [gatesB_apply]
  unfold gateCol
  by_cases h : j.val < 4
  · rw [dif_pos h, dif_pos h, pick_some]; pointwise [gateBiases]
  · rw [dif_neg h, dif_neg h, pick_none]

theorem laidH_2 (b : FVec Ideal S4x2576 .f32) (l : Fin 4) (j : Fin 8) :
    laidH b (ix2 l ⟨16 + j.val, by omega⟩) = pick (gateCol 1420 (by decide) j) (fun c => b (ix2 l c)) := by
  refine (joinH_2 _ _ _ _ l j).trans ?_
  rw [gatesB_apply]
  unfold gateCol
  by_cases h : j.val < 4
  · rw [dif_pos h, dif_pos h, pick_some]; pointwise [gateBiases]; exact congrArg b (congrArg (ix2 l) (Fin.ext (Nat.add_assoc 1408 _ j.val).symm))
  · rw [dif_neg h, dif_neg h, pick_none]

theorem laidH_3 (b : FVec Ideal S4x2576 .f32) (l : Fin 4) (j : Fin 8) :
    laidH b (ix2 l ⟨24 + j.val, by omega⟩) = pick (gateCol 1416 (by decide) j) (fun c => b (ix2 l c)) := by
  refine (joinH_3 _ _ _ _ l j).trans ?_
  rw [gatesB_apply]
  unfold gateCol
  by_cases h : j.val < 4
  · rw [dif_pos h, dif_pos h, pick_some]; pointwise [gateBiases]; exact congrArg b (congrArg (ix2 l) (Fin.ext (Nat.add_assoc 1408 _ j.val).symm))
  · rw [dif_neg h, dif_neg h, pick_none]

/-! ## The columns that count -/

/-- Where an update of a one lands. -/
theorem lands_at : ∀ a b : Fin 4,
    (scatter_S4x3328_S4x1_S4x4_0_1_1_1.start (ix2 a b : S4x4.Idx) counterIndices 0 = 0 ∧ scatter_S4x3328_S4x1_S4x4_0_1_1_1.window (ix2 a b : S4x4.Idx) 0 = a.val)
      ∧ (scatter_S4x3328_S4x1_S4x4_0_1_1_1.start (ix2 a b : S4x4.Idx) counterIndices 1 = 864 + 129 * b.val
        ∧ scatter_S4x3328_S4x1_S4x4_0_1_1_1.window (ix2 a b : S4x4.Idx) 1 = 0) := by
  decide +kernel

theorem lands_iff (a b l : Fin 4) (j : Fin 3328) :
    scatter_S4x3328_S4x1_S4x4_0_1_1_1.resultIdx? (ix2 a b : S4x4.Idx) counterIndices = some (ix2 l j : S4x3328.Idx) ↔ a = l ∧ j.val = 864 + 129 * b.val := by
  rw [Routing.resultIdx?_eq_some]
  obtain ⟨⟨h1, h2⟩, h3, h4⟩ := lands_at a b
  refine (Fin.forall_fin_two (p := fun x : Fin 2 => scatter_S4x3328_S4x1_S4x4_0_1_1_1.start (ix2 a b : S4x4.Idx) counterIndices x
    + (scatter_S4x3328_S4x1_S4x4_0_1_1_1.window (ix2 a b : S4x4.Idx) x : ℤ) = (((ix2 l j : S4x3328.Idx) x).val : ℤ))).trans ?_
  rw [h1, h2, h3, h4]
  show (0 + (a.val : ℤ) = (l.val : ℤ) ∧ 864 + 129 * (b.val : ℤ) + ((0 : ℕ) : ℤ) = (j.val : ℤ)) ↔ _
  constructor
  · rintro ⟨p, q⟩
    exact ⟨Fin.ext (by omega), by omega⟩
  · rintro ⟨rfl, q⟩
    exact ⟨by omega, by omega⟩

theorem ones_apply (i : S4x4.Idx) : ones i = one := by
  unfold one
  pointwise [ones]

/-- A column that does not count keeps its bias. -/
theorem countedB_other (b : FVec Ideal S4x2576 .f32) (l : Fin 4) (j : Fin 3328) (h : ∀ r : Fin 4, j.val ≠ 864 + 129 * r.val) :
    countedB b (ix2 l j) = laidB b (ix2 l j) := by
  refine Routing.scatter_set_miss _ _ _ _ _ fun k hk => ?_
  obtain ⟨a, r, rfl⟩ : ∃ a r, k = ix2 a r := ⟨k 0, k 1, by idx_vars k⟩
  exact h r ((lands_iff a r l j).1 hk).2

/-- A values' place that does not count keeps its bias, -/
theorem countedB_value (b : FVec Ideal S4x2576 .f32) (l : Fin 4) (j : Fin 512) :
    countedB b (ix2 l ⟨768 + j.val, by omega⟩) = if counts j then one else pick (headCol 640 (by decide) j) (fun c => b (ix2 l c)) := by
  by_cases h : counts j
  · rw [if_pos h]
    unfold counts at h
    refine Routing.scatter_set_hit _ _ _ _ _ _ (fun k _ => ones_apply k) (ix2 l ⟨j.val / 128, by omega⟩) ((lands_iff _ _ _ _).2 ⟨rfl, ?_⟩)
    show 768 + j.val = 864 + 129 * (j.val / 128)
    omega
  · rw [if_neg h]
    unfold counts at h
    refine (countedB_other b l _ fun r => ?_).trans (laidB_3 b l j)
    show 768 + j.val ≠ 864 + 129 * r.val
    omega

/-! ## The call's operands -/

variable (m : (ℓ : Loc nD τ sig) → Buf (Elt Ideal) ℓ)

theorem weights_at (c : Dev nD) (k : Fin 1024) (j : Fin 3328) :
    (V m c main_v98 : Vec Ideal S1024x3328 .bf16) (ix2 k j) = laidW (m ((c : Thread nD τ).loc main_arg1)) (ix3 1 k j) := by
  rw [weights_eq]
  generalize laidW (m ((c : Thread nD τ).loc main_arg1)) = v
  pointwise

theorem biases_at (c : Dev nD) (j : Fin 3328) :
    (V m c main_v100 : Vec Ideal S1x3328 .f32) (ix2 0 j) = countedB (m ((c : Thread nD τ).loc main_arg2)) (ix2 1 j) := by
  rw [biases_eq]
  generalize countedB (m ((c : Thread nD τ).loc main_arg2)) = v
  pointwise

theorem gateWeights_at (c : Dev nD) (r : Fin 32) (k : Fin 1024) :
    (V m c main_v102 : Vec Ideal S32x1024 .bf16) (ix2 r k) = laidG (m ((c : Thread nD τ).loc main_arg1)) (ix3 1 k r) := by
  rw [gateWeights_eq]
  generalize laidG (m ((c : Thread nD τ).loc main_arg1)) = v
  pointwise

theorem gateBiases_at (c : Dev nD) (r : Fin 32) :
    (V m c main_v104 : Vec Ideal S32x1 .f32) (ix2 r 0) = laidH (m ((c : Thread nD τ).loc main_arg2)) (ix2 1 r) := by
  rw [gateBiases_eq]
  generalize laidH (m ((c : Thread nD τ).loc main_arg2)) = v
  pointwise

end Cert.Proof.Projection

end
-- ==== Proof.ProjectionValue.lean ====
/- The projection's kernel, read at the extended reals: its results are the reference's arrays.

   Point `t` of the grid handles tokens `t * 1024` to `t * 1024 + 1023`. -/
module

public import proofs.«01_k».proof.Proof.ProjectionPayload
public import proofs.«01_k».proof.Proof.ProjectionReference
public import proofs.«01_k».proof.Proof.ProjectionLayout
public import proofs.«01_k».proof.Proof.Gen.ProjectionIdeal.Value
public import Idealize.ShloMosaic.Lib.Pipeline.ValueKit.Basic

@[expose] public section

set_option maxRecDepth 16384

noncomputable section

namespace Cert.Proof.Projection

open Cert.ProjectionIdeal Cert.ProjectionIdeal.Gen Idealize.ShloMosaic Idealize.ShloMosaic.TcCoe Idealize.SL.Sem

variable (m : (ℓ : Loc nD τ sig) → Buf (Elt Ideal) ℓ)

theorem coord_val : ∀ t : Fin grid0.N, ((grid0.coords t) 0).val = t.val := by decide +kernel

theorem lt_32 (t : Fin grid0.N) : t.val < 32 := lt_of_lt_of_eq t.isLt N_0

/-- The block index, on the axis that moves with the grid. -/
theorem index_val (t : Fin grid0.N) : (BitVec.ofNat 32 ((grid0.coords t) 0).val).toNat = t.val := by
  rw [coord_val, BitVec.toNat_ofNat, Nat.mod_eq_of_lt]
  have := lt_32 t; omega

/-- Row `r` of point `t`'s tokens. -/
abbrev token (t : Fin grid0.N) (r : Fin 1024) : Fin 32768 := ⟨t.val * 1024 + r.val, by have := lt_32 t; omega⟩

/-! ## The arguments -/

/-- The tokens, the weights and the biases, and the projection of them. -/
abbrev argX (c : Dev nD) : Vec Ideal S32768x1024 .bf16 := m ((c : Thread nD τ).loc main_arg0)
abbrev argW (c : Dev nD) : Vec Ideal S4x1024x2576 .f32 := m ((c : Thread nD τ).loc main_arg1)
abbrev argB (c : Dev nD) : Vec Ideal S4x2576 .f32 := m ((c : Thread nD τ).loc main_arg2)
def projected (c : Dev nD) : Vec Ideal Cert.ProjectionReferenceIdeal.S32768x2576 .f32 := Ref.proj (argX m c) (argW m c) (argB m c)

/-! ## The blocks a point loads -/

theorem blk0_apply (c : Dev nD) (t : Fin grid0.N) (r k : Fin 1024) :
    (iblk m c 0 t : Vec Ideal S1024x1024 .bf16) (ix2 r k) = argX m c (ix2 (token t r) k) := by
  have hb : (((cfg0.win 0).blk t).view.emb (ix2 r k : S1024x1024.Idx) : S32768x1024.Idx) = ix2 (token t r) k := by
    have hw := index_val t
    funext b
    apply Fin.ext
    match b with
    | ⟨0, _⟩ => show (BitVec.ofNat 32 ((grid0.coords t) 0).val).toNat * 1024 + 1 * r.val = t.val * 1024 + r.val; omega
    | ⟨1, _⟩ => show 0 * 1024 + 1 * k.val = k.val; omega
  exact (congrArg (V m c main_arg0 : Vec Ideal S32768x1024 .bf16) hb).trans (congrFun (V_main_arg0 m c) _)

theorem blk1_apply (c : Dev nD) (t : Fin grid0.N) (k : Fin 1024) (j : Fin 3328) : (iblk m c 1 t : Vec Ideal S1024x3328 .bf16) (ix2 k j) = laidW (argW m c) (ix3 1 k j) := by
  have hb : (((cfg0.win 1).blk t).view.emb (ix2 k j : S1024x3328.Idx) : S1024x3328.Idx) = ix2 k j := by
    funext b
    apply Fin.ext
    match b with
    | ⟨0, _⟩ => show 0 * 1024 + 1 * k.val = k.val; omega
    | ⟨1, _⟩ => show 0 * 3328 + 1 * j.val = j.val; omega
  exact (congrArg (V m c main_v98 : Vec Ideal S1024x3328 .bf16) hb).trans (weights_at m c k j)

theorem blk2_apply (c : Dev nD) (t : Fin grid0.N) (j : Fin 3328) : (iblk m c 2 t : Vec Ideal S1x3328 .f32) (ix2 0 j) = countedB (argB m c) (ix2 1 j) := by
  have hb : (((cfg0.win 2).blk t).view.emb (ix2 0 j : S1x3328.Idx) : S1x3328.Idx) = ix2 0 j := by
    funext b
    apply Fin.ext
    match b with
    | ⟨0, _⟩ => show 0 * 1 + 1 * 0 = 0; omega
    | ⟨1, _⟩ => show 0 * 3328 + 1 * j.val = j.val; omega
  exact (congrArg (V m c main_v100 : Vec Ideal S1x3328 .f32) hb).trans (biases_at m c j)

theorem blk3_apply (c : Dev nD) (t : Fin grid0.N) (g : Fin 32) (k : Fin 1024) : (iblk m c 3 t : Vec Ideal S32x1024 .bf16) (ix2 g k) = laidG (argW m c) (ix3 1 k g) := by
  have hb : (((cfg0.win 3).blk t).view.emb (ix2 g k : S32x1024.Idx) : S32x1024.Idx) = ix2 g k := by
    funext b
    apply Fin.ext
    match b with
    | ⟨0, _⟩ => show 0 * 32 + 1 * g.val = g.val; omega
    | ⟨1, _⟩ => show 0 * 1024 + 1 * k.val = k.val; omega
  exact (congrArg (V m c main_v102 : Vec Ideal S32x1024 .bf16) hb).trans (gateWeights_at m c g k)

theorem blk4_apply (c : Dev nD) (t : Fin grid0.N) (g : Fin 32) : (iblk m c 4 t : Vec Ideal S32x1 .f32) (ix2 g 0) = laidH (argB m c) (ix2 1 g) := by
  have hb : (((cfg0.win 4).blk t).view.emb (ix2 g 0 : S32x1.Idx) : S32x1.Idx) = ix2 g 0 := by
    funext b
    apply Fin.ext
    match b with
    | ⟨0, _⟩ => show 0 * 32 + 1 * g.val = g.val; omega
    | ⟨1, _⟩ => show 0 * 1 + 1 * 0 = 0; omega
  exact (congrArg (V m c main_v104 : Vec Ideal S32x1 .f32) hb).trans (gateBiases_at m c g)

/-! ## A place's column -/

/-- A token's sum at a place whose weights and bias are a column's, or zero. -/
theorem place (X : FVec Ideal S32768x1024 .bf16) (W : FVec Ideal S4x1024x2576 .f32) (B : FVec Ideal S4x2576 .f32) (n : Fin 32768) (o : Col)
    (x w : Fin 1024 → EReal) (b : EReal) (hx : ∀ k, x k = X (ix2 n k))
    (hw : ∀ k, w k = pick o (fun q => W (ix3 1 k q))) (hb : b = pick o (fun q => B (ix2 1 q))) :
    (∑ k, x k * w k) + b = pick o (fun q => Ref.proj X W B (ix2 n q)) := by
  rw [hb, show w = fun k => pick o (fun q => W (ix3 1 k q)) from funext hw, show x = fun k => X (ix2 n k) from funext hx]
  exact (sum_pick o _ _ _).trans (congrArg (pick o) (funext fun q => (Ref.proj_apply X W B n q).symm))

theorem cut0 (w : Vec Ideal S1024x3328 .bf16) (b : Vec Ideal S1x3328 .f32) (k : Fin 1024) (j : Fin 256) :
    View.ld w r0_1 (ix2 k j) = w (ix2 k ⟨0 + j.val, by omega⟩) ∧ View.ld b r0_2 (ix2 0 j) = b (ix2 0 ⟨0 + j.val, by omega⟩) := by
  refine ⟨congrArg w (funext fun a => Fin.ext ?_), congrArg b (funext fun a => Fin.ext ?_)⟩
  · match a with
    | ⟨0, _⟩ => show 0 + 1 * k.val = k.val; omega
    | ⟨1, _⟩ => show 0 + 1 * j.val = 0 + j.val; omega
  · match a with
    | ⟨0, _⟩ => rfl
    | ⟨1, _⟩ => show 0 + 1 * j.val = 0 + j.val; omega

theorem cut1 (w : Vec Ideal S1024x3328 .bf16) (b : Vec Ideal S1x3328 .f32) (k : Fin 1024) (j : Fin 512) :
    View.ld w r0_4 (ix2 k j) = w (ix2 k ⟨256 + j.val, by omega⟩) ∧ View.ld b r0_5 (ix2 0 j) = b (ix2 0 ⟨256 + j.val, by omega⟩) := by
  refine ⟨congrArg w (funext fun a => Fin.ext ?_), congrArg b (funext fun a => Fin.ext ?_)⟩
  · match a with
    | ⟨0, _⟩ => show 0 + 1 * k.val = k.val; omega
    | ⟨1, _⟩ => show 256 + 1 * j.val = 256 + j.val; omega
  · match a with
    | ⟨0, _⟩ => rfl
    | ⟨1, _⟩ => show 256 + 1 * j.val = 256 + j.val; omega

theorem cut2 (w : Vec Ideal S1024x3328 .bf16) (b : Vec Ideal S1x3328 .f32) (k : Fin 1024) (j : Fin 512) :
    View.ld w r0_7 (ix2 k j) = w (ix2 k ⟨768 + j.val, by omega⟩) ∧ View.ld b r0_8 (ix2 0 j) = b (ix2 0 ⟨768 + j.val, by omega⟩) := by
  refine ⟨congrArg w (funext fun a => Fin.ext ?_), congrArg b (funext fun a => Fin.ext ?_)⟩
  · match a with
    | ⟨0, _⟩ => show 0 + 1 * k.val = k.val; omega
    | ⟨1, _⟩ => show 768 + 1 * j.val = 768 + j.val; omega
  · match a with
    | ⟨0, _⟩ => rfl
    | ⟨1, _⟩ => show 768 + 1 * j.val = 768 + j.val; omega

theorem cut3 (w : Vec Ideal S1024x3328 .bf16) (b : Vec Ideal S1x3328 .f32) (k : Fin 1024) (j : Fin 512) :
    View.ld w r0_9 (ix2 k j) = w (ix2 k ⟨1280 + j.val, by omega⟩) ∧ View.ld b r0_10 (ix2 0 j) = b (ix2 0 ⟨1280 + j.val, by omega⟩) := by
  refine ⟨congrArg w (funext fun a => Fin.ext ?_), congrArg b (funext fun a => Fin.ext ?_)⟩
  · match a with
    | ⟨0, _⟩ => show 0 + 1 * k.val = k.val; omega
    | ⟨1, _⟩ => show 1280 + 1 * j.val = 1280 + j.val; omega
  · match a with
    | ⟨0, _⟩ => rfl
    | ⟨1, _⟩ => show 1280 + 1 * j.val = 1280 + j.val; omega

theorem cut4 (w : Vec Ideal S1024x3328 .bf16) (b : Vec Ideal S1x3328 .f32) (k : Fin 1024) (j : Fin 512) :
    View.ld w r0_11 (ix2 k j) = w (ix2 k ⟨1792 + j.val, by omega⟩) ∧ View.ld b r0_12 (ix2 0 j) = b (ix2 0 ⟨1792 + j.val, by omega⟩) := by
  refine ⟨congrArg w (funext fun a => Fin.ext ?_), congrArg b (funext fun a => Fin.ext ?_)⟩
  · match a with
    | ⟨0, _⟩ => show 0 + 1 * k.val = k.val; omega
    | ⟨1, _⟩ => show 1792 + 1 * j.val = 1792 + j.val; omega
  · match a with
    | ⟨0, _⟩ => rfl
    | ⟨1, _⟩ => show 1792 + 1 * j.val = 1792 + j.val; omega

theorem cut5 (w : Vec Ideal S1024x3328 .bf16) (b : Vec Ideal S1x3328 .f32) (k : Fin 1024) (j : Fin 512) :
    View.ld w r0_13 (ix2 k j) = w (ix2 k ⟨2304 + j.val, by omega⟩) ∧ View.ld b r0_14 (ix2 0 j) = b (ix2 0 ⟨2304 + j.val, by omega⟩) := by
  refine ⟨congrArg w (funext fun a => Fin.ext ?_), congrArg b (funext fun a => Fin.ext ?_)⟩
  · match a with
    | ⟨0, _⟩ => show 0 + 1 * k.val = k.val; omega
    | ⟨1, _⟩ => show 2304 + 1 * j.val = 2304 + j.val; omega
  · match a with
    | ⟨0, _⟩ => rfl
    | ⟨1, _⟩ => show 2304 + 1 * j.val = 2304 + j.val; omega

theorem cut6 (w : Vec Ideal S1024x3328 .bf16) (b : Vec Ideal S1x3328 .f32) (k : Fin 1024) (j : Fin 512) :
    View.ld w r0_15 (ix2 k j) = w (ix2 k ⟨2816 + j.val, by omega⟩) ∧ View.ld b r0_16 (ix2 0 j) = b (ix2 0 ⟨2816 + j.val, by omega⟩) := by
  refine ⟨congrArg w (funext fun a => Fin.ext ?_), congrArg b (funext fun a => Fin.ext ?_)⟩
  · match a with
    | ⟨0, _⟩ => show 0 + 1 * k.val = k.val; omega
    | ⟨1, _⟩ => show 2816 + 1 * j.val = 2816 + j.val; omega
  · match a with
    | ⟨0, _⟩ => rfl
    | ⟨1, _⟩ => show 2816 + 1 * j.val = 2816 + j.val; omega

/-! ## The columns of the results that take two groups -/

theorem keysW_cols (w : FVec Ideal S4x1024x2576 .f32) (k : Fin 1024) (j : Fin 512) :
    laidW w (ix3 1 k ⟨256 + j.val, by omega⟩) = pick (both (keyCol 256 (by decide)) (keyCol 448 (by decide)) j) (fun c => w (ix3 1 k c)) :=
  both_apply _ _ _ (fun j => laidW w (ix3 1 k j)) 256 512 (by decide) rfl (laidW_1 w 1 k) (laidW_2 w 1 k) j

theorem keysB_cols (b : FVec Ideal S4x2576 .f32) (j : Fin 512) :
    laidB b (ix2 1 ⟨256 + j.val, by omega⟩) = pick (both (keyCol 256 (by decide)) (keyCol 448 (by decide)) j) (fun c => b (ix2 1 c)) :=
  both_apply _ _ _ (fun j => laidB b (ix2 1 j)) 256 512 (by decide) rfl (laidB_1 b 1) (laidB_2 b 1) j

theorem pairsW_cols (w : FVec Ideal S4x1024x2576 .f32) (k : Fin 1024) (j : Fin 512) :
    laidW w (ix3 1 k ⟨1792 + j.val, by omega⟩) = pick (both (pairCol 1424 (by decide)) (pairCol 1616 (by decide)) j) (fun c => w (ix3 1 k c)) :=
  both_apply _ _ _ (fun j => laidW w (ix3 1 k j)) 1792 2048 (by decide) rfl (laidW_5 w 1 k) (laidW_6 w 1 k) j

theorem pairsB_cols (b : FVec Ideal S4x2576 .f32) (j : Fin 512) :
    laidB b (ix2 1 ⟨1792 + j.val, by omega⟩) = pick (both (pairCol 1424 (by decide)) (pairCol 1616 (by decide)) j) (fun c => b (ix2 1 c)) :=
  both_apply _ _ _ (fun j => laidB b (ix2 1 j)) 1792 2048 (by decide) rfl (laidB_5 b 1) (laidB_6 b 1) j

/-! ## The result arrays -/

/-- An array rounded: its elements are the same extended reals. -/
def rounded {s : Shape} (v : FVec Ideal s .f32) : FVec Ideal s .bf16 := truncf .bf16 v bitsLt_bf16_f32

theorem rounded_apply {s : Shape} (v : FVec Ideal s .f32) (i : s.Idx) : rounded v i = v i := rfl

def fourierArray (p : FVec Ideal Cert.ProjectionReferenceIdeal.S32768x2576 .f32) : Vec Ideal S32768x256 .bf16 := rounded (Ref.fourier p)
def keysArray (p : FVec Ideal Cert.ProjectionReferenceIdeal.S32768x2576 .f32) : Vec Ideal S32768x512 .f32 := Ref.keys p
def valuesArray (p : FVec Ideal Cert.ProjectionReferenceIdeal.S32768x2576 .f32) : Vec Ideal S32768x512 .bf16 := rounded (Ref.values p)
def outerArray (p : FVec Ideal Cert.ProjectionReferenceIdeal.S32768x2576 .f32) : Vec Ideal S32768x512 .bf16 :=
  rounded (Ref.heads (extractStridedSlice Cert.ProjectionReferenceIdeal.S32768x384 ![0, 1024] p Cert.ProjectionReferenceIdeal.Gen.facts.slices_S32768x2576_S32768x384_0_1024))
def pairsArray (p : FVec Ideal Cert.ProjectionReferenceIdeal.S32768x2576 .f32) : Vec Ideal S32768x512 .f32 := Ref.pairs p
def firstArray (p : FVec Ideal Cert.ProjectionReferenceIdeal.S32768x2576 .f32) : Vec Ideal S32768x512 .bf16 :=
  rounded (Ref.heads (extractStridedSlice Cert.ProjectionReferenceIdeal.S32768x384 ![0, 1808] p Cert.ProjectionReferenceIdeal.Gen.facts.slices_S32768x2576_S32768x384_0_1808))
def secondArray (p : FVec Ideal Cert.ProjectionReferenceIdeal.S32768x2576 .f32) : Vec Ideal S32768x512 .bf16 :=
  rounded (Ref.heads (extractStridedSlice Cert.ProjectionReferenceIdeal.S32768x384 ![0, 2192] p Cert.ProjectionReferenceIdeal.Gen.facts.slices_S32768x2576_S32768x384_0_2192))
def gatesArray (p : FVec Ideal Cert.ProjectionReferenceIdeal.S32768x2576 .f32) : Vec Ideal S32x32768 .f32 := Ref.gates p

/-! ## The blocks a point leaves -/

section

variable (x : Vec Ideal S1024x1024 .bf16) (w : Vec Ideal S1024x3328 .bf16) (b : Vec Ideal S1x3328 .f32) (u : Vec Ideal S32x1024 .bf16) (v : Vec Ideal S32x1 .f32)

theorem out5_apply (r : Fin 1024) (j : Fin 256) : out0_5 (F := Ideal) x w b u v (ix2 r j)
    = (∑ k, x (ix2 r k) * w (ix2 k ⟨0 + j.val, by omega⟩)) + b (ix2 0 ⟨0 + j.val, by omega⟩) := by
  have e : out0_5 (F := Ideal) x w b u v = k0_pay2 x (View.ld w r0_1) (View.ld b r0_2) := by
    unfold out0_5
    rw [View.canon_cons_unit_lit _ _ _ (by decide), View.ld_unit_lit _ x (by decide)]
  rw [e, fourier_block, (cut0 w b 0 j).2]
  simp only [(cut0 w b _ j).1]

theorem out6_apply (r : Fin 1024) (j : Fin 512) : out0_6 (F := Ideal) x w b u v (ix2 r j)
    = (∑ k, x (ix2 r k) * w (ix2 k ⟨256 + j.val, by omega⟩)) + b (ix2 0 ⟨256 + j.val, by omega⟩) := by
  have e : out0_6 (F := Ideal) x w b u v = k0_pay3 x (View.ld w r0_4) (View.ld b r0_5) := by
    unfold out0_6
    rw [View.canon_cons_unit_lit _ _ _ (by decide), View.ld_unit_lit _ x (by decide)]
  rw [e, keys_block, (cut1 w b 0 j).2]
  simp only [(cut1 w b _ j).1]

theorem out7_apply (r : Fin 1024) (j : Fin 512) : out0_7 (F := Ideal) x w b u v (ix2 r j)
    = (∑ k, x (ix2 r k) * w (ix2 k ⟨768 + j.val, by omega⟩)) + b (ix2 0 ⟨768 + j.val, by omega⟩) := by
  have e : out0_7 (F := Ideal) x w b u v = k0_pay4 x (View.ld w r0_7) (View.ld b r0_8) := by
    unfold out0_7
    rw [View.canon_cons_unit_lit _ _ _ (by decide), View.ld_unit_lit _ x (by decide)]
  rw [e, values_block, (cut2 w b 0 j).2]
  simp only [(cut2 w b _ j).1]

theorem out8_apply (r : Fin 1024) (j : Fin 512) : out0_8 (F := Ideal) x w b u v (ix2 r j)
    = (∑ k, x (ix2 r k) * w (ix2 k ⟨1280 + j.val, by omega⟩)) + b (ix2 0 ⟨1280 + j.val, by omega⟩) := by
  have e : out0_8 (F := Ideal) x w b u v = k0_pay6 (k0_pay5 x (View.ld w r0_9)) (View.ld b r0_10) := by
    unfold out0_8
    rw [View.canon_cons_unit_lit _ _ _ (by decide), View.ld_unit_lit _ x (by decide)]
  rw [e, outer_block, (cut3 w b 0 j).2]
  simp only [(cut3 w b _ j).1]

theorem out9_apply (r : Fin 1024) (j : Fin 512) : out0_9 (F := Ideal) x w b u v (ix2 r j)
    = (∑ k, x (ix2 r k) * w (ix2 k ⟨1792 + j.val, by omega⟩)) + b (ix2 0 ⟨1792 + j.val, by omega⟩) := by
  have e : out0_9 (F := Ideal) x w b u v = k0_pay7 x (View.ld w r0_11) (View.ld b r0_12) := by
    unfold out0_9
    rw [View.canon_cons_unit_lit _ _ _ (by decide), View.ld_unit_lit _ x (by decide)]
  rw [e, pairs_block, (cut4 w b 0 j).2]
  simp only [(cut4 w b _ j).1]

theorem out10_apply (r : Fin 1024) (j : Fin 512) : out0_10 (F := Ideal) x w b u v (ix2 r j)
    = (∑ k, x (ix2 r k) * w (ix2 k ⟨2304 + j.val, by omega⟩)) + b (ix2 0 ⟨2304 + j.val, by omega⟩) := by
  have e : out0_10 (F := Ideal) x w b u v = k0_pay8 x (View.ld w r0_13) (View.ld b r0_14) := by
    unfold out0_10
    rw [View.canon_cons_unit_lit _ _ _ (by decide), View.ld_unit_lit _ x (by decide)]
  rw [e, first_block, (cut5 w b 0 j).2]
  simp only [(cut5 w b _ j).1]

theorem out11_apply (r : Fin 1024) (j : Fin 512) : out0_11 (F := Ideal) x w b u v (ix2 r j)
    = (∑ k, x (ix2 r k) * w (ix2 k ⟨2816 + j.val, by omega⟩)) + b (ix2 0 ⟨2816 + j.val, by omega⟩) := by
  have e : out0_11 (F := Ideal) x w b u v = k0_pay9 x (View.ld w r0_15) (View.ld b r0_16) := by
    unfold out0_11
    rw [View.canon_cons_unit_lit _ _ _ (by decide), View.ld_unit_lit _ x (by decide)]
  rw [e, second_block, (cut6 w b 0 j).2]
  simp only [(cut6 w b _ j).1]

theorem out12_apply (g : Fin 32) (r : Fin 1024) : out0_12 (F := Ideal) x w b u v (ix2 g r)
    = (∑ k, x (ix2 r k) * u (ix2 g k)) + v (ix2 g 0) := by
  have e : out0_12 (F := Ideal) x w b u v = k0_pay1 x u v := by
    unfold out0_12
    rw [View.canon_cons_unit_lit _ _ _ (by decide), View.ld_unit_lit _ x (by decide), View.ld_unit_lit _ u (by decide), View.ld_unit_lit _ v (by decide)]
  rw [e, gates_block]

end

/-- A gate's row: its weights, its bias and the reference's row are one column's, or zero. -/
theorem gate_row (w : FVec Ideal S4x1024x2576 .f32) (b : FVec Ideal S4x2576 .f32) (p : FVec Ideal Cert.ProjectionReferenceIdeal.S32768x2576 .f32) (n : Fin 32768) (g : Fin 32) :
    ∃ o : Col, (∀ k, laidG w (ix3 1 k g) = pick o (fun q => w (ix3 1 k q))) ∧ laidH b (ix2 1 g) = pick o (fun q => b (ix2 1 q))
      ∧ Ref.gates p (ix2 g n) = pick o (fun q => p (ix2 n q)) := by
  by_cases h1 : g.val < 8
  · obtain ⟨j, e⟩ : ∃ j : Fin 8, g = ⟨0 + j.val, by omega⟩ := ⟨⟨g.val, h1⟩, Fin.ext (by show g.val = 0 + g.val; omega)⟩
    rw [e]
    exact ⟨_, fun k => laidG_0 w 1 k j, laidH_0 b 1 j, Ref.gates_0 p j n⟩
  by_cases h2 : g.val < 16
  · obtain ⟨j, e⟩ : ∃ j : Fin 8, g = ⟨8 + j.val, by omega⟩ := ⟨⟨g.val - 8, by omega⟩, Fin.ext (by show g.val = 8 + (g.val - 8); omega)⟩
    rw [e]
    exact ⟨_, fun k => laidG_1 w 1 k j, laidH_1 b 1 j, Ref.gates_1 p j n⟩
  by_cases h3 : g.val < 24
  · obtain ⟨j, e⟩ : ∃ j : Fin 8, g = ⟨16 + j.val, by omega⟩ := ⟨⟨g.val - 16, by omega⟩, Fin.ext (by show g.val = 16 + (g.val - 16); omega)⟩
    rw [e]
    exact ⟨_, fun k => laidG_2 w 1 k j, laidH_2 b 1 j, Ref.gates_2 p j n⟩
  obtain ⟨j, e⟩ : ∃ j : Fin 8, g = ⟨24 + j.val, by omega⟩ := ⟨⟨g.val - 24, by omega⟩, Fin.ext (by show g.val = 24 + (g.val - 24); omega)⟩
  rw [e]
  exact ⟨_, fun k => laidG_3 w 1 k j, laidH_3 b 1 j, Ref.gates_3 p j n⟩

section

/- A point's loaded blocks: a row's token, the laid-out weights and biases. -/
variable (X : FVec Ideal S32768x1024 .bf16) (W : FVec Ideal S4x1024x2576 .f32) (B : FVec Ideal S4x2576 .f32) (n : Fin 32768)
  (x : Vec Ideal S1024x1024 .bf16) (w : Vec Ideal S1024x3328 .bf16) (b : Vec Ideal S1x3328 .f32) (u : Vec Ideal S32x1024 .bf16) (v : Vec Ideal S32x1 .f32)
  (r : Fin 1024) (hx : ∀ k, x (ix2 r k) = X (ix2 n k)) (hw : ∀ k j, w (ix2 k j) = laidW W (ix3 1 k j)) (hb : ∀ j, b (ix2 0 j) = countedB B (ix2 1 j))
  (hu : ∀ g k, u (ix2 g k) = laidG W (ix3 1 k g)) (hv : ∀ g, v (ix2 g 0) = laidH B (ix2 1 g))

include hx hw hb in
/-- A place with one column, or none, and a plain bias. -/
theorem leaf (j : Fin 3328) (o : Col) (h : ∀ g : Fin 4, j.val ≠ 864 + 129 * g.val)
    (lw : ∀ k, laidW W (ix3 1 k j) = pick o (fun q => W (ix3 1 k q))) (lb : laidB B (ix2 1 j) = pick o (fun q => B (ix2 1 q))) :
    (∑ k, x (ix2 r k) * w (ix2 k j)) + b (ix2 0 j) = pick o (fun q => Ref.proj X W B (ix2 n q)) :=
  place X W B n o (fun k => x (ix2 r k)) (fun k => w (ix2 k j)) (b (ix2 0 j)) hx (fun k => (hw k j).trans (lw k))
    ((hb j).trans ((countedB_other B 1 j h).trans lb))

include hx hw hb in
theorem leaves5 (j : Fin 256) : out0_5 (F := Ideal) x w b u v (ix2 r j) = fourierArray (Ref.proj X W B) (ix2 n j) :=
  (out5_apply x w b u v r j).trans ((leaf X W B n x w b r hx hw hb ⟨0 + j.val, by omega⟩ _
    (fun g => by show 0 + j.val ≠ 864 + 129 * g.val; omega) (fun k => laidW_0 W 1 k j) (laidB_0 B 1 j)).trans (Ref.fourier_apply (Ref.proj X W B) n j).symm)

include hx hw hb in
theorem leaves6 (j : Fin 512) : out0_6 (F := Ideal) x w b u v (ix2 r j) = keysArray (Ref.proj X W B) (ix2 n j) :=
  (out6_apply x w b u v r j).trans ((leaf X W B n x w b r hx hw hb ⟨256 + j.val, by omega⟩ _
    (fun g => by show 256 + j.val ≠ 864 + 129 * g.val; omega) (fun k => keysW_cols W k j) (keysB_cols B j)).trans (Ref.keys_apply (Ref.proj X W B) n j).symm)

include hx hw hb in
theorem leaves7 (j : Fin 512) : out0_7 (F := Ideal) x w b u v (ix2 r j) = valuesArray (Ref.proj X W B) (ix2 n j) := by
  refine (out7_apply x w b u v r j).trans (Eq.trans ?_ (Ref.values_apply (Ref.proj X W B) n j).symm)
  have lw : ∀ k, w (ix2 k ⟨768 + j.val, by omega⟩) = pick (headCol 640 (by decide) j) (fun q => W (ix3 1 k q)) := fun k => (hw k _).trans (laidW_3 W 1 k j)
  have lb := (hb ⟨768 + j.val, by omega⟩).trans (countedB_value B 1 j)
  by_cases h : counts j
  · rw [if_pos h] at lb ⊢
    rw [headCol_counts 640 _ j h] at lw
    rw [lb]
    simp only [lw]
    exact sum_none (fun k => x (ix2 r k)) (fun k q => W (ix3 1 k q)) _
  · rw [if_neg h] at lb ⊢
    exact place X W B n _ (fun k => x (ix2 r k)) (fun k => w (ix2 k ⟨768 + j.val, by omega⟩)) _ hx lw lb

include hx hw hb in
theorem leaves8 (j : Fin 512) : out0_8 (F := Ideal) x w b u v (ix2 r j) = outerArray (Ref.proj X W B) (ix2 n j) :=
  (out8_apply x w b u v r j).trans ((leaf X W B n x w b r hx hw hb ⟨1280 + j.val, by omega⟩ _
    (fun g => by show 1280 + j.val ≠ 864 + 129 * g.val; omega) (fun k => laidW_4 W 1 k j) (laidB_4 B 1 j)).trans (Ref.heads1024_apply (Ref.proj X W B) n j).symm)

include hx hw hb in
theorem leaves9 (j : Fin 512) : out0_9 (F := Ideal) x w b u v (ix2 r j) = pairsArray (Ref.proj X W B) (ix2 n j) :=
  (out9_apply x w b u v r j).trans ((leaf X W B n x w b r hx hw hb ⟨1792 + j.val, by omega⟩ _
    (fun g => by show 1792 + j.val ≠ 864 + 129 * g.val; omega) (fun k => pairsW_cols W k j) (pairsB_cols B j)).trans (Ref.pairs_apply (Ref.proj X W B) n j).symm)

include hx hw hb in
theorem leaves10 (j : Fin 512) : out0_10 (F := Ideal) x w b u v (ix2 r j) = firstArray (Ref.proj X W B) (ix2 n j) :=
  (out10_apply x w b u v r j).trans ((leaf X W B n x w b r hx hw hb ⟨2304 + j.val, by omega⟩ _
    (fun g => by show 2304 + j.val ≠ 864 + 129 * g.val; omega) (fun k => laidW_7 W 1 k j) (laidB_7 B 1 j)).trans (Ref.heads1808_apply (Ref.proj X W B) n j).symm)

include hx hw hb in
theorem leaves11 (j : Fin 512) : out0_11 (F := Ideal) x w b u v (ix2 r j) = secondArray (Ref.proj X W B) (ix2 n j) :=
  (out11_apply x w b u v r j).trans ((leaf X W B n x w b r hx hw hb ⟨2816 + j.val, by omega⟩ _
    (fun g => by show 2816 + j.val ≠ 864 + 129 * g.val; omega) (fun k => laidW_8 W 1 k j) (laidB_8 B 1 j)).trans (Ref.heads2192_apply (Ref.proj X W B) n j).symm)

include hx hu hv in
theorem leaves12 (g : Fin 32) : out0_12 (F := Ideal) x w b u v (ix2 g r) = gatesArray (Ref.proj X W B) (ix2 g n) := by
  refine (out12_apply x w b u v g r).trans ?_
  obtain ⟨o, lw, lb, lr⟩ := gate_row W B (Ref.proj X W B) n g
  exact (place X W B n o (fun k => x (ix2 r k)) (fun k => u (ix2 g k)) (v (ix2 g 0)) hx (fun k => (hu g k).trans (lw k)) ((hv g).trans lb)).trans lr.symm

end

/-! ## The final arrays -/

/-- A token is a row of some point. -/
theorem token_surj256 (i : S32768x256.Idx) : ∃ (t : Fin grid0.N) (r : Fin 1024), ix2 (token t r) (i 1) = i := by
  have h0 : (i 0).val < 32768 := (i 0).isLt
  refine ⟨⟨(i 0).val / 1024, lt_of_lt_of_eq (by omega) N_0.symm⟩, ⟨(i 0).val % 1024, Nat.mod_lt _ (by decide)⟩, ?_⟩
  funext b
  apply Fin.ext
  match b with
  | ⟨0, _⟩ => show (i 0).val / 1024 * 1024 + (i 0).val % 1024 = (i 0).val; omega
  | ⟨1, _⟩ => rfl

/-- A token is a row of some point. -/
theorem token_surj512 (i : S32768x512.Idx) : ∃ (t : Fin grid0.N) (r : Fin 1024), ix2 (token t r) (i 1) = i := by
  have h0 : (i 0).val < 32768 := (i 0).isLt
  refine ⟨⟨(i 0).val / 1024, lt_of_lt_of_eq (by omega) N_0.symm⟩, ⟨(i 0).val % 1024, Nat.mod_lt _ (by decide)⟩, ?_⟩
  funext b
  apply Fin.ext
  match b with
  | ⟨0, _⟩ => show (i 0).val / 1024 * 1024 + (i 0).val % 1024 = (i 0).val; omega
  | ⟨1, _⟩ => rfl

theorem token_surj12 (i : S32x32768.Idx) : ∃ (t : Fin grid0.N) (r : Fin 1024), ix2 (i 0) (token t r) = i := by
  have h0 : (i 1).val < 32768 := (i 1).isLt
  refine ⟨⟨(i 1).val / 1024, lt_of_lt_of_eq (by omega) N_0.symm⟩, ⟨(i 1).val % 1024, Nat.mod_lt _ (by decide)⟩, ?_⟩
  funext b
  apply Fin.ext
  match b with
  | ⟨0, _⟩ => rfl
  | ⟨1, _⟩ => show (i 1).val / 1024 * 1024 + (i 1).val % 1024 = (i 1).val; omega

theorem emb5 (t : Fin grid0.N) (r : Fin 1024) (j : Fin 256) :
    (((cfg0.win 5).blk t).view.emb (ix2 r j : S1024x256.Idx) : S32768x256.Idx) = ix2 (token t r) j := by
  have hw := index_val t
  funext b
  apply Fin.ext
  match b with
  | ⟨0, _⟩ => show (BitVec.ofNat 32 ((grid0.coords t) 0).val).toNat * 1024 + 1 * r.val = t.val * 1024 + r.val; omega
  | ⟨1, _⟩ => show 0 * 256 + 1 * j.val = j.val; omega

theorem final5 (c : Dev nD) : (dats m 0 c).arrAt 5 cfg0.N = fourierArray (projected m c) := by
  refine (dats m 0 c).arrAt_eq_of_cover 5 (fourierArray (projected m c)) (fun t _ => ?_) (fun i => ?_)
  · rw [Value.flushed5]
    have key : ∀ y : S1024x256.Idx, out0_5 (F := Ideal) (iblk m c 0 t) (iblk m c 1 t) (iblk m c 2 t) (iblk m c 3 t) (iblk m c 4 t) y
        = ((cfg0.win 5).blk t).view.read (Elt Ideal) (fourierArray (projected m c)) y := fun y => by
      idx_vars y
      exact (leaves5 (argX m c) (argW m c) (argB m c) (token t _) (iblk m c 0 t) (iblk m c 1 t) (iblk m c 2 t) (iblk m c 3 t) (iblk m c 4 t) _ (blk0_apply m c t _) (blk1_apply m c t) (blk2_apply m c t) _).trans (congrArg (fourierArray (projected m c)) (emb5 t _ _)).symm
    funext y
    exact key y
  · obtain ⟨t, r, h⟩ := token_surj256 i
    exact ⟨t, flush0_5 t, ((emb5 t r (i 1)).trans h) ▸ View.emb_mem_set _ _⟩

theorem emb6 (t : Fin grid0.N) (r : Fin 1024) (j : Fin 512) :
    (((cfg0.win 6).blk t).view.emb (ix2 r j : S1024x512.Idx) : S32768x512.Idx) = ix2 (token t r) j := by
  have hw := index_val t
  funext b
  apply Fin.ext
  match b with
  | ⟨0, _⟩ => show (BitVec.ofNat 32 ((grid0.coords t) 0).val).toNat * 1024 + 1 * r.val = t.val * 1024 + r.val; omega
  | ⟨1, _⟩ => show 0 * 512 + 1 * j.val = j.val; omega

theorem final6 (c : Dev nD) : (dats m 0 c).arrAt 6 cfg0.N = keysArray (projected m c) := by
  refine (dats m 0 c).arrAt_eq_of_cover 6 (keysArray (projected m c)) (fun t _ => ?_) (fun i => ?_)
  · rw [Value.flushed6]
    have key : ∀ y : S1024x512.Idx, out0_6 (F := Ideal) (iblk m c 0 t) (iblk m c 1 t) (iblk m c 2 t) (iblk m c 3 t) (iblk m c 4 t) y
        = ((cfg0.win 6).blk t).view.read (Elt Ideal) (keysArray (projected m c)) y := fun y => by
      idx_vars y
      exact (leaves6 (argX m c) (argW m c) (argB m c) (token t _) (iblk m c 0 t) (iblk m c 1 t) (iblk m c 2 t) (iblk m c 3 t) (iblk m c 4 t) _ (blk0_apply m c t _) (blk1_apply m c t) (blk2_apply m c t) _).trans (congrArg (keysArray (projected m c)) (emb6 t _ _)).symm
    funext y
    exact key y
  · obtain ⟨t, r, h⟩ := token_surj512 i
    exact ⟨t, flush0_6 t, ((emb6 t r (i 1)).trans h) ▸ View.emb_mem_set _ _⟩

theorem emb7 (t : Fin grid0.N) (r : Fin 1024) (j : Fin 512) :
    (((cfg0.win 7).blk t).view.emb (ix2 r j : S1024x512.Idx) : S32768x512.Idx) = ix2 (token t r) j := by
  have hw := index_val t
  funext b
  apply Fin.ext
  match b with
  | ⟨0, _⟩ => show (BitVec.ofNat 32 ((grid0.coords t) 0).val).toNat * 1024 + 1 * r.val = t.val * 1024 + r.val; omega
  | ⟨1, _⟩ => show 0 * 512 + 1 * j.val = j.val; omega

theorem final7 (c : Dev nD) : (dats m 0 c).arrAt 7 cfg0.N = valuesArray (projected m c) := by
  refine (dats m 0 c).arrAt_eq_of_cover 7 (valuesArray (projected m c)) (fun t _ => ?_) (fun i => ?_)
  · rw [Value.flushed7]
    have key : ∀ y : S1024x512.Idx, out0_7 (F := Ideal) (iblk m c 0 t) (iblk m c 1 t) (iblk m c 2 t) (iblk m c 3 t) (iblk m c 4 t) y
        = ((cfg0.win 7).blk t).view.read (Elt Ideal) (valuesArray (projected m c)) y := fun y => by
      idx_vars y
      exact (leaves7 (argX m c) (argW m c) (argB m c) (token t _) (iblk m c 0 t) (iblk m c 1 t) (iblk m c 2 t) (iblk m c 3 t) (iblk m c 4 t) _ (blk0_apply m c t _) (blk1_apply m c t) (blk2_apply m c t) _).trans (congrArg (valuesArray (projected m c)) (emb7 t _ _)).symm
    funext y
    exact key y
  · obtain ⟨t, r, h⟩ := token_surj512 i
    exact ⟨t, flush0_7 t, ((emb7 t r (i 1)).trans h) ▸ View.emb_mem_set _ _⟩

theorem emb8 (t : Fin grid0.N) (r : Fin 1024) (j : Fin 512) :
    (((cfg0.win 8).blk t).view.emb (ix2 r j : S1024x512.Idx) : S32768x512.Idx) = ix2 (token t r) j := by
  have hw := index_val t
  funext b
  apply Fin.ext
  match b with
  | ⟨0, _⟩ => show (BitVec.ofNat 32 ((grid0.coords t) 0).val).toNat * 1024 + 1 * r.val = t.val * 1024 + r.val; omega
  | ⟨1, _⟩ => show 0 * 512 + 1 * j.val = j.val; omega

theorem final8 (c : Dev nD) : (dats m 0 c).arrAt 8 cfg0.N = outerArray (projected m c) := by
  refine (dats m 0 c).arrAt_eq_of_cover 8 (outerArray (projected m c)) (fun t _ => ?_) (fun i => ?_)
  · rw [Value.flushed8]
    have key : ∀ y : S1024x512.Idx, out0_8 (F := Ideal) (iblk m c 0 t) (iblk m c 1 t) (iblk m c 2 t) (iblk m c 3 t) (iblk m c 4 t) y
        = ((cfg0.win 8).blk t).view.read (Elt Ideal) (outerArray (projected m c)) y := fun y => by
      idx_vars y
      exact (leaves8 (argX m c) (argW m c) (argB m c) (token t _) (iblk m c 0 t) (iblk m c 1 t) (iblk m c 2 t) (iblk m c 3 t) (iblk m c 4 t) _ (blk0_apply m c t _) (blk1_apply m c t) (blk2_apply m c t) _).trans (congrArg (outerArray (projected m c)) (emb8 t _ _)).symm
    funext y
    exact key y
  · obtain ⟨t, r, h⟩ := token_surj512 i
    exact ⟨t, flush0_8 t, ((emb8 t r (i 1)).trans h) ▸ View.emb_mem_set _ _⟩

theorem emb9 (t : Fin grid0.N) (r : Fin 1024) (j : Fin 512) :
    (((cfg0.win 9).blk t).view.emb (ix2 r j : S1024x512.Idx) : S32768x512.Idx) = ix2 (token t r) j := by
  have hw := index_val t
  funext b
  apply Fin.ext
  match b with
  | ⟨0, _⟩ => show (BitVec.ofNat 32 ((grid0.coords t) 0).val).toNat * 1024 + 1 * r.val = t.val * 1024 + r.val; omega
  | ⟨1, _⟩ => show 0 * 512 + 1 * j.val = j.val; omega

theorem final9 (c : Dev nD) : (dats m 0 c).arrAt 9 cfg0.N = pairsArray (projected m c) := by
  refine (dats m 0 c).arrAt_eq_of_cover 9 (pairsArray (projected m c)) (fun t _ => ?_) (fun i => ?_)
  · rw [Value.flushed9]
    have key : ∀ y : S1024x512.Idx, out0_9 (F := Ideal) (iblk m c 0 t) (iblk m c 1 t) (iblk m c 2 t) (iblk m c 3 t) (iblk m c 4 t) y
        = ((cfg0.win 9).blk t).view.read (Elt Ideal) (pairsArray (projected m c)) y := fun y => by
      idx_vars y
      exact (leaves9 (argX m c) (argW m c) (argB m c) (token t _) (iblk m c 0 t) (iblk m c 1 t) (iblk m c 2 t) (iblk m c 3 t) (iblk m c 4 t) _ (blk0_apply m c t _) (blk1_apply m c t) (blk2_apply m c t) _).trans (congrArg (pairsArray (projected m c)) (emb9 t _ _)).symm
    funext y
    exact key y
  · obtain ⟨t, r, h⟩ := token_surj512 i
    exact ⟨t, flush0_9 t, ((emb9 t r (i 1)).trans h) ▸ View.emb_mem_set _ _⟩

theorem emb10 (t : Fin grid0.N) (r : Fin 1024) (j : Fin 512) :
    (((cfg0.win 10).blk t).view.emb (ix2 r j : S1024x512.Idx) : S32768x512.Idx) = ix2 (token t r) j := by
  have hw := index_val t
  funext b
  apply Fin.ext
  match b with
  | ⟨0, _⟩ => show (BitVec.ofNat 32 ((grid0.coords t) 0).val).toNat * 1024 + 1 * r.val = t.val * 1024 + r.val; omega
  | ⟨1, _⟩ => show 0 * 512 + 1 * j.val = j.val; omega

theorem final10 (c : Dev nD) : (dats m 0 c).arrAt 10 cfg0.N = firstArray (projected m c) := by
  refine (dats m 0 c).arrAt_eq_of_cover 10 (firstArray (projected m c)) (fun t _ => ?_) (fun i => ?_)
  · rw [Value.flushed10]
    have key : ∀ y : S1024x512.Idx, out0_10 (F := Ideal) (iblk m c 0 t) (iblk m c 1 t) (iblk m c 2 t) (iblk m c 3 t) (iblk m c 4 t) y
        = ((cfg0.win 10).blk t).view.read (Elt Ideal) (firstArray (projected m c)) y := fun y => by
      idx_vars y
      exact (leaves10 (argX m c) (argW m c) (argB m c) (token t _) (iblk m c 0 t) (iblk m c 1 t) (iblk m c 2 t) (iblk m c 3 t) (iblk m c 4 t) _ (blk0_apply m c t _) (blk1_apply m c t) (blk2_apply m c t) _).trans (congrArg (firstArray (projected m c)) (emb10 t _ _)).symm
    funext y
    exact key y
  · obtain ⟨t, r, h⟩ := token_surj512 i
    exact ⟨t, flush0_10 t, ((emb10 t r (i 1)).trans h) ▸ View.emb_mem_set _ _⟩

theorem emb11 (t : Fin grid0.N) (r : Fin 1024) (j : Fin 512) :
    (((cfg0.win 11).blk t).view.emb (ix2 r j : S1024x512.Idx) : S32768x512.Idx) = ix2 (token t r) j := by
  have hw := index_val t
  funext b
  apply Fin.ext
  match b with
  | ⟨0, _⟩ => show (BitVec.ofNat 32 ((grid0.coords t) 0).val).toNat * 1024 + 1 * r.val = t.val * 1024 + r.val; omega
  | ⟨1, _⟩ => show 0 * 512 + 1 * j.val = j.val; omega

theorem final11 (c : Dev nD) : (dats m 0 c).arrAt 11 cfg0.N = secondArray (projected m c) := by
  refine (dats m 0 c).arrAt_eq_of_cover 11 (secondArray (projected m c)) (fun t _ => ?_) (fun i => ?_)
  · rw [Value.flushed11]
    have key : ∀ y : S1024x512.Idx, out0_11 (F := Ideal) (iblk m c 0 t) (iblk m c 1 t) (iblk m c 2 t) (iblk m c 3 t) (iblk m c 4 t) y
        = ((cfg0.win 11).blk t).view.read (Elt Ideal) (secondArray (projected m c)) y := fun y => by
      idx_vars y
      exact (leaves11 (argX m c) (argW m c) (argB m c) (token t _) (iblk m c 0 t) (iblk m c 1 t) (iblk m c 2 t) (iblk m c 3 t) (iblk m c 4 t) _ (blk0_apply m c t _) (blk1_apply m c t) (blk2_apply m c t) _).trans (congrArg (secondArray (projected m c)) (emb11 t _ _)).symm
    funext y
    exact key y
  · obtain ⟨t, r, h⟩ := token_surj512 i
    exact ⟨t, flush0_11 t, ((emb11 t r (i 1)).trans h) ▸ View.emb_mem_set _ _⟩

theorem emb12 (t : Fin grid0.N) (g : Fin 32) (r : Fin 1024) :
    (((cfg0.win 12).blk t).view.emb (ix2 g r : S32x1024.Idx) : S32x32768.Idx) = ix2 g (token t r) := by
  have hw := index_val t
  funext b
  apply Fin.ext
  match b with
  | ⟨0, _⟩ => show 0 * 32 + 1 * g.val = g.val; omega
  | ⟨1, _⟩ => show (BitVec.ofNat 32 ((grid0.coords t) 0).val).toNat * 1024 + 1 * r.val = t.val * 1024 + r.val; omega

theorem final12 (c : Dev nD) : (dats m 0 c).arrAt 12 cfg0.N = gatesArray (projected m c) := by
  refine (dats m 0 c).arrAt_eq_of_cover 12 (gatesArray (projected m c)) (fun t _ => ?_) (fun i => ?_)
  · rw [Value.flushed12]
    have key : ∀ y : S32x1024.Idx, out0_12 (F := Ideal) (iblk m c 0 t) (iblk m c 1 t) (iblk m c 2 t) (iblk m c 3 t) (iblk m c 4 t) y
        = ((cfg0.win 12).blk t).view.read (Elt Ideal) (gatesArray (projected m c)) y := fun y => by
      idx_vars y
      exact (leaves12 (argX m c) (argW m c) (argB m c) (token t _) (iblk m c 0 t) (iblk m c 1 t) (iblk m c 2 t) (iblk m c 3 t) (iblk m c 4 t) _ (blk0_apply m c t _) (blk3_apply m c t) (blk4_apply m c t) _).trans (congrArg (gatesArray (projected m c)) (emb12 t _ _)).symm
    funext y
    exact key y
  · obtain ⟨t, r, h⟩ := token_surj12 i
    exact ⟨t, flush0_12 t, ((emb12 t (i 0) r).trans h) ▸ View.emb_mem_set _ _⟩

end Cert.Proof.Projection

end
-- ==== Proof.OutputRow.lean ====
/- One token of the output projection: two mixers' heads normalised and joined with the Fourier mixer's row, and what a sum over padded heads is.

   A head is 96 numbers; in the arrays that hold it it stands first in 128. -/
module

public import proofs.«01_k».proof.Proof.CombineRow

@[expose] public section

noncomputable section

namespace Cert.Proof.Output

open Idealize.ShloMosaic

/-- Where number `j` of head `h` stands in an array of padded heads. -/
abbrev lane (h : Fin 4) (j : Fin 96) : Fin 512 := ⟨h.val * 128 + j.val, by omega⟩

/-- Where it stands without the padding. -/
abbrev plain (h : Fin 4) (j : Fin 96) : Fin 384 := ⟨h.val * 96 + j.val, by omega⟩

/-- The mean of a head. -/
def headMean (z : Fin 96 → EReal) : EReal := Ideal.div (∑ j, z j) (Ideal.ofBits .f32 0x42C00000#32)

/-- A head less its mean. -/
def headCentred (z : Fin 96 → EReal) (j : Fin 96) : EReal := z j - headMean z

/-- A head normalised to mean zero and variance one. -/
def headNorm (z : Fin 96 → EReal) (j : Fin 96) : EReal :=
  headCentred z j * Ideal.rsqrt (headMean (fun i => headCentred z i * headCentred z i) + Ideal.ofBits .f32 0x3727C5AC#32)

/-- The first mixer's heads: the two directions' sum under the output gate, normalised and scaled. -/
def firstMixer (o f b : Fin 512 → EReal) (w : Fin 384 → EReal) (h : Fin 4) (j : Fin 96) : EReal :=
  headNorm (fun i => Ideal.logistic (o (lane h i)) * (f (lane h i) + b (lane h i))) j * w (plain h j)

/-- The second mixer's heads: the two directions' sum normalised, scaled and gated. -/
def secondMixer (g f b : Fin 512 → EReal) (w : Fin 384 → EReal) (h : Fin 4) (j : Fin 96) : EReal :=
  (g (lane h j) * Ideal.logistic (g (lane h j))) * (headNorm (fun i => f (lane h i) + b (lane h i)) j * w (plain h j))

/-- One column of the projection of the three mixers' numbers. -/
def mixed (y : Fin 256 → EReal) (a b : Fin 4 → Fin 96 → EReal) (w : Fin 1024 → EReal) : EReal :=
  (∑ k : Fin 256, y k * w ⟨k.val, by omega⟩) + (∑ h : Fin 4, ∑ j : Fin 96, a h j * w ⟨256 + (plain h j).val, by omega⟩)
    + ∑ h : Fin 4, ∑ j : Fin 96, b h j * w ⟨640 + (plain h j).val, by omega⟩

/-- The token's scaled row with the projection added. -/
def residual (x : Fin 1024 → EReal) (y : Fin 256 → EReal) (a b : Fin 4 → Fin 96 → EReal) (w : Fin 1024 → Fin 1024 → EReal) (d : Fin 1024) : EReal :=
  Ideal.ofBits .f32 0x3FD744FD#32 * x d + mixed y a b (fun k => w k d)

/-- The result's row. -/
def outRow (x : Fin 1024 → EReal) (y : Fin 256 → EReal) (a b : Fin 4 → Fin 96 → EReal) (w : Fin 1024 → Fin 1024 → EReal) (s t : Fin 1024 → EReal)
    (d : Fin 1024) : EReal :=
  Combine.normalised (residual x y a b w) d * s d + t d

/-- The reciprocal of 96 instead of the quotient by 96. -/
theorem div_96 (x : EReal) : Ideal.div x (Ideal.ofBits .f32 0x42C00000#32) = x * ((1 / 96 : ℝ) : EReal) := by
  have e : Ideal.ofBits .f32 0x42C00000#32 = ((96 : ℝ) : EReal) := by
    simp [Ideal.ofBits, Ideal.ieee, -EReal.coe_mul]; norm_num
  rw [e, Ideal.div_coe (by norm_num)]

/-- A sum over 256 numbers and two runs of heads. -/
theorem sum_runs {n : ℕ} (f : Fin (256 + 4 * n + 4 * n) → EReal) :
    ∑ k, f k = (∑ k : Fin 256, f ⟨k.val, by omega⟩) + (∑ h : Fin 4, ∑ j : Fin n, f ⟨256 + (h.val * n + j.val), by nlinarith [h.isLt, j.isLt]⟩)
      + ∑ h : Fin 4, ∑ j : Fin n, f ⟨256 + 4 * n + (h.val * n + j.val), by nlinarith [h.isLt, j.isLt]⟩ := by
  have heads : ∀ g : Fin (4 * n) → EReal, ∑ k, g k = ∑ h : Fin 4, ∑ j : Fin n, g ⟨h.val * n + j.val, by nlinarith [h.isLt, j.isLt]⟩ := fun g => by
    rw [← Equiv.sum_comp finProdFinEquiv g, Fintype.sum_prod_type]
    refine Finset.sum_congr rfl fun h _ => Finset.sum_congr rfl fun j _ => congrArg g (Fin.ext ?_)
    show j.val + n * h.val = h.val * n + j.val
    rw [Nat.mul_comm, Nat.add_comm]
  rw [Fin.sum_univ_add, Fin.sum_univ_add, heads, heads]
  rfl

/-- A sum over a padded head of numbers that are zero past the head. -/
theorem sum_padded (f : Fin 128 → EReal) (g : Fin 96 → EReal) (hin : ∀ j : Fin 96, f ⟨j.val, by omega⟩ = g j)
    (hout : ∀ j : Fin 128, ¬ j.val < 96 → f j = 0) : ∑ j, f j = ∑ j, g j := by
  have h : ∑ j : Fin (96 + 32), f j = ∑ j, g j := by
    rw [Fin.sum_univ_add, Finset.sum_eq_zero (s := Finset.univ) (f := fun j : Fin 32 => f (Fin.natAdd 96 j)) (fun j _ => hout _ (by simp)), add_zero]
    exact Finset.sum_congr rfl fun j _ => hin j
  exact h

/-- The projection of padded heads, the weights' rows zero past each head. -/
theorem sum_mixed (l v : Fin 1280 → EReal) (y : Fin 256 → EReal) (a b : Fin 4 → Fin 96 → EReal) (w : Fin 1024 → EReal)
    (hy : ∀ k : Fin 256, l ⟨k.val, by omega⟩ = y k) (ha : ∀ h j, l ⟨256 + (lane h j).val, by omega⟩ = a h j) (hb : ∀ h j, l ⟨768 + (lane h j).val, by omega⟩ = b h j)
    (wy : ∀ k : Fin 256, v ⟨k.val, by omega⟩ = w ⟨k.val, by omega⟩)
    (wa : ∀ h j, v ⟨256 + (lane h j).val, by omega⟩ = w ⟨256 + (plain h j).val, by omega⟩)
    (wb : ∀ h j, v ⟨768 + (lane h j).val, by omega⟩ = w ⟨640 + (plain h j).val, by omega⟩)
    (za : ∀ (h : Fin 4) (j : Fin 128), ¬ j.val < 96 → v ⟨256 + (h.val * 128 + j.val), by omega⟩ = 0)
    (zb : ∀ (h : Fin 4) (j : Fin 128), ¬ j.val < 96 → v ⟨768 + (h.val * 128 + j.val), by omega⟩ = 0) :
    ∑ k, l k * v k = mixed y a b w := by
  refine (sum_runs (n := 128) fun k => l k * v k).trans (congr (congrArg _ (congr (congrArg _ ?_) ?_)) ?_)
  · exact Finset.sum_congr rfl fun k _ => congr (congrArg _ (hy k)) (wy k)
  · refine Finset.sum_congr rfl fun h _ => sum_padded _ _ (fun j => congr (congrArg _ (ha h j)) (wa h j)) fun j hj => ?_
    exact (congrArg _ (za h j hj)).trans (mul_zero _)
  · refine Finset.sum_congr rfl fun h _ => sum_padded _ _ (fun j => congr (congrArg _ (hb h j)) (wb h j)) fun j hj => ?_
    exact (congrArg _ (zb h j hj)).trans (mul_zero _)

/-- The projection of the heads as they are. -/
theorem sum_plain (l w : Fin 1024 → EReal) (y : Fin 256 → EReal) (a b : Fin 4 → Fin 96 → EReal)
    (hy : ∀ k : Fin 256, l ⟨k.val, by omega⟩ = y k) (ha : ∀ h j, l ⟨256 + (plain h j).val, by omega⟩ = a h j)
    (hb : ∀ h j, l ⟨640 + (plain h j).val, by omega⟩ = b h j) : ∑ k, l k * w k = mixed y a b w := by
  refine (sum_runs (n := 96) fun k => l k * w k).trans (congr (congrArg _ (congr (congrArg _ ?_) ?_)) ?_)
  · exact Finset.sum_congr rfl fun k _ => congrArg (· * _) (hy k)
  · exact Finset.sum_congr rfl fun h _ => Finset.sum_congr rfl fun j _ => congrArg (· * _) (ha h j)
  · exact Finset.sum_congr rfl fun h _ => Finset.sum_congr rfl fun j _ => congrArg (· * _) (hb h j)

end Cert.Proof.Output

end
-- ==== Proof.OutputHost.lean ====
/- What the output projection's host code lays out: the weights' rows with each head's filled up to 128, and the norms' weights likewise.

   The definitions are the program's operations; each operand of the call is one of them (`weights_eq` and so on). -/
module

public import proofs.«01_k».proof.Proof.OutputRow
public import proofs.«01_k».proof.Proof.Gen.OutputIdeal.Value
public import Idealize.ShloMosaic.Lib.Pointwise
public import Idealize.ShloMosaic.Lib.StableHlo.RunRead

@[expose] public section

set_option maxRecDepth 16384

noncomputable section

namespace Cert.Proof.Output

open Cert.OutputIdeal Cert.OutputIdeal.Gen Idealize.ShloMosaic Idealize.ShloMosaic.TcCoe Idealize.SL.Sem

/-- The number that fills. -/
def filler : FVec Ideal S_ .f32 := sitofp .f32 (constantI S_ 32 0#32)

theorem filler_apply (i : S_.Idx) : filler i = 0 := by
  show ((((0#32 : BitVec 32).toInt : ℝ)) : EReal) = 0
  simp

/-- A norm's weights, each head's filled up to 128, of the layer. -/
def laidNorm (v : FVec Ideal S4x384 .f32) : FVec Ideal S1x512 .f32 :=
  shapeCast S1x512 (extractStridedSlice S1x1x512 ![1, 0, 0] (broadcastInDim S4x1x512 ![0, 2] bcast_S4x512_S4x1x512_0_2
    (shapeCast S4x512 (pad S4x4x128 ![0, 0, 0] ![0, 0, 32] ![0, 0, 0] (shapeCast S4x4x96 v shapeCasts_S4x384_S4x4x96) filler
      pads_S4x4x96_S4x4x128_000_000_0320 h_S_) shapeCasts_S4x4x128_S4x512) : FVec Ideal S4x1x512 .f32) slices_S4x1x512_S1x1x512_1_0_0)
    shapeCasts_S1x1x512_S1x512

/-- Four heads of 96 columns, each filled up to 128. -/
def headsW (v : FVec Ideal S4x1024x384 .f32) : FVec Ideal S4x1024x512 .f32 :=
  shapeCast S4x1024x512 (pad S4x1024x4x128 ![0, 0, 0, 0] ![0, 0, 0, 32] ![0, 0, 0, 0] (shapeCast S4x1024x4x96 v shapeCasts_S4x1024x384_S4x1024x4x96) filler
    pads_S4x1024x4x96_S4x1024x4x128_000_000_000_0320 h_S_) shapeCasts_S4x1024x4x128_S4x1024x512

/-- The three groups side by side. -/
def joinW (a : FVec Ideal S4x1024x256 .f32) (b c : FVec Ideal S4x1024x512 .f32) : FVec Ideal S4x1024x1280 .f32 :=
  concatenate S4x1024x1280 2 [⟨S4x1024x256, a⟩, ⟨S4x1024x512, b⟩, ⟨S4x1024x512, c⟩] concatenates_S4x1024x256_S4x1024x512_S4x1024x512_S4x1024x1280_d2

/-- What that operation leaves. -/
theorem joinW_result (F : Valuation τ sig (Elt Ideal)) (hxs hy) :
    (StableHlo.nary (τ := τ) ![main_v9, main_v13, main_v17] main_v18
      (fun u => (concatenate S4x1024x1280 2 [⟨S4x1024x256, (u 0 : (⟨S4x1024x256, .f32⟩ : BufTy).Contents (Elt Ideal))⟩, ⟨S4x1024x512, (u 1 : (⟨S4x1024x512, .f32⟩ : BufTy).Contents (Elt Ideal))⟩, ⟨S4x1024x512, (u 2 : (⟨S4x1024x512, .f32⟩ : BufTy).Contents (Elt Ideal))⟩] concatenates_S4x1024x256_S4x1024x512_S4x1024x512_S4x1024x1280_d2 : (⟨S4x1024x1280, .f32⟩ : BufTy).Contents (Elt Ideal))) hxs hy).result F (no_index (Proc.devRef .tc main_v18))
      = joinW (F (Proc.devRef .tc main_v9)) (F (Proc.devRef .tc main_v13)) (F (Proc.devRef .tc main_v17)) :=
  StableHlo.nary_result _ _ _ _ _ _

/-- The weights, a row per column of the result. -/
def turned (w : FVec Ideal S4x1024x1024 .f32) : FVec Ideal S4x1024x1024 .f32 :=
  transpose S4x1024x1024 [0, 2, 1] w transposes_S4x1024x1024_S4x1024x1024_0_2_1

/-- The weights as the call takes them. -/
def laidW (w : FVec Ideal S4x1024x1024 .f32) : FVec Ideal S1280x1024 .bf16 :=
  shapeCast S1280x1024 (extractStridedSlice S1x1280x1024 ![1, 0, 0] (truncf .bf16 (transpose S4x1280x1024 [0, 2, 1]
    (joinW (extractStridedSlice S4x1024x256 ![0, 0, 0] (turned w) slices_S4x1024x1024_S4x1024x256_0_0_0)
      (headsW (extractStridedSlice S4x1024x384 ![0, 0, 256] (turned w) slices_S4x1024x1024_S4x1024x384_0_0_256))
      (headsW (extractStridedSlice S4x1024x384 ![0, 0, 640] (turned w) slices_S4x1024x1024_S4x1024x384_0_0_640)))
    transposes_S4x1024x1280_S4x1280x1024_0_2_1 : FVec Ideal S4x1280x1024 .f32) bitsLt_bf16_f32 : FVec Ideal S4x1280x1024 .bf16)
    slices_S4x1280x1024_S1x1280x1024_1_0_0) shapeCasts_S1x1280x1024_S1280x1024

/-- The layer's row of a norm parameter. -/
def laidRow (p : FVec Ideal S4x1024 .f32) : FVec Ideal S1x1024 .f32 :=
  broadcastInDim S1x1024 ![1] bcast_S1024_S1x1024_1
    (shapeCast S1024 (extractStridedSlice S1x1024 ![1, 0] p slices_S4x1024_S1x1024_1_0) shapeCasts_S1x1024_S1024)

/-! ## The call's operands -/

variable (m : (ℓ : Loc nD τ sig) → Buf (Elt Ideal) ℓ)

theorem firstNorm_eq (c : Dev nD) : V m c main_v29 = laidNorm (m ((c : Thread nD τ).loc main_arg8)) := by
  unfold V
  simp only [List.flatten_cons, List.flatten_nil, List.append_nil]
  after_reads_simp
  rfl

theorem secondNorm_eq (c : Dev nD) : V m c main_v31 = laidNorm (m ((c : Thread nD τ).loc main_arg9)) := by
  unfold V
  simp only [List.flatten_cons, List.flatten_nil, List.append_nil]
  after_reads_simp
  rfl

theorem weights_eq (c : Dev nD) : V m c main_v33 = laidW (m ((c : Thread nD τ).loc main_arg10)) := by
  unfold V
  simp only [List.flatten_cons, List.flatten_nil, List.append_nil]
  after_reads_simp [↓ joinW_result]
  rfl

theorem scale_eq (c : Dev nD) : V m c main_v36 = laidRow (m ((c : Thread nD τ).loc main_arg11)) := by
  unfold V
  simp only [List.flatten_cons, List.flatten_nil, List.append_nil]
  after_reads_simp
  rfl

theorem shift_eq (c : Dev nD) : V m c main_v39 = laidRow (m ((c : Thread nD τ).loc main_arg12)) := by
  unfold V
  simp only [List.flatten_cons, List.flatten_nil, List.append_nil]
  after_reads_simp
  rfl

/-! ## The same, number by number -/

theorem laidNorm_apply (v : FVec Ideal S4x384 .f32) (h : Fin 4) (j : Fin 96) : laidNorm v (ix2 0 (lane h j)) = v (ix2 1 (plain h j)) := by
  have hd : (h.val * 128 + j.val) / 128 = h.val := by omega
  have hm : (h.val * 128 + j.val) % 128 = j.val := by omega
  have hj := j.isLt
  have hh := h.isLt
  pointwise [laidNorm, hd, hm, hj, hh]

theorem laidRow_apply (p : FVec Ideal S4x1024 .f32) (d : Fin 1024) : laidRow p (ix2 0 d) = p (ix2 1 d) := by
  pointwise [laidRow]

theorem headsW_apply (v : FVec Ideal S4x1024x384 .f32) (l : Fin 4) (k : Fin 1024) (j : Fin 512) :
    headsW v (ix3 l k j) = if h : j.val % 128 < 96 then v (ix3 l k ⟨j.val / 128 * 96 + j.val % 128, by omega⟩) else 0 := by
  have hd : j.val / 128 < 4 := by omega
  by_cases h : j.val % 128 < 96
  · rw [dif_pos h]; pointwise [headsW, h, hd]
  · rw [dif_neg h]; pointwise [headsW, h, hd, filler_apply]

theorem joinW_0 (a : FVec Ideal S4x1024x256 .f32) (b c : FVec Ideal S4x1024x512 .f32) (l : Fin 4) (k : Fin 1024) (j : Fin 256) :
    joinW a b c (ix3 l k ⟨j.val, by omega⟩) = a (ix3 l k j) := by
  unfold joinW
  exact concatenate_apply_piece (t := S4x1024x1280) (2 : Fin 3) _ _ _ 0 (by show 0 < 3; omega) S4x1024x256 a rfl rfl 0 rfl (ix3 l k j)
    (by intro b hb; match b, hb with | ⟨0, _⟩, _ => rfl | ⟨1, _⟩, _ => rfl | ⟨2, _⟩, hb => exact absurd rfl hb) (by show 0 + j.val = j.val; omega)

theorem joinW_1 (a : FVec Ideal S4x1024x256 .f32) (b c : FVec Ideal S4x1024x512 .f32) (l : Fin 4) (k : Fin 1024) (j : Fin 512) :
    joinW a b c (ix3 l k ⟨256 + j.val, by omega⟩) = b (ix3 l k j) := by
  unfold joinW
  exact concatenate_apply_piece (t := S4x1024x1280) (2 : Fin 3) _ _ _ 1 (by show 1 < 3; omega) S4x1024x512 b rfl rfl 256 rfl (ix3 l k j)
    (by intro b hb; match b, hb with | ⟨0, _⟩, _ => rfl | ⟨1, _⟩, _ => rfl | ⟨2, _⟩, hb => exact absurd rfl hb) rfl

theorem joinW_2 (a : FVec Ideal S4x1024x256 .f32) (b c : FVec Ideal S4x1024x512 .f32) (l : Fin 4) (k : Fin 1024) (j : Fin 512) :
    joinW a b c (ix3 l k ⟨768 + j.val, by omega⟩) = c (ix3 l k j) := by
  unfold joinW
  exact concatenate_apply_piece (t := S4x1024x1280) (2 : Fin 3) _ _ _ 2 (by show 2 < 3; omega) S4x1024x512 c rfl rfl 768 rfl (ix3 l k j)
    (by intro b hb; match b, hb with | ⟨0, _⟩, _ => rfl | ⟨1, _⟩, _ => rfl | ⟨2, _⟩, hb => exact absurd rfl hb) rfl

/-- A row of the weights as the call takes them is a column of the groups. -/
theorem laidW_row (w : FVec Ideal S4x1024x1024 .f32) (k : Fin 1280) (d : Fin 1024) :
    laidW w (ix2 k d) = joinW (extractStridedSlice S4x1024x256 ![0, 0, 0] (turned w) slices_S4x1024x1024_S4x1024x256_0_0_0)
      (headsW (extractStridedSlice S4x1024x384 ![0, 0, 256] (turned w) slices_S4x1024x1024_S4x1024x384_0_0_256))
      (headsW (extractStridedSlice S4x1024x384 ![0, 0, 640] (turned w) slices_S4x1024x1024_S4x1024x384_0_0_640)) (ix3 1 d k) := by
  unfold laidW
  generalize joinW _ _ _ = v
  pointwise

/-- The Fourier mixer's rows of the weights. -/
theorem laidW_0 (w : FVec Ideal S4x1024x1024 .f32) (k : Fin 256) (d : Fin 1024) : laidW w (ix2 ⟨k.val, by omega⟩ d) = w (ix3 1 ⟨k.val, by omega⟩ d) := by
  rw [laidW_row, joinW_0]
  pointwise [turned]

theorem laidW_1 (w : FVec Ideal S4x1024x1024 .f32) (j : Fin 512) (d : Fin 1024) :
    laidW w (ix2 ⟨256 + j.val, by omega⟩ d) = if h : j.val % 128 < 96 then w (ix3 1 ⟨256 + (j.val / 128 * 96 + j.val % 128), by omega⟩ d) else 0 := by
  rw [laidW_row, joinW_1, headsW_apply]
  split
  · pointwise [turned]
  · rfl

theorem laidW_2 (w : FVec Ideal S4x1024x1024 .f32) (j : Fin 512) (d : Fin 1024) :
    laidW w (ix2 ⟨768 + j.val, by omega⟩ d) = if h : j.val % 128 < 96 then w (ix3 1 ⟨640 + (j.val / 128 * 96 + j.val % 128), by omega⟩ d) else 0 := by
  rw [laidW_row, joinW_2, headsW_apply]
  split
  · pointwise [turned]
  · rfl

end Cert.Proof.Output

end
-- ==== Proof.OutputPayload.lean ====
/- The block the output projection's kernel stores, element by element.

   The definitions are the kernel's operations, one head's norm written once. -/
module

public import proofs.«01_k».proof.Proof.OutputRow
public import proofs.«01_k».proof.Proof.CombinePayload
public import proofs.«01_k».proof.Proof.Gen.OutputIdeal.Frame

@[expose] public section

set_option maxRecDepth 16384

noncomputable section

namespace Cert.Proof.Output

open Cert.OutputIdeal Cert.OutputIdeal.Gen Idealize.ShloMosaic

/-! ## One head -/

/-- The head's lanes, zeros in the others. -/
def kept (v : FVec Ideal S512x128 .f32) : FVec Ideal S512x128 .f32 :=
  select (broadcastTo S512x128 (shapeCast S1x128 k0_pay6 shapeCasts_S1x128_S1x128) broadcasts_S1x128_S512x128) v
    (broadcast S512x128 (Scalar.ofBits .f32 0x00000000#32))

/-- A row's sum scaled, in one column. -/
def scaledSum (v : FVec Ideal S512x128 .f32) : FVec Ideal S512x1 .f32 :=
  mulf (shapeCast S512x1 (multiReduction .add [1] S512 v 0x00000000#32 reduces_S512x128_S512 (.inl rfl) rfl) shapeCasts_S512_S512x1)
    (broadcast S512x1 (Named.named κ "part" 0x3C2AAAAB#32))

/-- The head less its mean. -/
def centre (v : FVec Ideal S512x128 .f32) : FVec Ideal S512x128 .f32 :=
  kept (subf v (broadcastTo S512x128 (scaledSum (kept v)) broadcasts_S512x1_S512x128))

/-- The head normalised. -/
def normal (v : FVec Ideal S512x128 .f32) : FVec Ideal S512x128 .f32 :=
  mulf (centre v) (broadcastTo S512x128 (rsqrt (addf (scaledSum (mulf (centre v) (centre v))) (broadcast S512x1 (Scalar.ofBits .f32 0x3727C5AC#32))))
    broadcasts_S512x1_S512x128)

/-- Four heads side by side. -/
def beside (a₀ a₁ a₂ a₃ : FVec Ideal S512x128 .f32) : FVec Ideal S512x512 .f32 :=
  concatenate S512x512 1 [⟨S512x128, a₀⟩, ⟨S512x128, a₁⟩, ⟨S512x128, a₂⟩, ⟨S512x128, a₃⟩] concatenates_S512x128_S512x128_S512x128_S512x128_S512x512_d1

/-- Four heads normalised and scaled. -/
def scaled (v : FVec Ideal S512x512 .f32) (g : FVec Ideal S1x512 .f32) : FVec Ideal S512x512 .f32 :=
  mulf (beside (normal (extractStridedSlice S512x128 ![0, 0] v slices_S512x512_o0_0_S512x128))
      (normal (extractStridedSlice S512x128 ![0, 128] v slices_S512x512_o0_128_S512x128))
      (normal (extractStridedSlice S512x128 ![0, 256] v slices_S512x512_o0_256_S512x128))
      (normal (extractStridedSlice S512x128 ![0, 384] v slices_S512x512_o0_384_S512x128)))
    (broadcastTo S512x512 (shapeCast S1x512 g shapeCasts_S1x512_S1x512) broadcasts_S1x512_S512x512)

/-- The three mixers' rows side by side. -/
def joined (y : FVec Ideal S512x256 .f32) (a b : FVec Ideal S512x512 .f32) : FVec Ideal S512x1280 .f32 :=
  concatenate S512x1280 1 [⟨S512x256, y⟩, ⟨S512x512, a⟩, ⟨S512x512, b⟩] concatenates_S512x256_S512x512_S512x512_S512x1280_d1

/-- The rows to normalise. -/
def sums (x : FVec Ideal S512x1024 .f32) (l : FVec Ideal S512x1280 .f32) (w : FVec Ideal S1280x1024 .bf16) : FVec Ideal S512x1024 .f32 :=
  addf (mulf (broadcast S512x1024 (Scalar.ofBits .f32 0x3FD744FD#32)) x)
    (matmul dot_S512x1280_S1280x1024_S512x1024_1_0_0_1_n_n none (truncf .bf16 l bitsLt_bf16_f32) (shapeCast S1280x1024 w shapeCasts_S1280x1024_S1280x1024)
      (constant S512x1024 .f32 0x00000000#32))

/-- The result's block. -/
def block (x : FVec Ideal S512x1024 .f32) (y : FVec Ideal S512x256 .f32) (hf hb mo rf rb rg : FVec Ideal S512x512 .bf16) (p q : FVec Ideal S1x512 .f32)
    (w : FVec Ideal S1280x1024 .bf16) (s t : FVec Ideal S1x1024 .f32) : FVec Ideal S512x1024 .f32 :=
  addf (mulf (Combine.normal (sums x (joined y (scaled (k0_pay4 mo hf hb) p) (mulf (k0_pay13 rg) (scaled (k0_pay14 rf rb) q))) w))
      (broadcastTo S512x1024 (shapeCast S1x1024 s shapeCasts_S1x1024_S1x1024) broadcasts_S1x1024_S512x1024))
    (broadcastTo S512x1024 (shapeCast S1x1024 t shapeCasts_S1x1024_S1x1024) broadcasts_S1x1024_S512x1024)

/-! ## One head, number by number -/

theorem part : Named.named (F := Ideal) κ "part" (φ := .f32) 0x3C2AAAAB#32 = ((1 / 96 : ℝ) : EReal) :=
  IdealRules.named_const.ideal_named_scalar _ _ _ _ rfl

theorem lane_mask : ∀ j : Fin 128, k0_pay6 (ix2 0 j : S1x128.Idx) = if j.val < 96 then 1#1 else 0#1 := by decide +kernel

theorem kept_apply (v : FVec Ideal S512x128 .f32) (r : Fin 512) (j : Fin 128) : kept v (ix2 r j) = if j.val < 96 then v (ix2 r j) else 0 := by
  have e := lane_mask j
  by_cases h : j.val < 96
  · rw [if_pos h] at e ⊢
    pointwise [kept, e]
  · rw [if_neg h] at e ⊢
    pointwise [kept, e]

theorem scaledSum_apply (v : FVec Ideal S512x128 .f32) (r : Fin 512) : scaledSum v (ix2 r 0) = (∑ j : Fin 128, v (ix2 r j)) * ((1 / 96 : ℝ) : EReal) := by
  rw [← part]
  pointwise [scaledSum]

/-- The head of a row of 128. -/
abbrev head (v : FVec Ideal S512x128 .f32) (r : Fin 512) (j : Fin 96) : EReal := v (ix2 r ⟨j.val, by omega⟩)

theorem scaledSum_mean (v : FVec Ideal S512x128 .f32) (z : Fin 96 → EReal) (r : Fin 512) (hin : ∀ j : Fin 96, v (ix2 r ⟨j.val, by omega⟩) = z j)
    (hout : ∀ j : Fin 128, ¬ j.val < 96 → v (ix2 r j) = 0) : scaledSum v (ix2 r 0) = headMean z := by
  rw [scaledSum_apply, headMean, div_96, sum_padded (fun j => v (ix2 r j)) z hin hout]

theorem centre_step (v : FVec Ideal S512x128 .f32) (r : Fin 512) (j : Fin 128) :
    centre v (ix2 r j) = if j.val < 96 then v (ix2 r j) - scaledSum (kept v) (ix2 r 0) else 0 := by
  unfold centre
  rw [kept_apply]
  refine if_congr Iff.rfl ?_ rfl
  generalize scaledSum (kept v) = s
  pointwise

theorem centre_apply (v : FVec Ideal S512x128 .f32) (r : Fin 512) (j : Fin 96) : centre v (ix2 r ⟨j.val, by omega⟩) = headCentred (head v r) j := by
  rw [centre_step, if_pos j.isLt, scaledSum_mean (kept v) (head v r) r (fun i => (kept_apply v r _).trans (if_pos i.isLt)) (fun i hi => (kept_apply v r i).trans (if_neg hi))]
  rfl

theorem centre_out (v : FVec Ideal S512x128 .f32) (r : Fin 512) (j : Fin 128) (h : ¬ j.val < 96) : centre v (ix2 r j) = 0 := by
  rw [centre_step, if_neg h]

theorem normal_apply (v : FVec Ideal S512x128 .f32) (r : Fin 512) (j : Fin 96) : normal v (ix2 r ⟨j.val, by omega⟩) = headNorm (head v r) j := by
  have sq : ∀ i : Fin 128, mulf (centre v) (centre v) (ix2 r i) = centre v (ix2 r i) * centre v (ix2 r i) := fun i => rfl
  have h := scaledSum_mean (mulf (centre v) (centre v)) (fun i => headCentred (head v r) i * headCentred (head v r) i) r
    (fun i => (sq _).trans (by rw [centre_apply])) (fun i hi => (sq _).trans (by rw [centre_out v r i hi, mul_zero]))
  unfold headNorm
  rw [← h, ← centre_apply]
  unfold normal
  generalize scaledSum _ = s
  generalize centre v = u
  pointwise

/-! ## The heads of a mixer -/

theorem beside_0 (a₀ a₁ a₂ a₃ : FVec Ideal S512x128 .f32) (r : Fin 512) (j : Fin 128) : beside a₀ a₁ a₂ a₃ (ix2 r ⟨0 * 128 + j.val, by omega⟩) = a₀ (ix2 r j) := by
  unfold beside
  exact concatenate_apply_piece (t := S512x512) (1 : Fin 2) _ _ _ 0 (by show 0 < 4; omega) S512x128 a₀ rfl rfl 0 rfl (ix2 r j)
    (by intro b hb; match b, hb with | ⟨0, _⟩, _ => rfl | ⟨1, _⟩, hb => exact absurd rfl hb) (by show 0 * 128 + j.val = 0 + j.val; omega)

theorem beside_1 (a₀ a₁ a₂ a₃ : FVec Ideal S512x128 .f32) (r : Fin 512) (j : Fin 128) : beside a₀ a₁ a₂ a₃ (ix2 r ⟨1 * 128 + j.val, by omega⟩) = a₁ (ix2 r j) := by
  unfold beside
  exact concatenate_apply_piece (t := S512x512) (1 : Fin 2) _ _ _ 1 (by show 1 < 4; omega) S512x128 a₁ rfl rfl 128 rfl (ix2 r j)
    (by intro b hb; match b, hb with | ⟨0, _⟩, _ => rfl | ⟨1, _⟩, hb => exact absurd rfl hb) (by show 1 * 128 + j.val = 128 + j.val; omega)

theorem beside_2 (a₀ a₁ a₂ a₃ : FVec Ideal S512x128 .f32) (r : Fin 512) (j : Fin 128) : beside a₀ a₁ a₂ a₃ (ix2 r ⟨2 * 128 + j.val, by omega⟩) = a₂ (ix2 r j) := by
  unfold beside
  exact concatenate_apply_piece (t := S512x512) (1 : Fin 2) _ _ _ 2 (by show 2 < 4; omega) S512x128 a₂ rfl rfl 256 rfl (ix2 r j)
    (by intro b hb; match b, hb with | ⟨0, _⟩, _ => rfl | ⟨1, _⟩, hb => exact absurd rfl hb) (by show 2 * 128 + j.val = 256 + j.val; omega)

theorem beside_3 (a₀ a₁ a₂ a₃ : FVec Ideal S512x128 .f32) (r : Fin 512) (j : Fin 128) : beside a₀ a₁ a₂ a₃ (ix2 r ⟨3 * 128 + j.val, by omega⟩) = a₃ (ix2 r j) := by
  unfold beside
  exact concatenate_apply_piece (t := S512x512) (1 : Fin 2) _ _ _ 3 (by show 3 < 4; omega) S512x128 a₃ rfl rfl 384 rfl (ix2 r j)
    (by intro b hb; match b, hb with | ⟨0, _⟩, _ => rfl | ⟨1, _⟩, hb => exact absurd rfl hb) (by show 3 * 128 + j.val = 384 + j.val; omega)

theorem beside_apply (a₀ a₁ a₂ a₃ : FVec Ideal S512x128 .f32) (r : Fin 512) (u : Fin 4 → Fin 96 → EReal) (h₀ : ∀ j, a₀ (ix2 r ⟨j.val, by omega⟩) = u 0 j)
    (h₁ : ∀ j, a₁ (ix2 r ⟨j.val, by omega⟩) = u 1 j) (h₂ : ∀ j, a₂ (ix2 r ⟨j.val, by omega⟩) = u 2 j) (h₃ : ∀ j, a₃ (ix2 r ⟨j.val, by omega⟩) = u 3 j)
    (h : Fin 4) (j : Fin 96) : beside a₀ a₁ a₂ a₃ (ix2 r (lane h j)) = u h j := by
  match h with
  | ⟨0, _⟩ => exact (beside_0 a₀ a₁ a₂ a₃ r ⟨j.val, by omega⟩).trans (h₀ j)
  | ⟨1, _⟩ => exact (beside_1 a₀ a₁ a₂ a₃ r ⟨j.val, by omega⟩).trans (h₁ j)
  | ⟨2, _⟩ => exact (beside_2 a₀ a₁ a₂ a₃ r ⟨j.val, by omega⟩).trans (h₂ j)
  | ⟨3, _⟩ => exact (beside_3 a₀ a₁ a₂ a₃ r ⟨j.val, by omega⟩).trans (h₃ j)

theorem slice_0 (v : FVec Ideal S512x512 .f32) (r : Fin 512) (j : Fin 128) :
    extractStridedSlice S512x128 ![0, 0] v slices_S512x512_o0_0_S512x128 (ix2 r j) = v (ix2 r ⟨0 * 128 + j.val, by omega⟩) := by
  pointwise

theorem slice_1 (v : FVec Ideal S512x512 .f32) (r : Fin 512) (j : Fin 128) :
    extractStridedSlice S512x128 ![0, 128] v slices_S512x512_o0_128_S512x128 (ix2 r j) = v (ix2 r ⟨1 * 128 + j.val, by omega⟩) := by
  pointwise

theorem slice_2 (v : FVec Ideal S512x512 .f32) (r : Fin 512) (j : Fin 128) :
    extractStridedSlice S512x128 ![0, 256] v slices_S512x512_o0_256_S512x128 (ix2 r j) = v (ix2 r ⟨2 * 128 + j.val, by omega⟩) := by
  pointwise

theorem slice_3 (v : FVec Ideal S512x512 .f32) (r : Fin 512) (j : Fin 128) :
    extractStridedSlice S512x128 ![0, 384] v slices_S512x512_o0_384_S512x128 (ix2 r j) = v (ix2 r ⟨3 * 128 + j.val, by omega⟩) := by
  pointwise

/-- Four heads normalised and scaled, from the numbers of a row and the weights of the heads' lanes. -/
theorem scaled_apply (v : FVec Ideal S512x512 .f32) (g : FVec Ideal S1x512 .f32) (r : Fin 512) (h : Fin 4) (j : Fin 96) :
    scaled v g (ix2 r (lane h j)) = headNorm (fun i => v (ix2 r (lane h i))) j * g (ix2 0 (lane h j)) := by
  have step : ∀ a : FVec Ideal S512x512 .f32,
      mulf a (broadcastTo S512x512 (shapeCast S1x512 g shapeCasts_S1x512_S1x512) broadcasts_S1x512_S512x512) (ix2 r (lane h j))
        = a (ix2 r (lane h j)) * g (ix2 0 (lane h j)) := fun a => by
    pointwise
  unfold scaled
  rw [step]
  refine congrArg (· * g (ix2 0 (lane h j))) ?_
  refine beside_apply _ _ _ _ r (fun h j => headNorm (fun i => v (ix2 r (lane h i))) j) (fun j => ?_) (fun j => ?_) (fun j => ?_) (fun j => ?_) h j
  · exact (normal_apply _ r j).trans (congrArg (fun z => headNorm z j) (funext fun i => slice_0 v r ⟨i.val, by omega⟩))
  · exact (normal_apply _ r j).trans (congrArg (fun z => headNorm z j) (funext fun i => slice_1 v r ⟨i.val, by omega⟩))
  · exact (normal_apply _ r j).trans (congrArg (fun z => headNorm z j) (funext fun i => slice_2 v r ⟨i.val, by omega⟩))
  · exact (normal_apply _ r j).trans (congrArg (fun z => headNorm z j) (funext fun i => slice_3 v r ⟨i.val, by omega⟩))

/-! ## The three mixers -/

theorem joined_0 (y : FVec Ideal S512x256 .f32) (a b : FVec Ideal S512x512 .f32) (r : Fin 512) (k : Fin 256) : joined y a b (ix2 r ⟨k.val, by omega⟩) = y (ix2 r k) := by
  unfold joined
  exact concatenate_apply_piece (t := S512x1280) (1 : Fin 2) _ _ _ 0 (by show 0 < 3; omega) S512x256 y rfl rfl 0 rfl (ix2 r k)
    (by intro b hb; match b, hb with | ⟨0, _⟩, _ => rfl | ⟨1, _⟩, hb => exact absurd rfl hb) (by show 0 + k.val = k.val; omega)

theorem joined_1 (y : FVec Ideal S512x256 .f32) (a b : FVec Ideal S512x512 .f32) (r k : Fin 512) : joined y a b (ix2 r ⟨256 + k.val, by omega⟩) = a (ix2 r k) := by
  unfold joined
  exact concatenate_apply_piece (t := S512x1280) (1 : Fin 2) _ _ _ 1 (by show 1 < 3; omega) S512x512 a rfl rfl 256 rfl (ix2 r k)
    (by intro b hb; match b, hb with | ⟨0, _⟩, _ => rfl | ⟨1, _⟩, hb => exact absurd rfl hb) rfl

theorem joined_2 (y : FVec Ideal S512x256 .f32) (a b : FVec Ideal S512x512 .f32) (r k : Fin 512) : joined y a b (ix2 r ⟨768 + k.val, by omega⟩) = b (ix2 r k) := by
  unfold joined
  exact concatenate_apply_piece (t := S512x1280) (1 : Fin 2) _ _ _ 2 (by show 2 < 3; omega) S512x512 b rfl rfl 768 rfl (ix2 r k)
    (by intro b hb; match b, hb with | ⟨0, _⟩, _ => rfl | ⟨1, _⟩, hb => exact absurd rfl hb) rfl

theorem sums_apply (x : FVec Ideal S512x1024 .f32) (l : FVec Ideal S512x1280 .f32) (w : FVec Ideal S1280x1024 .bf16) (r : Fin 512) (d : Fin 1024) :
    sums x l w (ix2 r d) = Ideal.ofBits .f32 0x3FD744FD#32 * x (ix2 r d) + ∑ k : Fin 1280, l (ix2 r k) * w (ix2 k d) := by
  pointwise [sums]

theorem gated_apply (o f b : FVec Ideal S512x512 .bf16) (r k : Fin 512) :
    k0_pay4 (F := Ideal) o f b (ix2 r k) = Ideal.logistic (o (ix2 r k)) * (f (ix2 r k) + b (ix2 r k)) := rfl

theorem swish_apply (g : FVec Ideal S512x512 .bf16) (r k : Fin 512) :
    k0_pay13 (F := Ideal) g (ix2 r k) = g (ix2 r k) * Ideal.logistic (g (ix2 r k)) := rfl

theorem both_apply (f b : FVec Ideal S512x512 .bf16) (r k : Fin 512) : k0_pay14 (F := Ideal) f b (ix2 r k) = f (ix2 r k) + b (ix2 r k) := rfl

/-- The result's block, from the rows a token's blocks hold and the operands that every token shares. -/
theorem block_apply (x : FVec Ideal S512x1024 .f32) (y : FVec Ideal S512x256 .f32) (hf hb mo rf rb rg : FVec Ideal S512x512 .bf16) (p q : FVec Ideal S1x512 .f32)
    (w : FVec Ideal S1280x1024 .bf16) (s t : FVec Ideal S1x1024 .f32) (r : Fin 512) (d : Fin 1024)
    (P Q : Fin 384 → EReal) (W : Fin 1024 → Fin 1024 → EReal) (hp : ∀ h j, p (ix2 0 (lane h j)) = P (plain h j)) (hq : ∀ h j, q (ix2 0 (lane h j)) = Q (plain h j))
    (wy : ∀ (k : Fin 256) d, w (ix2 ⟨k.val, by omega⟩ d) = W ⟨k.val, by omega⟩ d)
    (wa : ∀ h j d, w (ix2 ⟨256 + (lane h j).val, by omega⟩ d) = W ⟨256 + (plain h j).val, by omega⟩ d)
    (wb : ∀ h j d, w (ix2 ⟨768 + (lane h j).val, by omega⟩ d) = W ⟨640 + (plain h j).val, by omega⟩ d)
    (za : ∀ (h : Fin 4) (j : Fin 128) d, ¬ j.val < 96 → w (ix2 ⟨256 + (h.val * 128 + j.val), by omega⟩ d) = 0)
    (zb : ∀ (h : Fin 4) (j : Fin 128) d, ¬ j.val < 96 → w (ix2 ⟨768 + (h.val * 128 + j.val), by omega⟩ d) = 0) :
    block x y hf hb mo rf rb rg p q w s t (ix2 r d)
      = outRow (fun d => x (ix2 r d)) (fun k => y (ix2 r k))
          (firstMixer (fun k => mo (ix2 r k)) (fun k => hf (ix2 r k)) (fun k => hb (ix2 r k)) P)
          (secondMixer (fun k => rg (ix2 r k)) (fun k => rf (ix2 r k)) (fun k => rb (ix2 r k)) Q) W (fun d => s (ix2 0 d)) (fun d => t (ix2 0 d)) d := by
  have step : ∀ v : FVec Ideal S512x1024 .f32,
      addf (mulf v (broadcastTo S512x1024 (shapeCast S1x1024 s shapeCasts_S1x1024_S1x1024) broadcasts_S1x1024_S512x1024))
        (broadcastTo S512x1024 (shapeCast S1x1024 t shapeCasts_S1x1024_S1x1024) broadcasts_S1x1024_S512x1024) (ix2 r d)
        = v (ix2 r d) * s (ix2 0 d) + t (ix2 0 d) := fun v => by
    pointwise
  unfold block outRow
  rw [step, Combine.normal_apply]
  refine congrArg (fun z => Combine.normalised z d * s (ix2 0 d) + t (ix2 0 d)) (funext fun e => ?_)
  rw [sums_apply]
  unfold residual
  refine congrArg (Ideal.ofBits .f32 0x3FD744FD#32 * x (ix2 r e) + ·) ?_
  refine sum_mixed _ (fun k => w (ix2 k e)) _ _ _ (fun k => W k e) (fun k => joined_0 _ _ _ r k) (fun h j => ?_) (fun h j => ?_) (fun k => wy k e) (fun h j => wa h j e)
    (fun h j => wb h j e) (fun h j hj => za h j e hj) (fun h j hj => zb h j e hj)
  · rw [joined_1, scaled_apply, hp]
    rfl
  · rw [joined_2]
    refine (congrArg (k0_pay13 (F := Ideal) rg (ix2 r (lane h j)) * ·) (scaled_apply _ q r h j)).trans ?_
    rw [hq]
    rfl

/-- What the kernel stores in the first result's block is `block`. -/
theorem payload_eq (x : FVec Ideal S512x1024 .f32) (y : FVec Ideal S512x256 .f32) (hf hb mo rf rb rg : FVec Ideal S512x512 .bf16) (p q : FVec Ideal S1x512 .f32)
    (w : FVec Ideal S1280x1024 .bf16) (s t : FVec Ideal S1x1024 .f32) :
    k0_pay1 (F := Ideal)
      (k0_pay25 (k0_pay12 (k0_pay4 mo hf hb) (k0_pay5 p) k0_pay6 (k0_pay7 mo hf hb)
          (k0_pay10 k0_pay6 (k0_pay8 mo hf hb) (Scalar.ofBits .f32 0x00000000#32) k0_pay9) (k0_pay11 (k0_pay4 mo hf hb) k0_pay6))
        (k0_pay13 rg) (k0_pay15 q) (k0_pay18 k0_pay16 (k0_pay17 rf rb) (Scalar.ofBits .f32 0x00000000#32))
        (k0_pay21 (k0_pay19 (k0_pay14 rf rb) k0_pay16) (k0_pay20 (k0_pay14 rf rb) k0_pay16)) (k0_pay22 (k0_pay14 rf rb) k0_pay16)
        (k0_pay23 (k0_pay14 rf rb) k0_pay16) (k0_pay24 (k0_pay14 rf rb) k0_pay16) y w x s) (k0_pay26 t)
      = block x y hf hb mo rf rb rg p q w s t := rfl

end Cert.Proof.Output

end
-- ==== Proof.OutputReference.lean ====
/- The output projection's reference, element by element. -/
module

public import proofs.«01_k».proof.Proof.OutputRow
public import proofs.«01_k».proof.Proof.CombineReference
public import proofs.«01_k».proof.Proof.Gen.OutputReferenceIdeal.Run

@[expose] public section

set_option maxRecDepth 16384

noncomputable section

namespace Cert.Proof.Output.Ref

open Cert.OutputReferenceIdeal Cert.OutputReferenceIdeal.Gen Idealize.ShloMosaic Idealize.ShloMosaic.TcCoe

/-- The heads of an array of padded heads. -/
def heads (a : FVec Ideal S32768x512 .bf16) : FVec Ideal S32768x4x96 .f32 :=
  extractStridedSlice S32768x4x96 ![0, 0, 0] (shapeCast S32768x4x128 (extf .f32 a bitsLt_bf16_f32 : FVec Ideal S32768x512 .f32) shapeCasts_S32768x512_S32768x4x128)
    slices_S32768x4x128_S32768x4x96_0_0_0

/-- A one everywhere. -/
def ones : FVec Ideal S32768x4x96 .f32 := broadcastInDim S32768x4x96 ![] bcast_S_S32768x4x96 (constant S_ .f32 0x3F800000#32)

/-- The logistic function, written out. -/
def sigmoid (z : FVec Ideal S32768x4x96 .f32) : FVec Ideal S32768x4x96 .f32 := Host.divf ones (addf ones (Host.exp (Host.negf z)))

/-- A head's mean, in one column. -/
def means (z : FVec Ideal S32768x4x96 .f32) : FVec Ideal S32768x4x1 .f32 :=
  Host.divf (broadcastInDim S32768x4x1 ![0, 1] bcast_S32768x4_S32768x4x1_0_1 (Host.reduceAdd z (constant S_ .f32 0x00000000#32) reducesTo_S32768x4x96_S32768x4_d2 h_S_))
    (broadcastInDim S32768x4x1 ![] bcast_S_S32768x4x1 (constant S_ .f32 0x42C00000#32))

/-- The heads less their means. -/
def centre (z : FVec Ideal S32768x4x96 .f32) : FVec Ideal S32768x4x96 .f32 :=
  subf z (broadcastInDim S32768x4x96 ![0, 1, 2] bcast_S32768x4x1_S32768x4x96_0_1_2 (means z))

/-- The heads normalised. -/
def normal (z : FVec Ideal S32768x4x96 .f32) : FVec Ideal S32768x4x96 .f32 :=
  mulf (centre z) (broadcastInDim S32768x4x96 ![0, 1, 2] bcast_S32768x4x1_S32768x4x96_0_1_2
    (Host.rsqrt (addf (means (mulf (centre z) (centre z))) (broadcastInDim S32768x4x1 ![] bcast_S_S32768x4x1 (constant S_ .f32 0x3727C5AC#32)))))

/-- The heads normalised, side by side, and scaled. -/
def scaled (z : FVec Ideal S32768x4x96 .f32) (p : FVec Ideal S4x384 .f32) : FVec Ideal S32768x384 .f32 :=
  mulf (shapeCast S32768x384 (normal z) shapeCasts_S32768x4x96_S32768x384)
    (broadcastInDim S32768x384 ![0, 1] bcast_S1x384_S32768x384_0_1 (broadcastInDim S1x384 ![1] bcast_S384_S1x384_1
      (shapeCast S384 (extractStridedSlice S1x384 ![1, 0] p slices_S4x384_S1x384_1_0) shapeCasts_S1x384_S384)))

/-- The first mixer's heads. -/
def first (hf hb mo : FVec Ideal S32768x512 .bf16) (p : FVec Ideal S4x384 .f32) : FVec Ideal S32768x384 .f32 :=
  scaled (mulf (sigmoid (heads mo)) (addf (heads hf) (heads hb))) p

/-- The second mixer's heads. -/
def second (rf rb rg : FVec Ideal S32768x512 .bf16) (q : FVec Ideal S4x384 .f32) : FVec Ideal S32768x384 .f32 :=
  mulf (shapeCast S32768x384 (mulf (heads rg) (sigmoid (heads rg))) shapeCasts_S32768x4x96_S32768x384) (scaled (addf (heads rf) (heads rb)) q)

/-- The three mixers' rows side by side. -/
def joined (y : FVec Ideal S32768x256 .f32) (a b : FVec Ideal S32768x384 .f32) : FVec Ideal S32768x1024 .f32 :=
  concatenate S32768x1024 1 [⟨S32768x256, y⟩, ⟨S32768x384, a⟩, ⟨S32768x384, b⟩] concatenates_S32768x256_S32768x384_S32768x384_S32768x1024_d1

/-- The rows to normalise. -/
def sums (x : FVec Ideal S32768x1024 .f32) (l : FVec Ideal S32768x1024 .f32) (w : FVec Ideal S4x1024x1024 .f32) : FVec Ideal S32768x1024 .f32 :=
  addf (mulf (broadcastInDim S32768x1024 ![] bcast_S_S32768x1024 (constant S_ .f32 0x3FD744FD#32)) x)
    (Host.dotGeneral dot_S32768x1024_S1024x1024_S32768x1024_1_0_0_1_n_n none l
      (shapeCast S1024x1024 (extractStridedSlice S1x1024x1024 ![1, 0, 0] w slices_S4x1024x1024_S1x1024x1024_1_0_0) shapeCasts_S1x1024x1024_S1024x1024))

/-- The layer's row of a norm parameter, along the tokens. -/
def layerRow (p : FVec Ideal S4x1024 .f32) : FVec Ideal S32768x1024 .f32 :=
  broadcastInDim S32768x1024 ![0, 1] bcast_S1x1024_S32768x1024_0_1 (broadcastInDim S1x1024 ![1] bcast_S1024_S1x1024_1
    (shapeCast S1024 (extractStridedSlice S1x1024 ![1, 0] p slices_S4x1024_S1x1024_1_0) shapeCasts_S1x1024_S1024))

/-- The reference's first result as one term of its arguments; the second is this one rounded. -/
def array (x : FVec Ideal S32768x1024 .f32) (y : FVec Ideal S32768x256 .f32) (hf hb mo rf rb rg : FVec Ideal S32768x512 .bf16) (p q : FVec Ideal S4x384 .f32)
    (w : FVec Ideal S4x1024x1024 .f32) (s t : FVec Ideal S4x1024 .f32) : FVec Ideal S32768x1024 .f32 :=
  addf (mulf (Combine.Ref.normal (sums x (joined y (first hf hb mo p) (second rf rb rg q)) w)) (layerRow s)) (layerRow t)

/-- The same of a memory's arguments. -/
def ofArgs (m : (ℓ : Loc nD τ sig) → Buf (Elt Ideal) ℓ) (c : Dev nD) : FVec Ideal S32768x1024 .f32 :=
  array (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12))

theorem first_eq (m : (ℓ : Loc nD τ sig) → Buf (Elt Ideal) ℓ) (c : Dev nD) : Cert.OutputReferenceIdeal.Value.res_main_v112 m c = ofArgs m c := by
  unfold Cert.OutputReferenceIdeal.Value.res_main_v112
  rfl

theorem second_eq (m : (ℓ : Loc nD τ sig) → Buf (Elt Ideal) ℓ) (c : Dev nD) :
    Cert.OutputReferenceIdeal.Value.res_main_v113 m c = truncf .bf16 (ofArgs m c) bitsLt_bf16_f32 := by
  unfold Cert.OutputReferenceIdeal.Value.res_main_v113
  rfl

/-! ## Number by number -/

theorem heads_apply (a : FVec Ideal S32768x512 .bf16) (n : Fin 32768) (h : Fin 4) (j : Fin 96) : heads a (ix3 n h j) = a (ix2 n (lane h j)) := by
  pointwise [heads]

theorem sigmoid_apply (z : FVec Ideal S32768x4x96 .f32) (n : Fin 32768) (h : Fin 4) (j : Fin 96) : sigmoid z (ix3 n h j) = Ideal.logistic (z (ix3 n h j)) := by
  unfold Ideal.logistic
  pointwise [sigmoid, ones]

/-- The gate of a head. -/
theorem sigmoid_apply_heads (a : FVec Ideal S32768x512 .bf16) (n : Fin 32768) (h : Fin 4) (j : Fin 96) :
    sigmoid (heads a) (ix3 n h j) = Ideal.logistic (a (ix2 n (lane h j))) := by
  rw [sigmoid_apply, heads_apply]

theorem means_apply (z : FVec Ideal S32768x4x96 .f32) (n : Fin 32768) (h : Fin 4) : means z (ix3 n h 0) = headMean fun j => z (ix3 n h j) := by
  unfold headMean
  pointwise [means]

theorem centre_apply (z : FVec Ideal S32768x4x96 .f32) (n : Fin 32768) (h : Fin 4) (j : Fin 96) : centre z (ix3 n h j) = headCentred (fun j => z (ix3 n h j)) j := by
  unfold headCentred
  rw [← means_apply]
  pointwise [centre]

theorem normal_apply (z : FVec Ideal S32768x4x96 .f32) (n : Fin 32768) (h : Fin 4) (j : Fin 96) : normal z (ix3 n h j) = headNorm (fun j => z (ix3 n h j)) j := by
  have e : means (mulf (centre z) (centre z)) (ix3 n h 0) = headMean fun k => headCentred (fun j => z (ix3 n h j)) k * headCentred (fun j => z (ix3 n h j)) k := by
    rw [means_apply]
    refine congrArg headMean (funext fun k => ?_)
    rw [← centre_apply]
    pointwise
  unfold headNorm
  rw [← e, ← centre_apply]
  pointwise [normal]

theorem beside_apply (z : FVec Ideal S32768x4x96 .f32) (n : Fin 32768) (h : Fin 4) (j : Fin 96) :
    shapeCast S32768x384 z shapeCasts_S32768x4x96_S32768x384 (ix2 n (plain h j)) = z (ix3 n h j) := by
  have hd : (h.val * 96 + j.val) / 96 = h.val := by omega
  have hm : (h.val * 96 + j.val) % 96 = j.val := by omega
  pointwise [hd, hm]

theorem scaled_apply (z : FVec Ideal S32768x4x96 .f32) (p : FVec Ideal S4x384 .f32) (n : Fin 32768) (h : Fin 4) (j : Fin 96) :
    scaled z p (ix2 n (plain h j)) = headNorm (fun j => z (ix3 n h j)) j * p (ix2 1 (plain h j)) := by
  rw [← normal_apply, ← beside_apply (normal z)]
  unfold scaled
  generalize shapeCast S32768x384 (normal z) _ = v
  pointwise

theorem first_apply (hf hb mo : FVec Ideal S32768x512 .bf16) (p : FVec Ideal S4x384 .f32) (n : Fin 32768) (h : Fin 4) (j : Fin 96) :
    first hf hb mo p (ix2 n (plain h j))
      = firstMixer (fun k => mo (ix2 n k)) (fun k => hf (ix2 n k)) (fun k => hb (ix2 n k)) (fun k => p (ix2 1 k)) h j := by
  unfold first firstMixer
  rw [scaled_apply]
  refine congrArg (fun z => headNorm z j * p (ix2 1 (plain h j))) (funext fun i => ?_)
  show sigmoid (heads mo) (ix3 n h i) * (heads hf (ix3 n h i) + heads hb (ix3 n h i)) = _
  rw [sigmoid_apply_heads, heads_apply, heads_apply]

theorem second_apply (rf rb rg : FVec Ideal S32768x512 .bf16) (q : FVec Ideal S4x384 .f32) (n : Fin 32768) (h : Fin 4) (j : Fin 96) :
    second rf rb rg q (ix2 n (plain h j))
      = secondMixer (fun k => rg (ix2 n k)) (fun k => rf (ix2 n k)) (fun k => rb (ix2 n k)) (fun k => q (ix2 1 k)) h j := by
  have e : second rf rb rg q (ix2 n (plain h j))
      = shapeCast S32768x384 (mulf (heads rg) (sigmoid (heads rg))) shapeCasts_S32768x4x96_S32768x384 (ix2 n (plain h j))
        * scaled (addf (heads rf) (heads rb)) q (ix2 n (plain h j)) := rfl
  unfold secondMixer
  rw [e, beside_apply, scaled_apply]
  refine congr (congrArg _ ?_) (congrArg (fun z => headNorm z j * q (ix2 1 (plain h j))) (funext fun i => ?_))
  · show heads rg (ix3 n h j) * sigmoid (heads rg) (ix3 n h j) = _
    rw [sigmoid_apply_heads, heads_apply]
  · show heads rf (ix3 n h i) + heads rb (ix3 n h i) = _
    rw [heads_apply, heads_apply]

theorem joined_0 (y : FVec Ideal S32768x256 .f32) (a b : FVec Ideal S32768x384 .f32) (n : Fin 32768) (k : Fin 256) :
    joined y a b (ix2 n ⟨k.val, by omega⟩) = y (ix2 n k) := by
  unfold joined
  exact concatenate_apply_piece (t := S32768x1024) (1 : Fin 2) _ _ _ 0 (by show 0 < 3; omega) S32768x256 y rfl rfl 0 rfl (ix2 n k)
    (by intro b hb; match b, hb with | ⟨0, _⟩, _ => rfl | ⟨1, _⟩, hb => exact absurd rfl hb) (by show 0 + k.val = k.val; omega)

theorem joined_1 (y : FVec Ideal S32768x256 .f32) (a b : FVec Ideal S32768x384 .f32) (n : Fin 32768) (k : Fin 384) :
    joined y a b (ix2 n ⟨256 + k.val, by omega⟩) = a (ix2 n k) := by
  unfold joined
  exact concatenate_apply_piece (t := S32768x1024) (1 : Fin 2) _ _ _ 1 (by show 1 < 3; omega) S32768x384 a rfl rfl 256 rfl (ix2 n k)
    (by intro b hb; match b, hb with | ⟨0, _⟩, _ => rfl | ⟨1, _⟩, hb => exact absurd rfl hb) rfl

theorem joined_2 (y : FVec Ideal S32768x256 .f32) (a b : FVec Ideal S32768x384 .f32) (n : Fin 32768) (k : Fin 384) :
    joined y a b (ix2 n ⟨640 + k.val, by omega⟩) = b (ix2 n k) := by
  unfold joined
  exact concatenate_apply_piece (t := S32768x1024) (1 : Fin 2) _ _ _ 2 (by show 2 < 3; omega) S32768x384 b rfl rfl 640 rfl (ix2 n k)
    (by intro b hb; match b, hb with | ⟨0, _⟩, _ => rfl | ⟨1, _⟩, hb => exact absurd rfl hb) rfl

theorem sums_apply (x l : FVec Ideal S32768x1024 .f32) (w : FVec Ideal S4x1024x1024 .f32) (n : Fin 32768) (d : Fin 1024) :
    sums x l w (ix2 n d) = Ideal.ofBits .f32 0x3FD744FD#32 * x (ix2 n d) + ∑ k : Fin 1024, l (ix2 n k) * w (ix3 1 k d) := by
  pointwise [sums]

theorem layerRow_apply (p : FVec Ideal S4x1024 .f32) (n : Fin 32768) (d : Fin 1024) : layerRow p (ix2 n d) = p (ix2 1 d) := by
  pointwise [layerRow]

theorem array_apply (x : FVec Ideal S32768x1024 .f32) (y : FVec Ideal S32768x256 .f32) (hf hb mo rf rb rg : FVec Ideal S32768x512 .bf16) (p q : FVec Ideal S4x384 .f32)
    (w : FVec Ideal S4x1024x1024 .f32) (s t : FVec Ideal S4x1024 .f32) (n : Fin 32768) (d : Fin 1024) :
    array x y hf hb mo rf rb rg p q w s t (ix2 n d)
      = outRow (fun d => x (ix2 n d)) (fun k => y (ix2 n k))
          (firstMixer (fun k => mo (ix2 n k)) (fun k => hf (ix2 n k)) (fun k => hb (ix2 n k)) (fun k => p (ix2 1 k)))
          (secondMixer (fun k => rg (ix2 n k)) (fun k => rf (ix2 n k)) (fun k => rb (ix2 n k)) (fun k => q (ix2 1 k))) (fun k d => w (ix3 1 k d))
          (fun d => s (ix2 1 d)) (fun d => t (ix2 1 d)) d := by
  have h : ∀ v u z : FVec Ideal S32768x1024 .f32, addf (mulf v u) z (ix2 n d) = v (ix2 n d) * u (ix2 n d) + z (ix2 n d) := fun v u z => rfl
  unfold array outRow
  rw [h, Combine.Ref.normal_apply, layerRow_apply, layerRow_apply]
  refine congrArg (fun z => Combine.normalised z d * s (ix2 1 d) + t (ix2 1 d)) (funext fun e => ?_)
  rw [sums_apply]
  unfold residual
  refine congrArg (Ideal.ofBits .f32 0x3FD744FD#32 * x (ix2 n e) + ·) ?_
  exact sum_plain (fun k => joined y (first hf hb mo p) (second rf rb rg q) (ix2 n k)) (fun k => w (ix3 1 k e)) _ _ _ (fun k => joined_0 _ _ _ n k)
    (fun h j => (joined_1 _ _ _ n (plain h j)).trans (first_apply hf hb mo p n h j)) (fun h j => (joined_2 _ _ _ n (plain h j)).trans (second_apply rf rb rg q n h j))

end Cert.Proof.Output.Ref

end
-- ==== Proof.OutputValue.lean ====
/- The output projection's kernel, read at the extended reals: its results are the reference's arrays.

   Point `t` of the grid handles tokens `t * 512` to `t * 512 + 511`. -/
module

public import proofs.«01_k».proof.Proof.OutputHost
public import proofs.«01_k».proof.Proof.OutputPayload
public import proofs.«01_k».proof.Proof.OutputReference
public import proofs.«01_k».proof.Proof.Gen.OutputIdeal.Value
public import Idealize.ShloMosaic.Lib.Pipeline.ValueKit.Basic

@[expose] public section

set_option maxRecDepth 16384

noncomputable section

namespace Cert.Proof.Output

open Cert.OutputIdeal Cert.OutputIdeal.Gen Idealize.ShloMosaic Idealize.ShloMosaic.TcCoe Idealize.SL.Sem

variable (m : (ℓ : Loc nD τ sig) → Buf (Elt Ideal) ℓ)

theorem coord_val : ∀ t : Fin grid0.N, ((grid0.coords t) 0).val = t.val := by decide +kernel

theorem lt_64 (t : Fin grid0.N) : t.val < 64 := lt_of_lt_of_eq t.isLt N_0

/-- The first axis' block index of the blocks that move with the grid. -/
theorem index_val (t : Fin grid0.N) : (BitVec.ofNat 32 ((grid0.coords t) 0).val).toNat = t.val := by
  rw [coord_val, BitVec.toNat_ofNat, Nat.mod_eq_of_lt]
  have := lt_64 t; omega

/-- Row `r` of point `t`'s tokens. -/
abbrev token (t : Fin grid0.N) (r : Fin 512) : Fin 32768 := ⟨t.val * 512 + r.val, by have := lt_64 t; omega⟩

/-- A place in a block that moves with the grid. -/
theorem at_token {n : Nat} (t : Fin grid0.N) (r : Fin 512) (d : Fin n) (i : (⟨2, ![32768, n]⟩ : Shape).Idx)
    (h0 : (i 0).val = (BitVec.ofNat 32 ((grid0.coords t) 0).val).toNat * 512 + 1 * r.val) (h1 : (i 1).val = 0 * n + 1 * d.val) : i = ix2 (token t r) d := by
  rw [index_val] at h0
  funext b
  apply Fin.ext
  match b with
  | ⟨0, _⟩ => show (i 0).val = t.val * 512 + r.val; omega
  | ⟨1, _⟩ => show (i 1).val = d.val; omega

/-- A place in a block that is the whole array. -/
theorem at_whole {k n : Nat} (r : Fin k) (d : Fin n) (i : (⟨2, ![k, n]⟩ : Shape).Idx) (h0 : (i 0).val = 0 * k + 1 * r.val) (h1 : (i 1).val = 0 * n + 1 * d.val) :
    i = ix2 r d := by
  funext b
  apply Fin.ext
  match b with
  | ⟨0, _⟩ => show (i 0).val = r.val; omega
  | ⟨1, _⟩ => show (i 1).val = d.val; omega

/-! ## The blocks a point loads -/

theorem blk0_apply (c : Dev nD) (t : Fin grid0.N) (r : Fin 512) (d : Fin 1024) :
    (iblk m c 0 t : Vec Ideal S512x1024 .f32) (ix2 r d) = (m ((c : Thread nD τ).loc main_arg0) : Vec Ideal S32768x1024 .f32) (ix2 (token t r) d) :=
  (congrArg (V m c main_arg0 : Vec Ideal S32768x1024 .f32) (at_token t r d _ rfl rfl)).trans (congrFun (V_main_arg0 m c) _)

theorem blk1_apply (c : Dev nD) (t : Fin grid0.N) (r : Fin 512) (d : Fin 256) :
    (iblk m c 1 t : Vec Ideal S512x256 .f32) (ix2 r d) = (m ((c : Thread nD τ).loc main_arg1) : Vec Ideal S32768x256 .f32) (ix2 (token t r) d) :=
  (congrArg (V m c main_arg1 : Vec Ideal S32768x256 .f32) (at_token t r d _ rfl rfl)).trans (congrFun (V_main_arg1 m c) _)

theorem blk2_apply (c : Dev nD) (t : Fin grid0.N) (r : Fin 512) (d : Fin 512) :
    (iblk m c 2 t : Vec Ideal S512x512 .bf16) (ix2 r d) = (m ((c : Thread nD τ).loc main_arg2) : Vec Ideal S32768x512 .bf16) (ix2 (token t r) d) :=
  (congrArg (V m c main_arg2 : Vec Ideal S32768x512 .bf16) (at_token t r d _ rfl rfl)).trans (congrFun (V_main_arg2 m c) _)

theorem blk3_apply (c : Dev nD) (t : Fin grid0.N) (r : Fin 512) (d : Fin 512) :
    (iblk m c 3 t : Vec Ideal S512x512 .bf16) (ix2 r d) = (m ((c : Thread nD τ).loc main_arg3) : Vec Ideal S32768x512 .bf16) (ix2 (token t r) d) :=
  (congrArg (V m c main_arg3 : Vec Ideal S32768x512 .bf16) (at_token t r d _ rfl rfl)).trans (congrFun (V_main_arg3 m c) _)

theorem blk4_apply (c : Dev nD) (t : Fin grid0.N) (r : Fin 512) (d : Fin 512) :
    (iblk m c 4 t : Vec Ideal S512x512 .bf16) (ix2 r d) = (m ((c : Thread nD τ).loc main_arg4) : Vec Ideal S32768x512 .bf16) (ix2 (token t r) d) :=
  (congrArg (V m c main_arg4 : Vec Ideal S32768x512 .bf16) (at_token t r d _ rfl rfl)).trans (congrFun (V_main_arg4 m c) _)

theorem blk5_apply (c : Dev nD) (t : Fin grid0.N) (r : Fin 512) (d : Fin 512) :
    (iblk m c 5 t : Vec Ideal S512x512 .bf16) (ix2 r d) = (m ((c : Thread nD τ).loc main_arg5) : Vec Ideal S32768x512 .bf16) (ix2 (token t r) d) :=
  (congrArg (V m c main_arg5 : Vec Ideal S32768x512 .bf16) (at_token t r d _ rfl rfl)).trans (congrFun (V_main_arg5 m c) _)

theorem blk6_apply (c : Dev nD) (t : Fin grid0.N) (r : Fin 512) (d : Fin 512) :
    (iblk m c 6 t : Vec Ideal S512x512 .bf16) (ix2 r d) = (m ((c : Thread nD τ).loc main_arg6) : Vec Ideal S32768x512 .bf16) (ix2 (token t r) d) :=
  (congrArg (V m c main_arg6 : Vec Ideal S32768x512 .bf16) (at_token t r d _ rfl rfl)).trans (congrFun (V_main_arg6 m c) _)

theorem blk7_apply (c : Dev nD) (t : Fin grid0.N) (r : Fin 512) (d : Fin 512) :
    (iblk m c 7 t : Vec Ideal S512x512 .bf16) (ix2 r d) = (m ((c : Thread nD τ).loc main_arg7) : Vec Ideal S32768x512 .bf16) (ix2 (token t r) d) :=
  (congrArg (V m c main_arg7 : Vec Ideal S32768x512 .bf16) (at_token t r d _ rfl rfl)).trans (congrFun (V_main_arg7 m c) _)

theorem blk8_apply (c : Dev nD) (t : Fin grid0.N) (r : Fin 1) (d : Fin 512) :
    (iblk m c 8 t : Vec Ideal S1x512 .f32) (ix2 r d) = laidNorm (m ((c : Thread nD τ).loc main_arg8)) (ix2 r d) :=
  (congrArg (V m c main_v29 : Vec Ideal S1x512 .f32) (at_whole r d _ rfl rfl)).trans (congrFun (firstNorm_eq m c) _)

theorem blk9_apply (c : Dev nD) (t : Fin grid0.N) (r : Fin 1) (d : Fin 512) :
    (iblk m c 9 t : Vec Ideal S1x512 .f32) (ix2 r d) = laidNorm (m ((c : Thread nD τ).loc main_arg9)) (ix2 r d) :=
  (congrArg (V m c main_v31 : Vec Ideal S1x512 .f32) (at_whole r d _ rfl rfl)).trans (congrFun (secondNorm_eq m c) _)

theorem blk10_apply (c : Dev nD) (t : Fin grid0.N) (r : Fin 1280) (d : Fin 1024) :
    (iblk m c 10 t : Vec Ideal S1280x1024 .bf16) (ix2 r d) = laidW (m ((c : Thread nD τ).loc main_arg10)) (ix2 r d) :=
  (congrArg (V m c main_v33 : Vec Ideal S1280x1024 .bf16) (at_whole r d _ rfl rfl)).trans (congrFun (weights_eq m c) _)

theorem blk11_apply (c : Dev nD) (t : Fin grid0.N) (r : Fin 1) (d : Fin 1024) :
    (iblk m c 11 t : Vec Ideal S1x1024 .f32) (ix2 r d) = laidRow (m ((c : Thread nD τ).loc main_arg11)) (ix2 r d) :=
  (congrArg (V m c main_v36 : Vec Ideal S1x1024 .f32) (at_whole r d _ rfl rfl)).trans (congrFun (scale_eq m c) _)

theorem blk12_apply (c : Dev nD) (t : Fin grid0.N) (r : Fin 1) (d : Fin 1024) :
    (iblk m c 12 t : Vec Ideal S1x1024 .f32) (ix2 r d) = laidRow (m ((c : Thread nD τ).loc main_arg12)) (ix2 r d) :=
  (congrArg (V m c main_v39 : Vec Ideal S1x1024 .f32) (at_whole r d _ rfl rfl)).trans (congrFun (shift_eq m c) _)

/-! ## The block a point leaves -/

/-- The first result's block, from the blocks a point loads. -/
theorem out_eq (x : Vec Ideal S512x1024 .f32) (y : Vec Ideal S512x256 .f32) (hf hb mo rf rb rg : Vec Ideal S512x512 .bf16) (p q : Vec Ideal S1x512 .f32)
    (w : Vec Ideal S1280x1024 .bf16) (s t : Vec Ideal S1x1024 .f32) (u v : Vec Ideal S1024x128 .bf16) (z : Vec Ideal S1x128 .f32) :
    out0_16 (F := Ideal) x y hf hb mo rf rb rg p q w s t u v z = block x y hf hb mo rf rb rg p q w s t := by
  refine Eq.trans ?_ (payload_eq x y hf hb mo rf rb rg p q w s t)
  unfold out0_16 k0_pay32 k0_pay31 k0_pay30 k0_pay29 k0_pay28 k0_pay27
  rw [View.canon_cons_unit_lit _ _ _ (by decide), View.ld_unit_lit _ x (by decide), View.ld_unit_lit _ y (by decide), View.ld_unit_lit _ hf (by decide),
    View.ld_unit_lit _ hb (by decide), View.ld_unit_lit _ mo (by decide), View.ld_unit_lit _ rf (by decide), View.ld_unit_lit _ rb (by decide),
    View.ld_unit_lit _ rg (by decide), View.ld_unit_lit _ p (by decide), View.ld_unit_lit _ q (by decide), View.ld_unit_lit _ w (by decide),
    View.ld_unit_lit _ s (by decide), View.ld_unit_lit _ t (by decide)]

/-- The second result's block is the first's, rounded. -/
theorem out_rounded (x : Vec Ideal S512x1024 .f32) (y : Vec Ideal S512x256 .f32) (hf hb mo rf rb rg : Vec Ideal S512x512 .bf16) (p q : Vec Ideal S1x512 .f32)
    (w : Vec Ideal S1280x1024 .bf16) (s t : Vec Ideal S1x1024 .f32) (u v : Vec Ideal S1024x128 .bf16) (z : Vec Ideal S1x128 .f32) :
    out0_17 (F := Ideal) x y hf hb mo rf rb rg p q w s t u v z
      = (truncf .bf16 (out0_16 (F := Ideal) x y hf hb mo rf rb rg p q w s t u v z : FVec Ideal S512x1024 .f32) bitsLt_bf16_f32 : FVec Ideal S512x1024 .bf16) := by
  unfold out0_17 out0_16
  rw [View.canon_cons_unit_lit _ _ _ (by decide), View.canon_cons_unit_lit _ _ _ (by decide)]
  rfl

/-- A row of a mixer's group in the weights, and the lane of the group it is. -/
theorem lane_split (h : Fin 4) (j : Fin 128) : (h.val * 128 + j.val) / 128 = h.val ∧ (h.val * 128 + j.val) % 128 = j.val := by omega

/-- The block from the program's operands: `block_apply` with the norms, the weights and the rows laid out. -/
theorem block_laid (x : Vec Ideal S512x1024 .f32) (y : Vec Ideal S512x256 .f32) (hf hb mo rf rb rg : Vec Ideal S512x512 .bf16) (p q : Vec Ideal S1x512 .f32)
    (w : Vec Ideal S1280x1024 .bf16) (s t : Vec Ideal S1x1024 .f32) (P Q : FVec Ideal S4x384 .f32) (W : FVec Ideal S4x1024x1024 .f32) (S T : FVec Ideal S4x1024 .f32)
    (hp : ∀ k, p (ix2 0 k) = laidNorm P (ix2 0 k)) (hq : ∀ k, q (ix2 0 k) = laidNorm Q (ix2 0 k)) (hw : ∀ k d, w (ix2 k d) = laidW W (ix2 k d))
    (hs : ∀ d, s (ix2 0 d) = laidRow S (ix2 0 d)) (ht : ∀ d, t (ix2 0 d) = laidRow T (ix2 0 d)) (r : Fin 512) (d : Fin 1024) :
    block x y hf hb mo rf rb rg p q w s t (ix2 r d)
      = outRow (fun d => x (ix2 r d)) (fun k => y (ix2 r k))
          (firstMixer (fun k => mo (ix2 r k)) (fun k => hf (ix2 r k)) (fun k => hb (ix2 r k)) (fun k => P (ix2 1 k)))
          (secondMixer (fun k => rg (ix2 r k)) (fun k => rf (ix2 r k)) (fun k => rb (ix2 r k)) (fun k => Q (ix2 1 k))) (fun k d => W (ix3 1 k d))
          (fun d => S (ix2 1 d)) (fun d => T (ix2 1 d)) d := by
  have hs' : (fun d => s (ix2 0 d)) = fun d => S (ix2 1 d) := funext fun d => (hs d).trans (laidRow_apply S d)
  have ht' : (fun d => t (ix2 0 d)) = fun d => T (ix2 1 d) := funext fun d => (ht d).trans (laidRow_apply T d)
  rw [← hs', ← ht']
  refine block_apply x y hf hb mo rf rb rg p q w s t r d (fun k => P (ix2 1 k)) (fun k => Q (ix2 1 k)) (fun k d => W (ix3 1 k d))
    (fun h j => (hp _).trans (laidNorm_apply P h j)) (fun h j => (hq _).trans (laidNorm_apply Q h j)) (fun k d => (hw _ d).trans (laidW_0 W k d))
    (fun h j d => ?_) (fun h j d => ?_) (fun h j d hj => ?_) (fun h j d hj => ?_)
  · obtain ⟨e1, e2⟩ := lane_split h ⟨j.val, by omega⟩
    refine (hw _ d).trans ((laidW_1 W (lane h j) d).trans ((dif_pos (lt_of_eq_of_lt e2 j.isLt)).trans (congrArg (fun i => W (ix3 1 i d)) (Fin.ext ?_))))
    show 256 + ((h.val * 128 + j.val) / 128 * 96 + (h.val * 128 + j.val) % 128) = 256 + (h.val * 96 + j.val)
    omega
  · obtain ⟨e1, e2⟩ := lane_split h ⟨j.val, by omega⟩
    refine (hw _ d).trans ((laidW_2 W (lane h j) d).trans ((dif_pos (lt_of_eq_of_lt e2 j.isLt)).trans (congrArg (fun i => W (ix3 1 i d)) (Fin.ext ?_))))
    show 640 + ((h.val * 128 + j.val) / 128 * 96 + (h.val * 128 + j.val) % 128) = 640 + (h.val * 96 + j.val)
    omega
  · exact (hw _ d).trans ((laidW_1 W ⟨h.val * 128 + j.val, by omega⟩ d).trans (dif_neg fun k => hj (lt_of_eq_of_lt (lane_split h j).2.symm k)))
  · exact (hw _ d).trans ((laidW_2 W ⟨h.val * 128 + j.val, by omega⟩ d).trans (dif_neg fun k => hj (lt_of_eq_of_lt (lane_split h j).2.symm k)))

/-! ## The result arrays -/

/-- The reference's array of the kernel's arguments. -/
def array (c : Dev nD) : Vec Ideal S32768x1024 .f32 :=
  Ref.array (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The same array rounded. -/
def rounded (c : Dev nD) : Vec Ideal S32768x1024 .bf16 := (truncf .bf16 (array m c : FVec Ideal S32768x1024 .f32) bitsLt_bf16_f32 : FVec Ideal S32768x1024 .bf16)

/-- The first result's block at point `t`. -/
abbrev left (c : Dev nD) (t : Fin grid0.N) : Vec Ideal S512x1024 .f32 :=
  out0_16 (F := Ideal) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)

/-- The second result's block at point `t`. -/
abbrev leftRounded (c : Dev nD) (t : Fin grid0.N) : Vec Ideal S512x1024 .bf16 :=
  out0_17 (F := Ideal) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)

/-- Point `t` leaves block `t` of that array. -/
theorem leaves (c : Dev nD) (t : Fin grid0.N) (r : Fin 512) (d : Fin 1024) : left m c t (ix2 r d) = array m c (ix2 (token t r) d) := by
  refine (congrFun (out_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)) (ix2 r d)).trans ?_
  refine (block_laid (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)
    (m ((c : Thread nD τ).loc main_arg8)) (m ((c : Thread nD τ).loc main_arg9)) (m ((c : Thread nD τ).loc main_arg10))
    (m ((c : Thread nD τ).loc main_arg11)) (m ((c : Thread nD τ).loc main_arg12))
    (fun k => blk8_apply m c t 0 k) (fun k => blk9_apply m c t 0 k) (fun k d => blk10_apply m c t k d) (fun d => blk11_apply m c t 0 d) (fun d => blk12_apply m c t 0 d)
    r d).trans (Eq.trans ?_ (Ref.array_apply _ _ _ _ _ _ _ _ _ _ _ _ _ _ _).symm)
  simp only [blk0_apply m c t, blk1_apply m c t, blk2_apply m c t, blk3_apply m c t, blk4_apply m c t, blk5_apply m c t, blk6_apply m c t, blk7_apply m c t]

/-- Equal numbers are equal rounded. -/
theorem rounded_at (v : FVec Ideal S512x1024 .f32) (a : FVec Ideal S32768x1024 .f32) (i : S512x1024.Idx) (j : S32768x1024.Idx) (h : v i = a j) :
    (truncf .bf16 v bitsLt_bf16_f32 : FVec Ideal S512x1024 .bf16) i = (truncf .bf16 a bitsLt_bf16_f32 : FVec Ideal S32768x1024 .bf16) j :=
  congrArg (FloatOps.truncf (F := Ideal) (φ := .f32) .bf16 bitsLt_bf16_f32) h

/-- The rounded block likewise. -/
theorem leaves_rounded (c : Dev nD) (t : Fin grid0.N) (r : Fin 512) (d : Fin 1024) : leftRounded m c t (ix2 r d) = rounded m c (ix2 (token t r) d) := by
  have e := congrFun (out_rounded (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)) (ix2 r d)
  exact e.trans (rounded_at (left m c t) (array m c) _ _ (leaves m c t r d))

theorem emb16 (t : Fin grid0.N) (r : Fin 512) (d : Fin 1024) :
    (((cfg0.win 16).blk t).view.emb (ix2 r d : S512x1024.Idx) : S32768x1024.Idx) = ix2 (token t r) d := at_token t r d _ rfl rfl

theorem emb17 (t : Fin grid0.N) (r : Fin 512) (d : Fin 1024) :
    (((cfg0.win 17).blk t).view.emb (ix2 r d : S512x1024.Idx) : S32768x1024.Idx) = ix2 (token t r) d := at_token t r d _ rfl rfl

/-- A token is a row of some point. -/
theorem token_surj (i : S32768x1024.Idx) : ∃ (t : Fin grid0.N) (r : Fin 512), ix2 (token t r) (i 1) = i := by
  have h0 : (i 0).val < 32768 := (i 0).isLt
  refine ⟨⟨(i 0).val / 512, lt_of_lt_of_eq (by omega) N_0.symm⟩, ⟨(i 0).val % 512, Nat.mod_lt _ (by decide)⟩, ?_⟩
  funext b
  apply Fin.ext
  match b with
  | ⟨0, _⟩ => show (i 0).val / 512 * 512 + (i 0).val % 512 = (i 0).val; omega
  | ⟨1, _⟩ => rfl

/-- The first result array. -/
theorem final16 (c : Dev nD) : (dats m 0 c).arrAt 16 cfg0.N = array m c := by
  refine (dats m 0 c).arrAt_eq_of_cover 16 (array m c) (fun t _ => ?_) (fun i => ?_)
  · rw [Value.flushed16]
    have key : ∀ y : S512x1024.Idx, left m c t y = ((cfg0.win 16).blk t).view.read (Elt Ideal) (array m c) y := fun y => by
      idx_vars y
      exact (leaves m c t _ _).trans (congrArg (array m c) (emb16 t _ _)).symm
    funext y
    exact key y
  · obtain ⟨t, r, h⟩ := token_surj i
    exact ⟨t, flush0_16 t, ((emb16 t r (i 1)).trans h) ▸ View.emb_mem_set _ _⟩

/-- The second result array. -/
theorem final17 (c : Dev nD) : (dats m 0 c).arrAt 17 cfg0.N = rounded m c := by
  refine (dats m 0 c).arrAt_eq_of_cover 17 (rounded m c) (fun t _ => ?_) (fun i => ?_)
  · rw [Value.flushed17]
    have key : ∀ y : S512x1024.Idx, leftRounded m c t y = ((cfg0.win 17).blk t).view.read (Elt Ideal) (rounded m c) y := fun y => by
      idx_vars y
      exact (leaves_rounded m c t _ _).trans (congrArg (rounded m c) (emb17 t _ _)).symm
    funext y
    exact key y
  · obtain ⟨t, r, h⟩ := token_surj i
    exact ⟨t, flush0_17 t, ((emb17 t r (i 1)).trans h) ▸ View.emb_mem_set _ _⟩

end Cert.Proof.Output

end
-- ==== Proof.lean ====
/- The certificate: four calls of the layers, the input projection, the output projection with the first norm, the routed experts,
   and the second norm with its combination of the experts' rows, each as the kernel computes it and as the reference writes it.

   Each kernel runs and keeps its arguments, as printed and read at the extended reals (Proof/Frames.lean). A reference is a
   line of host operations: it keeps its arguments, and its results are arrays of the arguments (Proof/Reference.lean, Proof/CombineReference.lean,
   Proof/ProjectionReference.lean, Proof/OutputReference.lean). Read at the extended reals the kernel's results are those arrays
   (Proof/Value.lean, Proof/CombineValue.lean, Proof/ProjectionValue.lean, Proof/OutputValue.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_experts_in_range
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.Output
public import proofs.«01_k».proof.Proof.Gen.Output.Frame
public import proofs.«01_k».proof.Proof.Gen.OutputIdeal
public import proofs.«01_k».proof.Proof.Gen.OutputIdeal.Frame
public import proofs.«01_k».proof.Proof.Gen.OutputIdeal.Value
public import proofs.«01_k».proof.Proof.Gen.OutputReferenceIdeal
public import proofs.«01_k».proof.Proof.Gen.OutputReferenceIdeal.Run
public import proofs.«01_k».proof.Proof.Value
public import proofs.«01_k».proof.Proof.CombineValue
public import proofs.«01_k».proof.Proof.ProjectionValue
public import proofs.«01_k».proof.Proof.OutputValue

@[expose] public section

noncomputable section

namespace Cert.Proof

open Idealize.ShloMosaic Idealize.ShloMosaic.TcCoe Idealize.SL.Sem

/-- The reference keeps its arguments; it has no counter that could end elsewhere than at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same of the memories that satisfy the precondition. -/
theorem frame_reference_in_range : Cert.quiescent_ReferenceIdeal_pre_experts_in_range := fun m ρ _ =>
  (θ_run Cert.ReferenceIdeal.defs _ _).mono (fun r h => ⟨fun c => (h c).2, sem_eq_zero_of_no_sems (by decide) r.2⟩) (Cert.ReferenceIdeal.Value.run (F := Ideal) m ρ)

/-- From memories that agree on the arguments the two programs end with one result array. -/
theorem algebraic : Cert.algebraic_KernelIdeal_ReferenceIdeal := by
  intro m ρ m' ρ' hpre hagree
  have hr : TablesInRange m := inRange_of_pre _ _ _ _ _ _ _ (hpre 0)
  refine ⟨fun c => result m ρ hr c, ?_, ?_⟩
  · exact (θ_run Cert.KernelIdeal.defs _ _).mono (fun _ h c => h.1 c) (run_result m ρ hr)
  · refine (θ_run Cert.ReferenceIdeal.defs _ _).mono (fun r h c => ⟨?_, (h c).2⟩) (Cert.ReferenceIdeal.Value.run (F := Ideal) m' ρ')
    refine (h c).1.trans (Eq.trans ?_ (result_eq m ρ hr c).symm)
    refine ((Cert.ReferenceIdeal.Value.val3_main_v110 (F := Ideal) (StableHlo.launchContents m' c)).symm.trans (Ref.value_eq _)).trans ?_
    obtain ⟨e0, e1, e2, e3, e4, e5, e6⟩ := hagree c
    exact congr (congr (congr (congr (congr (congr (congrArg Ref.array e0) e1) e2) e3) e4) e5) e6

/-- The combination runs and keeps its arguments, as printed and read at the extended reals. -/
theorem frame_combine : Cert.quiescent_Combine := fun m ρ _ => Cert.Combine.Gen.frame m ρ

theorem frame_combine_ideal : Cert.quiescent_CombineIdeal := fun m ρ _ => Cert.CombineIdeal.Gen.frame m ρ

theorem frame_combine_reference : Cert.quiescent_CombineReferenceIdeal := fun m ρ _ =>
  (θ_run Cert.CombineReferenceIdeal.defs _ _).mono (fun r h => ⟨fun c => (h c).2.2, sem_eq_zero_of_no_sems (by decide) r.2⟩)
    (Cert.CombineReferenceIdeal.Value.run (F := Ideal) m ρ)

/-- From memories that agree on the arguments the two combinations end with the same two arrays. -/
theorem algebraic_combine : Cert.algebraic_CombineIdeal_CombineReferenceIdeal := by
  intro m ρ m' ρ' _ hagree
  refine ⟨fun c => Combine.array m c, fun c => Combine.rounded m c, ?_, ?_⟩
  · exact (θ_run Cert.CombineIdeal.defs _ _).mono (fun _ h c => ⟨(h c).1.trans (Combine.final5 m c), (h c).2.1.trans (Combine.final6 m c), (h c).2.2⟩)
      (Cert.CombineIdeal.Value.run_blocks (F := Ideal) m ρ)
  · have e : ∀ c : Dev Cert.CombineReferenceIdeal.nD, Combine.Ref.array (m' ((c : Thread Cert.CombineReferenceIdeal.nD Cert.CombineReferenceIdeal.τ).loc Cert.CombineReferenceIdeal.main_arg0)) (m' ((c : Thread Cert.CombineReferenceIdeal.nD Cert.CombineReferenceIdeal.τ).loc Cert.CombineReferenceIdeal.main_arg1))
        (m' ((c : Thread Cert.CombineReferenceIdeal.nD Cert.CombineReferenceIdeal.τ).loc Cert.CombineReferenceIdeal.main_arg2)) (m' ((c : Thread Cert.CombineReferenceIdeal.nD Cert.CombineReferenceIdeal.τ).loc Cert.CombineReferenceIdeal.main_arg3))
        (m' ((c : Thread Cert.CombineReferenceIdeal.nD Cert.CombineReferenceIdeal.τ).loc Cert.CombineReferenceIdeal.main_arg4)) = Combine.array m c := fun c => by
      obtain ⟨e0, e1, e2, e3, e4⟩ := hagree c
      exact congr (congr (congr (congr (congrArg Combine.Ref.array e0) e1) e2) e3) e4
    refine (θ_run Cert.CombineReferenceIdeal.defs _ _).mono (fun r h c => ⟨?_, ?_, (h c).2.2⟩) (Cert.CombineReferenceIdeal.Value.run (F := Ideal) m' ρ')
    · exact ((h c).1.trans (Combine.Ref.first_eq m' c)).trans (e c)
    · exact ((h c).2.1.trans (Combine.Ref.second_eq m' c)).trans
        (congrArg (fun a : FVec Ideal Cert.CombineReferenceIdeal.S32768x1024 .f32 => truncf .bf16 a Cert.CombineReferenceIdeal.Gen.facts.bitsLt_bf16_f32) (e c))

/-- The input projection runs and keeps its arguments, as printed and read at the extended reals. -/
theorem frame_projection : Cert.quiescent_Projection := fun m ρ _ => Cert.Projection.Gen.frame m ρ

theorem frame_projection_ideal : Cert.quiescent_ProjectionIdeal := fun m ρ _ => Cert.ProjectionIdeal.Gen.frame m ρ

theorem frame_projection_reference : Cert.quiescent_ProjectionReferenceIdeal := fun m ρ _ =>
  (θ_run Cert.ProjectionReferenceIdeal.defs _ _).mono (fun r h => ⟨fun c => (h c).2.2.2.2.2.2.2.2, sem_eq_zero_of_no_sems (by decide) r.2⟩)
    (Cert.ProjectionReferenceIdeal.Value.run (F := Ideal) m ρ)

/-- From memories that agree on the arguments the two projections end with the same eight arrays. -/
theorem algebraic_projection : Cert.algebraic_ProjectionIdeal_ProjectionReferenceIdeal := by
  intro m ρ m' ρ' _ hagree
  refine ⟨fun c => Projection.fourierArray (Projection.projected m c), fun c => Projection.keysArray (Projection.projected m c), fun c => Projection.valuesArray (Projection.projected m c), fun c => Projection.outerArray (Projection.projected m c), fun c => Projection.pairsArray (Projection.projected m c), fun c => Projection.firstArray (Projection.projected m c), fun c => Projection.secondArray (Projection.projected m c), fun c => Projection.gatesArray (Projection.projected m c), ?_, ?_⟩
  · exact (θ_run Cert.ProjectionIdeal.defs _ _).mono (fun _ h c => ⟨(h c).1.trans (Projection.final5 m c), (h c).2.1.trans (Projection.final6 m c), (h c).2.2.1.trans (Projection.final7 m c), (h c).2.2.2.1.trans (Projection.final8 m c), (h c).2.2.2.2.1.trans (Projection.final9 m c), (h c).2.2.2.2.2.1.trans (Projection.final10 m c), (h c).2.2.2.2.2.2.1.trans (Projection.final11 m c), (h c).2.2.2.2.2.2.2.1.trans (Projection.final12 m c), (h c).2.2.2.2.2.2.2.2⟩)
      (Cert.ProjectionIdeal.Value.run_blocks (F := Ideal) m ρ)
  · have e : ∀ c : Dev Cert.ProjectionReferenceIdeal.nD, Projection.Ref.proj (m' ((c : Thread Cert.ProjectionReferenceIdeal.nD Cert.ProjectionReferenceIdeal.τ).loc Cert.ProjectionReferenceIdeal.main_arg0))
        (m' ((c : Thread Cert.ProjectionReferenceIdeal.nD Cert.ProjectionReferenceIdeal.τ).loc Cert.ProjectionReferenceIdeal.main_arg1)) (m' ((c : Thread Cert.ProjectionReferenceIdeal.nD Cert.ProjectionReferenceIdeal.τ).loc Cert.ProjectionReferenceIdeal.main_arg2)) = Projection.projected m c := fun c => by
      obtain ⟨e0, e1, e2⟩ := hagree c
      exact congr (congr (congrArg Projection.Ref.proj e0) e1) e2
    refine (θ_run Cert.ProjectionReferenceIdeal.defs _ _).mono (fun r h c => ⟨?_, ?_, ?_, ?_, ?_, ?_, ?_, ?_, (h c).2.2.2.2.2.2.2.2⟩) (Cert.ProjectionReferenceIdeal.Value.run (F := Ideal) m' ρ')
    · exact (h c).1.trans (congrArg Projection.fourierArray (e c))
    · exact (h c).2.1.trans (congrArg Projection.keysArray (e c))
    · exact (h c).2.2.1.trans (congrArg Projection.valuesArray (e c))
    · exact (h c).2.2.2.1.trans (congrArg Projection.outerArray (e c))
    · exact (h c).2.2.2.2.1.trans (congrArg Projection.pairsArray (e c))
    · exact (h c).2.2.2.2.2.1.trans (congrArg Projection.firstArray (e c))
    · exact (h c).2.2.2.2.2.2.1.trans (congrArg Projection.secondArray (e c))
    · exact (h c).2.2.2.2.2.2.2.1.trans (congrArg Projection.gatesArray (e c))

/-- The output projection runs and keeps its arguments, as printed and read at the extended reals. -/
theorem frame_output : Cert.quiescent_Output := fun m ρ _ => Cert.Output.Gen.frame m ρ

theorem frame_output_ideal : Cert.quiescent_OutputIdeal := fun m ρ _ => Cert.OutputIdeal.Gen.frame m ρ

theorem frame_output_reference : Cert.quiescent_OutputReferenceIdeal := fun m ρ _ =>
  (θ_run Cert.OutputReferenceIdeal.defs _ _).mono (fun r h => ⟨fun c => (h c).2.2, sem_eq_zero_of_no_sems (by decide) r.2⟩)
    (Cert.OutputReferenceIdeal.Value.run (F := Ideal) m ρ)

/-- The one number read exactly, a head's share of its sum, rounds to the number printed. -/
theorem preserves_output : Cert.preserves_Output_OutputIdeal :=
  IdealRules.named_const.statement Cert.OutputIdeal.κ "part" .f32 0x3C2AAAAB#32 ((1 / 96 : ℝ) : EReal) rfl

/-- From memories that agree on the arguments the two output projections end with the same two arrays. -/
theorem algebraic_output : Cert.algebraic_OutputIdeal_OutputReferenceIdeal := by
  intro m ρ m' ρ' _ hagree
  refine ⟨fun c => Output.array m c, fun c => Output.rounded m c, ?_, ?_⟩
  · exact (θ_run Cert.OutputIdeal.defs _ _).mono (fun _ h c => ⟨(h c).1.trans (Output.final16 m c), (h c).2.1.trans (Output.final17 m c), (h c).2.2.2⟩)
      (Cert.OutputIdeal.Value.run_blocks (F := Ideal) m ρ)
  · have e : ∀ c : Dev Cert.OutputReferenceIdeal.nD, Output.Ref.ofArgs m' c = Output.array m c := fun c => by
      obtain ⟨e0, e1, e2, e3, e4, e5, e6, e7, e8, e9, e10, e11, e12, _, _⟩ := hagree c
      unfold Output.Ref.ofArgs Output.array
      exact congr (congr (congr (congr (congr (congr (congr (congr (congr (congr (congr (congr (congrArg Output.Ref.array e0) e1) e2) e3) e4) e5) e6) e7) e8) e9) e10) e11) e12
    refine (θ_run Cert.OutputReferenceIdeal.defs _ _).mono (fun r h c => ⟨?_, ?_, (h c).2.2⟩) (Cert.OutputReferenceIdeal.Value.run (F := Ideal) m' ρ')
    · exact ((h c).1.trans (Output.Ref.first_eq m' c)).trans (e c)
    · exact ((h c).2.1.trans (Output.Ref.second_eq m' c)).trans
        (congrArg (fun a : FVec Ideal Cert.OutputReferenceIdeal.S32768x1024 .f32 => truncf .bf16 a Cert.OutputReferenceIdeal.Gen.facts.bitsLt_bf16_f32) (e c))

theorem claim : Cert.Claim := ⟨Cert.Kernel.Gen.facts, Cert.KernelIdeal.Gen.facts, Cert.ReferenceIdeal.Gen.facts,
  Cert.Combine.Gen.facts, Cert.CombineIdeal.Gen.facts, Cert.CombineReferenceIdeal.Gen.facts,
  Cert.Projection.Gen.facts, Cert.ProjectionIdeal.Gen.facts, Cert.ProjectionReferenceIdeal.Gen.facts,
  Cert.Output.Gen.facts, Cert.OutputIdeal.Gen.facts, Cert.OutputReferenceIdeal.Gen.facts, Cert.Pre_experts_in_range.Gen.facts,
  frame_kernel, frame_ideal, frame_reference, frame_reference_in_range, frame_combine, frame_combine_ideal, frame_combine_reference,
  frame_projection, frame_projection_ideal, frame_projection_reference,
  frame_output, frame_output_ideal, frame_output_reference, trivial, algebraic, trivial, algebraic_combine, trivial, algebraic_projection,
  preserves_output, algebraic_output⟩

end Cert.Proof

end
